-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2)
      ∧ r.2.mem ((c.tc : Thread Cert.QkvReferenceIdeal.nD Cert.QkvReferenceIdeal.τ).loc Cert.QkvReferenceIdeal.main_arg3) = m ((c.tc : Thread Cert.QkvReferenceIdeal.nD Cert.QkvReferenceIdeal.τ).loc Cert.QkvReferenceIdeal.main_arg3)
      ∧ r.2.mem ((c.tc : Thread Cert.QkvReferenceIdeal.nD Cert.QkvReferenceIdeal.τ).loc Cert.QkvReferenceIdeal.main_arg4) = m ((c.tc : Thread Cert.QkvReferenceIdeal.nD Cert.QkvReferenceIdeal.τ).loc Cert.QkvReferenceIdeal.main_arg4)
      ∧ r.2.mem ((c.tc : Thread Cert.QkvReferenceIdeal.nD Cert.QkvReferenceIdeal.τ).loc Cert.QkvReferenceIdeal.main_arg5) = m ((c.tc : Thread Cert.QkvReferenceIdeal.nD Cert.QkvReferenceIdeal.τ).loc Cert.QkvReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Qkv_QkvIdeal : Prop :=
  True

def algebraic_QkvIdeal_QkvReferenceIdeal [hQkvIdeal : Cert.QkvIdeal.Facts] [hQkvReferenceIdeal : Cert.QkvReferenceIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvIdeal m →
    (∀ c : Dev Cert.QkvIdeal.nD,
      m' ((c.tc : Thread Cert.QkvReferenceIdeal.nD Cert.QkvReferenceIdeal.τ).loc Cert.QkvReferenceIdeal.main_arg0) = m ((c.tc : Thread Cert.QkvIdeal.nD Cert.QkvIdeal.τ).loc Cert.QkvIdeal.main_arg0)
      ∧ m' ((c.tc : Thread Cert.QkvReferenceIdeal.nD Cert.QkvReferenceIdeal.τ).loc Cert.QkvReferenceIdeal.main_arg1) = m ((c.tc : Thread Cert.QkvIdeal.nD Cert.QkvIdeal.τ).loc Cert.QkvIdeal.main_arg1)
      ∧ m' ((c.tc : Thread Cert.QkvReferenceIdeal.nD Cert.QkvReferenceIdeal.τ).loc Cert.QkvReferenceIdeal.main_arg2) = m ((c.tc : Thread Cert.QkvIdeal.nD Cert.QkvIdeal.τ).loc Cert.QkvIdeal.main_arg2)
      ∧ m' ((c.tc : Thread Cert.QkvReferenceIdeal.nD Cert.QkvReferenceIdeal.τ).loc Cert.QkvReferenceIdeal.main_arg3) = m ((c.tc : Thread Cert.QkvIdeal.nD Cert.QkvIdeal.τ).loc Cert.QkvIdeal.main_arg3)
      ∧ m' ((c.tc : Thread Cert.QkvReferenceIdeal.nD Cert.QkvReferenceIdeal.τ).loc Cert.QkvReferenceIdeal.main_arg4) = m ((c.tc : Thread Cert.QkvIdeal.nD Cert.QkvIdeal.τ).loc Cert.QkvIdeal.main_arg4)
      ∧ m' ((c.tc : Thread Cert.QkvReferenceIdeal.nD Cert.QkvReferenceIdeal.τ).loc Cert.QkvReferenceIdeal.main_arg5) = m ((c.tc : Thread Cert.QkvIdeal.nD Cert.QkvIdeal.τ).loc Cert.QkvIdeal.main_arg5)) →
    ∃ (v0 : (c : Dev Cert.QkvIdeal.nD) → Buf (Elt Ideal) ((c.tc : Thread Cert.QkvIdeal.nD Cert.QkvIdeal.τ).loc Cert.QkvIdeal.main_v1_0)) (v1 : (c : Dev Cert.QkvIdeal.nD) → Buf (Elt Ideal) ((c.tc : Thread Cert.QkvIdeal.nD Cert.QkvIdeal.τ).loc Cert.QkvIdeal.main_v1_1)) (v2 : (c : Dev Cert.QkvIdeal.nD) → Buf (Elt Ideal) ((c.tc : Thread Cert.QkvIdeal.nD Cert.QkvIdeal.τ).loc Cert.QkvIdeal.main_v1_2)) (v3 : (c : Dev Cert.QkvIdeal.nD) → Buf (Elt Ideal) ((c.tc : Thread Cert.QkvIdeal.nD Cert.QkvIdeal.τ).loc Cert.QkvIdeal.main_v1_3)) (v4 : (c : Dev Cert.QkvIdeal.nD) → Buf (Elt Ideal) ((c.tc : Thread Cert.QkvIdeal.nD Cert.QkvIdeal.τ).loc Cert.QkvIdeal.main_v1_4)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v1_0) = v0 c
          ∧ r.2.mem ((c.tc : Thread Cert.QkvIdeal.nD Cert.QkvIdeal.τ).loc Cert.QkvIdeal.main_v1_1) = v1 c
          ∧ r.2.mem ((c.tc : Thread Cert.QkvIdeal.nD Cert.QkvIdeal.τ).loc Cert.QkvIdeal.main_v1_2) = v2 c
          ∧ r.2.mem ((c.tc : Thread Cert.QkvIdeal.nD Cert.QkvIdeal.τ).loc Cert.QkvIdeal.main_v1_3) = v3 c
          ∧ r.2.mem ((c.tc : Thread Cert.QkvIdeal.nD Cert.QkvIdeal.τ).loc Cert.QkvIdeal.main_v1_4) = v4 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v0_0) = v0 c
          ∧ r.2.mem ((c.tc : Thread Cert.QkvReferenceIdeal.nD Cert.QkvReferenceIdeal.τ).loc Cert.QkvReferenceIdeal.main_v0_1) = v1 c
          ∧ r.2.mem ((c.tc : Thread Cert.QkvReferenceIdeal.nD Cert.QkvReferenceIdeal.τ).loc Cert.QkvReferenceIdeal.main_v0_2) = v2 c
          ∧ r.2.mem ((c.tc : Thread Cert.QkvReferenceIdeal.nD Cert.QkvReferenceIdeal.τ).loc Cert.QkvReferenceIdeal.main_v0_3) = v3 c
          ∧ r.2.mem ((c.tc : Thread Cert.QkvReferenceIdeal.nD Cert.QkvReferenceIdeal.τ).loc Cert.QkvReferenceIdeal.main_v0_4) = v4 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1)
          ∧ r.2.mem ((c.tc : Thread Cert.QkvReferenceIdeal.nD Cert.QkvReferenceIdeal.τ).loc Cert.QkvReferenceIdeal.main_arg2) = m' ((c.tc : Thread Cert.QkvReferenceIdeal.nD Cert.QkvReferenceIdeal.τ).loc Cert.QkvReferenceIdeal.main_arg2)
          ∧ r.2.mem ((c.tc : Thread Cert.QkvReferenceIdeal.nD Cert.QkvReferenceIdeal.τ).loc Cert.QkvReferenceIdeal.main_arg3) = m' ((c.tc : Thread Cert.QkvReferenceIdeal.nD Cert.QkvReferenceIdeal.τ).loc Cert.QkvReferenceIdeal.main_arg3)
          ∧ r.2.mem ((c.tc : Thread Cert.QkvReferenceIdeal.nD Cert.QkvReferenceIdeal.τ).loc Cert.QkvReferenceIdeal.main_arg4) = m' ((c.tc : Thread Cert.QkvReferenceIdeal.nD Cert.QkvReferenceIdeal.τ).loc Cert.QkvReferenceIdeal.main_arg4)
          ∧ r.2.mem ((c.tc : Thread Cert.QkvReferenceIdeal.nD Cert.QkvReferenceIdeal.τ).loc Cert.QkvReferenceIdeal.main_arg5) = m' ((c.tc : Thread Cert.QkvReferenceIdeal.nD Cert.QkvReferenceIdeal.τ).loc Cert.QkvReferenceIdeal.main_arg5))

def Claim : Prop :=
  ∃ (hKernel : Cert.Kernel.Facts) (hKernelIdeal : Cert.KernelIdeal.Facts) (hReferenceIdeal : Cert.ReferenceIdeal.Facts) (hQkv : Cert.Qkv.Facts) (hQkvIdeal : Cert.QkvIdeal.Facts) (hQkvReferenceIdeal : Cert.QkvReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Qkv (hQkv := hQkv)
    ∧ quiescent_QkvIdeal (hQkvIdeal := hQkvIdeal)
    ∧ quiescent_QkvReferenceIdeal (hQkvReferenceIdeal := hQkvReferenceIdeal)
    ∧ preserves_Kernel_KernelIdeal
    ∧ algebraic_KernelIdeal_ReferenceIdeal (hKernelIdeal := hKernelIdeal) (hReferenceIdeal := hReferenceIdeal)
    ∧ preserves_Qkv_QkvIdeal
    ∧ algebraic_QkvIdeal_QkvReferenceIdeal (hQkvIdeal := hQkvIdeal) (hQkvReferenceIdeal := hQkvReferenceIdeal)
-- ==== Kernel.lean ====
abbrev S6144x12288 : Shape := ⟨2, ![6144, 12288]⟩
abbrev S6144x1536 : Shape := ⟨2, ![6144, 1536]⟩
abbrev S6144x1 : Shape := ⟨2, ![6144, 1]⟩
abbrev S1536x12288 : Shape := ⟨2, ![1536, 12288]⟩
abbrev S1x12288 : Shape := ⟨2, ![1, 12288]⟩
abbrev S6144x128 : Shape := ⟨2, ![6144, 128]⟩
abbrev S256x4096 : Shape := ⟨2, ![256, 4096]⟩
abbrev S256x1536 : Shape := ⟨2, ![256, 1536]⟩
abbrev S256x128 : Shape := ⟨2, ![256, 128]⟩
abbrev S1x4096 : Shape := ⟨2, ![1, 4096]⟩
abbrev S1536x4096 : Shape := ⟨2, ![1536, 4096]⟩
abbrev S2x256x4096 : Shape := ⟨3, ![2, 256, 4096]⟩
abbrev S1536x512 : Shape := ⟨2, ![1536, 512]⟩
abbrev S256x512 : Shape := ⟨2, ![256, 512]⟩
abbrev S1x128 : Shape := ⟨2, ![1, 128]⟩
abbrev S1x256x128 : Shape := ⟨3, ![1, 256, 128]⟩

abbrev nBuf : Space → Nat
  | .hbm => 7
  | .vmem => 14
  | .smem => 0
  | _ => 0

abbrev bufTy : (tb : Table) → Fin (tcTables nBuf tb) → BufTy
  | .hbm, ⟨0, _⟩ => ⟨S6144x12288, .bf16⟩
  | .hbm, ⟨1, _⟩ => ⟨S6144x1536, .i8⟩
  | .hbm, ⟨2, _⟩ => ⟨S6144x1, .f32⟩
  | .hbm, ⟨3, _⟩ => ⟨S1536x12288, .i8⟩
  | .hbm, ⟨4, _⟩ => ⟨S1x12288, .f32⟩
  | .hbm, ⟨5, _⟩ => ⟨S6144x128, .f32⟩
  | .hbm, ⟨6, _⟩ => ⟨S6144x12288, .bf16⟩
  | .local _ .vmem, ⟨0, _⟩ => ⟨S256x4096, .bf16⟩
  | .local _ .vmem, ⟨1, _⟩ => ⟨S256x4096, .bf16⟩
  | .local _ .vmem, ⟨2, _⟩ => ⟨S256x1536, .i8⟩
  | .local _ .vmem, ⟨3, _⟩ => ⟨S256x1536, .i8⟩
  | .local _ .vmem, ⟨4, _⟩ => ⟨S256x128, .f32⟩
  | .local _ .vmem, ⟨5, _⟩ => ⟨S256x128, .f32⟩
  | .local _ .vmem, ⟨6, _⟩ => ⟨S1x4096, .f32⟩
  | .local _ .vmem, ⟨7, _⟩ => ⟨S1x4096, .f32⟩
  | .local _ .vmem, ⟨8, _⟩ => ⟨S1536x4096, .i8⟩
  | .local _ .vmem, ⟨9, _⟩ => ⟨S1536x4096, .i8⟩
  | .local _ .vmem, ⟨10, _⟩ => ⟨S256x4096, .bf16⟩
  | .local _ .vmem, ⟨11, _⟩ => ⟨S256x4096, .bf16⟩
  | .local _ .vmem, ⟨12, _⟩ => ⟨S1536x4096, .bf16⟩
  | .local _ .vmem, ⟨13, _⟩ => ⟨S2x256x4096, .f32⟩
  | _, _ => ⟨S6144x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![73], ![false]⟩

def k0_cond1 (i : grid0.Coords) : BitVec 1 :=
  let arg0 : BitVec 32 := BitVec.ofNat 32 (i 0).val
  let c24_i32 : BitVec 32 := 24#32
  let v1 : BitVec 32 := Scalar.remsi arg0 c24_i32
  let c0_i32 : BitVec 32 := 0#32
  let v2 : BitVec 1 := Scalar.cmpi .eq v1 c0_i32
  let c72_i32 : BitVec 32 := 72#32
  let v3 : BitVec 1 := Scalar.cmpi .slt arg0 c72_i32
  let v4 : BitVec 1 := Scalar.andi v2 v3
  let v5 : BitVec 32 := Scalar.extui v4
  let c0_i32_0 : BitVec 32 := 0#32
  let v6 : BitVec 1 := Scalar.cmpi .ne v5 c0_i32_0
  v6

@[reducible] def k0_t1_loop : Scf.Loop 32 :=
  let c0_i32_6 : BitVec 32 := 0#32
  let c6_i32 : BitVec 32 := 6#32
  let v15 : BitVec 32 := Scalar.addi c0_i32_6 c6_i32
  let c1_i32 : BitVec 32 := 1#32
  ⟨c0_i32_6, v15, c1_i32⟩
def k0_off1 (k0_t1 : Fin k0_t1_loop.trips) : Fin 2 → Nat :=
  let c0_i32_8 : BitVec 32 := 0#32
  let c0_i32_6 : BitVec 32 := 0#32
  let c1_i32 : BitVec 32 := 1#32
  let arg9 : BitVec 32 := Scf.iv c0_i32_6 c1_i32 k0_t1
  let c256_i32 : BitVec 32 := 256#32
  let v16 : BitVec 32 := Scalar.muli arg9 c256_i32
  let v17 : BitVec 32 := Scalar.addi c0_i32_8 v16
  let v18 : Index := Scalar.indexCast v17
  let c0 : Index := 0#32
  ![v18.toNat, 0]
def k0_cond2 (i : grid0.Coords) : BitVec 1 :=
  let arg0 : BitVec 32 := BitVec.ofNat 32 (i 0).val
  let c0_i32_1 : BitVec 32 := 0#32
  let v7 : BitVec 1 := Scalar.cmpi .eq arg0 c0_i32_1
  let v8 : BitVec 32 := Scalar.extui v7
  let c0_i32_2 : BitVec 32 := 0#32
  let v9 : BitVec 1 := Scalar.cmpi .ne v8 c0_i32_2
  v9

def k0_off2 (i : grid0.Coords) : Fin 3 → Nat :=
  let arg0 : BitVec 32 := BitVec.ofNat 32 (i 0).val
  let c2_i32 : BitVec 32 := 2#32
  let v0 : BitVec 32 := Scalar.remsi arg0 c2_i32
  let v33 : Index := Scalar.indexCast v0
  let c0_18 : Index := 0#32
  let c0_19 : Index := 0#32
  ![v33.toNat, 0, 0]
def k0_off3 (i : grid0.Coords) : Fin 3 → Nat :=
  let arg0 : BitVec 32 := BitVec.ofNat 32 (i 0).val
  let c2_i32 : BitVec 32 := 2#32
  let v0 : BitVec 32 := Scalar.remsi arg0 c2_i32
  let v49 : Index := Scalar.indexCast v0
  let c0_26 : Index := 0#32
  let c128_27 : Index := 128#32
  ![v49.toNat, 0, 128]
def k0_off4 (i : grid0.Coords) : Fin 3 → Nat :=
  let arg0 : BitVec 32 := BitVec.ofNat 32 (i 0).val
  let c2_i32 : BitVec 32 := 2#32
  let v0 : BitVec 32 := Scalar.remsi arg0 c2_i32
  let v65 : Index := Scalar.indexCast v0
  let c0_34 : Index := 0#32
  let c256_35 : Index := 256#32
  ![v65.toNat, 0, 256]
def k0_off5 (i : grid0.Coords) : Fin 3 → Nat :=
  let arg0 : BitVec 32 := BitVec.ofNat 32 (i 0).val
  let c2_i32 : BitVec 32 := 2#32
  let v0 : BitVec 32 := Scalar.remsi arg0 c2_i32
  let v81 : Index := Scalar.indexCast v0
  let c0_42 : Index := 0#32
  let c384_43 : Index := 384#32
  ![v81.toNat, 0, 384]
def k0_off6 (i : grid0.Coords) : Fin 3 → Nat :=
  let arg0 : BitVec 32 := BitVec.ofNat 32 (i 0).val
  let c2_i32 : BitVec 32 := 2#32
  let v0 : BitVec 32 := Scalar.remsi arg0 c2_i32
  let v99 : Index := Scalar.indexCast v0
  let c0_53 : Index := 0#32
  let c512_54 : Index := 512#32
  ![v99.toNat, 0, 512]
def k0_off7 (i : grid0.Coords) : Fin 3 → Nat :=
  let arg0 : BitVec 32 := BitVec.ofNat 32 (i 0).val
  let c2_i32 : BitVec 32 := 2#32
  let v0 : BitVec 32 := Scalar.remsi arg0 c2_i32
  let v115 : Index := Scalar.indexCast v0
  let c0_61 : Index := 0#32
  let c640_62 : Index := 640#32
  ![v115.toNat, 0, 640]
def k0_off8 (i : grid0.Coords) : Fin 3 → Nat :=
  let arg0 : BitVec 32 := BitVec.ofNat 32 (i 0).val
  let c2_i32 : BitVec 32 := 2#32
  let v0 : BitVec 32 := Scalar.remsi arg0 c2_i32
  let v131 : Index := Scalar.indexCast v0
  let c0_69 : Index := 0#32
  let c768_70 : Index := 768#32
  ![v131.toNat, 0, 768]
def k0_off9 (i : grid0.Coords) : Fin 3 → Nat :=
  let arg0 : BitVec 32 := BitVec.ofNat 32 (i 0).val
  let c2_i32 : BitVec 32 := 2#32
  let v0 : BitVec 32 := Scalar.remsi arg0 c2_i32
  let v147 : Index := Scalar.indexCast v0
  let c0_77 : Index := 0#32
  let c896_78 : Index := 896#32
  ![v147.toNat, 0, 896]
def k0_off10 (i : grid0.Coords) : Fin 3 → Nat :=
  let arg0 : BitVec 32 := BitVec.ofNat 32 (i 0).val
  let c2_i32 : BitVec 32 := 2#32
  let v0 : BitVec 32 := Scalar.remsi arg0 c2_i32
  let v165 : Index := Scalar.indexCast v0
  let c0_88 : Index := 0#32
  let c1024_89 : Index := 1024#32
  ![v165.toNat, 0, 1024]
def k0_off11 (i : grid0.Coords) : Fin 3 → Nat :=
  let arg0 : BitVec 32 := BitVec.ofNat 32 (i 0).val
  let c2_i32 : BitVec 32 := 2#32
  let v0 : BitVec 32 := Scalar.remsi arg0 c2_i32
  let v181 : Index := Scalar.indexCast v0
  let c0_96 : Index := 0#32
  let c1152_97 : Index := 1152#32
  ![v181.toNat, 0, 1152]
def k0_off12 (i : grid0.Coords) : Fin 3 → Nat :=
  let arg0 : BitVec 32 := BitVec.ofNat 32 (i 0).val
  let c2_i32 : BitVec 32 := 2#32
  let v0 : BitVec 32 := Scalar.remsi arg0 c2_i32
  let v197 : Index := Scalar.indexCast v0
  let c0_104 : Index := 0#32
  let c1280_105 : Index := 1280#32
  ![v197.toNat, 0, 1280]
def k0_off13 (i : grid0.Coords) : Fin 3 → Nat :=
  let arg0 : BitVec 32 := BitVec.ofNat 32 (i 0).val
  let c2_i32 : BitVec 32 := 2#32
  let v0 : BitVec 32 := Scalar.remsi arg0 c2_i32
  let v213 : Index := Scalar.indexCast v0
  let c0_112 : Index := 0#32
  let c1408_113 : Index := 1408#32
  ![v213.toNat, 0, 1408]
def k0_off14 (i : grid0.Coords) : Fin 3 → Nat :=
  let arg0 : BitVec 32 := BitVec.ofNat 32 (i 0).val
  let c2_i32 : BitVec 32 := 2#32
  let v0 : BitVec 32 := Scalar.remsi arg0 c2_i32
  let v231 : Index := Scalar.indexCast v0
  let c0_123 : Index := 0#32
  let c1536_124 : Index := 1536#32
  ![v231.toNat, 0, 1536]
def k0_off15 (i : grid0.Coords) : Fin 3 → Nat :=
  let arg0 : BitVec 32 := BitVec.ofNat 32 (i 0).val
  let c2_i32 : BitVec 32 := 2#32
  let v0 : BitVec 32 := Scalar.remsi arg0 c2_i32
  let v247 : Index := Scalar.indexCast v0
  let c0_131 : Index := 0#32
  let c1664_132 : Index := 1664#32
  ![v247.toNat, 0, 1664]
def k0_off16 (i : grid0.Coords) : Fin 3 → Nat :=
  let arg0 : BitVec 32 := BitVec.ofNat 32 (i 0).val
  let c2_i32 : BitVec 32 := 2#32
  let v0 : BitVec 32 := Scalar.remsi arg0 c2_i32
  let v263 : Index := Scalar.indexCast v0
  let c0_139 : Index := 0#32
  let c1792_140 : Index := 1792#32
  ![v263.toNat, 0, 1792]
def k0_off17 (i : grid0.Coords) : Fin 3 → Nat :=
  let arg0 : BitVec 32 := BitVec.ofNat 32 (i 0).val
  let c2_i32 : BitVec 32 := 2#32
  let v0 : BitVec 32 := Scalar.remsi arg0 c2_i32
  let v279 : Index := Scalar.indexCast v0
  let c0_147 : Index := 0#32
  let c1920_148 : Index := 1920#32
  ![v279.toNat, 0, 1920]
def k0_off18 (i : grid0.Coords) : Fin 3 → Nat :=
  let arg0 : BitVec 32 := BitVec.ofNat 32 (i 0).val
  let c2_i32 : BitVec 32 := 2#32
  let v0 : BitVec 32 := Scalar.remsi arg0 c2_i32
  let v297 : Index := Scalar.indexCast v0
  let c0_158 : Index := 0#32
  let c2048_159 : Index := 2048#32
  ![v297.toNat, 0, 2048]
def k0_off19 (i : grid0.Coords) : Fin 3 → Nat :=
  let arg0 : BitVec 32 := BitVec.ofNat 32 (i 0).val
  let c2_i32 : BitVec 32 := 2#32
  let v0 : BitVec 32 := Scalar.remsi arg0 c2_i32
  let v313 : Index := Scalar.indexCast v0
  let c0_166 : Index := 0#32
  let c2176_167 : Index := 2176#32
  ![v313.toNat, 0, 2176]
def k0_off20 (i : grid0.Coords) : Fin 3 → Nat :=
  let arg0 : BitVec 32 := BitVec.ofNat 32 (i 0).val
  let c2_i32 : BitVec 32 := 2#32
  let v0 : BitVec 32 := Scalar.remsi arg0 c2_i32
  let v329 : Index := Scalar.indexCast v0
  let c0_174 : Index := 0#32
  let c2304_175 : Index := 2304#32
  ![v329.toNat, 0, 2304]
def k0_off21 (i : grid0.Coords) : Fin 3 → Nat :=
  let arg0 : BitVec 32 := BitVec.ofNat 32 (i 0).val
  let c2_i32 : BitVec 32 := 2#32
  let v0 : BitVec 32 := Scalar.remsi arg0 c2_i32
  let v345 : Index := Scalar.indexCast v0
  let c0_182 : Index := 0#32
  let c2432_183 : Index := 2432#32
  ![v345.toNat, 0, 2432]
def k0_off22 (i : grid0.Coords) : Fin 3 → Nat :=
  let arg0 : BitVec 32 := BitVec.ofNat 32 (i 0).val
  let c2_i32 : BitVec 32 := 2#32
  let v0 : BitVec 32 := Scalar.remsi arg0 c2_i32
  let v363 : Index := Scalar.indexCast v0
  let c0_193 : Index := 0#32
  let c2560_194 : Index := 2560#32
  ![v363.toNat, 0, 2560]
def k0_off23 (i : grid0.Coords) : Fin 3 → Nat :=
  let arg0 : BitVec 32 := BitVec.ofNat 32 (i 0).val
  let c2_i32 : BitVec 32 := 2#32
  let v0 : BitVec 32 := Scalar.remsi arg0 c2_i32
  let v379 : Index := Scalar.indexCast v0
  let c0_201 : Index := 0#32
  let c2688_202 : Index := 2688#32
  ![v379.toNat, 0, 2688]
def k0_off24 (i : grid0.Coords) : Fin 3 → Nat :=
  let arg0 : BitVec 32 := BitVec.ofNat 32 (i 0).val
  let c2_i32 : BitVec 32 := 2#32
  let v0 : BitVec 32 := Scalar.remsi arg0 c2_i32
  let v395 : Index := Scalar.indexCast v0
  let c0_209 : Index := 0#32
  let c2816_210 : Index := 2816#32
  ![v395.toNat, 0, 2816]
def k0_off25 (i : grid0.Coords) : Fin 3 → Nat :=
  let arg0 : BitVec 32 := BitVec.ofNat 32 (i 0).val
  let c2_i32 : BitVec 32 := 2#32
  let v0 : BitVec 32 := Scalar.remsi arg0 c2_i32
  let v411 : Index := Scalar.indexCast v0
  let c0_217 : Index := 0#32
  let c2944_218 : Index := 2944#32
  ![v411.toNat, 0, 2944]
def k0_off26 (i : grid0.Coords) : Fin 3 → Nat :=
  let arg0 : BitVec 32 := BitVec.ofNat 32 (i 0).val
  let c2_i32 : BitVec 32 := 2#32
  let v0 : BitVec 32 := Scalar.remsi arg0 c2_i32
  let v429 : Index := Scalar.indexCast v0
  let c0_228 : Index := 0#32
  let c3072_229 : Index := 3072#32
  ![v429.toNat, 0, 3072]
def k0_off27 (i : grid0.Coords) : Fin 3 → Nat :=
  let arg0 : BitVec 32 := BitVec.ofNat 32 (i 0).val
  let c2_i32 : BitVec 32 := 2#32
  let v0 : BitVec 32 := Scalar.remsi arg0 c2_i32
  let v445 : Index := Scalar.indexCast v0
  let c0_236 : Index := 0#32
  let c3200_237 : Index := 3200#32
  ![v445.toNat, 0, 3200]
def k0_off28 (i : grid0.Coords) : Fin 3 → Nat :=
  let arg0 : BitVec 32 := BitVec.ofNat 32 (i 0).val
  let c2_i32 : BitVec 32 := 2#32
  let v0 : BitVec 32 := Scalar.remsi arg0 c2_i32
  let v461 : Index := Scalar.indexCast v0
  let c0_244 : Index := 0#32
  let c3328_245 : Index := 3328#32
  ![v461.toNat, 0, 3328]
def k0_off29 (i : grid0.Coords) : Fin 3 → Nat :=
  let arg0 : BitVec 32 := BitVec.ofNat 32 (i 0).val
  let c2_i32 : BitVec 32 := 2#32
  let v0 : BitVec 32 := Scalar.remsi arg0 c2_i32
  let v477 : Index := Scalar.indexCast v0
  let c0_252 : Index := 0#32
  let c3456_253 : Index := 3456#32
  ![v477.toNat, 0, 3456]
def k0_off30 (i : grid0.Coords) : Fin 3 → Nat :=
  let arg0 : BitVec 32 := BitVec.ofNat 32 (i 0).val
  let c2_i32 : BitVec 32 := 2#32
  let v0 : BitVec 32 := Scalar.remsi arg0 c2_i32
  let v495 : Index := Scalar.indexCast v0
  let c0_263 : Index := 0#32
  let c3584_264 : Index := 3584#32
  ![v495.toNat, 0, 3584]
def k0_off31 (i : grid0.Coords) : Fin 3 → Nat :=
  let arg0 : BitVec 32 := BitVec.ofNat 32 (i 0).val
  let c2_i32 : BitVec 32 := 2#32
  let v0 : BitVec 32 := Scalar.remsi arg0 c2_i32
  let v511 : Index := Scalar.indexCast v0
  let c0_271 : Index := 0#32
  let c3712_272 : Index := 3712#32
  ![v511.toNat, 0, 3712]
def k0_off32 (i : grid0.Coords) : Fin 3 → Nat :=
  let arg0 : BitVec 32 := BitVec.ofNat 32 (i 0).val
  let c2_i32 : BitVec 32 := 2#32
  let v0 : BitVec 32 := Scalar.remsi arg0 c2_i32
  let v527 : Index := Scalar.indexCast v0
  let c0_279 : Index := 0#32
  let c3840_280 : Index := 3840#32
  ![v527.toNat, 0, 3840]
def k0_off33 (i : grid0.Coords) : Fin 3 → Nat :=
  let arg0 : BitVec 32 := BitVec.ofNat 32 (i 0).val
  let c2_i32 : BitVec 32 := 2#32
  let v0 : BitVec 32 := Scalar.remsi arg0 c2_i32
  let v543 : Index := Scalar.indexCast v0
  let c0_287 : Index := 0#32
  let c3968_288 : Index := 3968#32
  ![v543.toNat, 0, 3968]
def k0_cond3 (i : grid0.Coords) : BitVec 1 :=
  let arg0 : BitVec 32 := BitVec.ofNat 32 (i 0).val
  let c0_i32_3 : BitVec 32 := 0#32
  let v10 : BitVec 1 := Scalar.cmpi .sgt arg0 c0_i32_3
  let c72_i32_4 : BitVec 32 := 72#32
  let v11 : BitVec 1 := Scalar.cmpi .slt arg0 c72_i32_4
  let v12 : BitVec 1 := Scalar.andi v10 v11
  let v13 : BitVec 32 := Scalar.extui v12
  let c0_i32_5 : BitVec 32 := 0#32
  let v14 : BitVec 1 := Scalar.cmpi .ne v13 c0_i32_5
  v14

def k0_off34 (i : grid0.Coords) : Fin 3 → Nat :=
  let arg0 : BitVec 32 := BitVec.ofNat 32 (i 0).val
  let c2_i32 : BitVec 32 := 2#32
  let v0 : BitVec 32 := Scalar.remsi arg0 c2_i32
  let v33 : Index := Scalar.indexCast v0
  let c0_18 : Index := 0#32
  let c0_19 : Index := 0#32
  ![v33.toNat, 0, 0]
def k0_off35 (i : grid0.Coords) : Fin 3 → Nat :=
  let arg0 : BitVec 32 := BitVec.ofNat 32 (i 0).val
  let c2_i32 : BitVec 32 := 2#32
  let v0 : BitVec 32 := Scalar.remsi arg0 c2_i32
  let v49 : Index := Scalar.indexCast v0
  let c0_26 : Index := 0#32
  let c128_27 : Index := 128#32
  ![v49.toNat, 0, 128]
def k0_off36 (i : grid0.Coords) : Fin 3 → Nat :=
  let arg0 : BitVec 32 := BitVec.ofNat 32 (i 0).val
  let c2_i32 : BitVec 32 := 2#32
  let v0 : BitVec 32 := Scalar.remsi arg0 c2_i32
  let v65 : Index := Scalar.indexCast v0
  let c0_34 : Index := 0#32
  let c256_35 : Index := 256#32
  ![v65.toNat, 0, 256]
def k0_off37 (i : grid0.Coords) : Fin 3 → Nat :=
  let arg0 : BitVec 32 := BitVec.ofNat 32 (i 0).val
  let c2_i32 : BitVec 32 := 2#32
  let v0 : BitVec 32 := Scalar.remsi arg0 c2_i32
  let v81 : Index := Scalar.indexCast v0
  let c0_42 : Index := 0#32
  let c384_43 : Index := 384#32
  ![v81.toNat, 0, 384]
def k0_off38 (i : grid0.Coords) : Fin 3 → Nat :=
  let arg0 : BitVec 32 := BitVec.ofNat 32 (i 0).val
  let c2_i32 : BitVec 32 := 2#32
  let v0 : BitVec 32 := Scalar.remsi arg0 c2_i32
  let v99 : Index := Scalar.indexCast v0
  let c0_53 : Index := 0#32
  let c512_54 : Index := 512#32
  ![v99.toNat, 0, 512]
def k0_off39 (i : grid0.Coords) : Fin 3 → Nat :=
  let arg0 : BitVec 32 := BitVec.ofNat 32 (i 0).val
  let c2_i32 : BitVec 32 := 2#32
  let v0 : BitVec 32 := Scalar.remsi arg0 c2_i32
  let v115 : Index := Scalar.indexCast v0
  let c0_61 : Index := 0#32
  let c640_62 : Index := 640#32
  ![v115.toNat, 0, 640]
def k0_off40 (i : grid0.Coords) : Fin 3 → Nat :=
  let arg0 : BitVec 32 := BitVec.ofNat 32 (i 0).val
  let c2_i32 : BitVec 32 := 2#32
  let v0 : BitVec 32 := Scalar.remsi arg0 c2_i32
  let v131 : Index := Scalar.indexCast v0
  let c0_69 : Index := 0#32
  let c768_70 : Index := 768#32
  ![v131.toNat, 0, 768]
def k0_off41 (i : grid0.Coords) : Fin 3 → Nat :=
  let arg0 : BitVec 32 := BitVec.ofNat 32 (i 0).val
  let c2_i32 : BitVec 32 := 2#32
  let v0 : BitVec 32 := Scalar.remsi arg0 c2_i32
  let v147 : Index := Scalar.indexCast v0
  let c0_77 : Index := 0#32
  let c896_78 : Index := 896#32
  ![v147.toNat, 0, 896]
def k0_off42 (i : grid0.Coords) : Fin 3 → Nat :=
  let arg0 : BitVec 32 := BitVec.ofNat 32 (i 0).val
  let c2_i32 : BitVec 32 := 2#32
  let v0 : BitVec 32 := Scalar.remsi arg0 c2_i32
  let v165 : Index := Scalar.indexCast v0
  let c0_88 : Index := 0#32
  let c1024_89 : Index := 1024#32
  ![v165.toNat, 0, 1024]
def k0_off43 (i : grid0.Coords) : Fin 3 → Nat :=
  let arg0 : BitVec 32 := BitVec.ofNat 32 (i 0).val
  let c2_i32 : BitVec 32 := 2#32
  let v0 : BitVec 32 := Scalar.remsi arg0 c2_i32
  let v181 : Index := Scalar.indexCast v0
  let c0_96 : Index := 0#32
  let c1152_97 : Index := 1152#32
  ![v181.toNat, 0, 1152]
def k0_off44 (i : grid0.Coords) : Fin 3 → Nat :=
  let arg0 : BitVec 32 := BitVec.ofNat 32 (i 0).val
  let c2_i32 : BitVec 32 := 2#32
  let v0 : BitVec 32 := Scalar.remsi arg0 c2_i32
  let v197 : Index := Scalar.indexCast v0
  let c0_104 : Index := 0#32
  let c1280_105 : Index := 1280#32
  ![v197.toNat, 0, 1280]
def k0_off45 (i : grid0.Coords) : Fin 3 → Nat :=
  let arg0 : BitVec 32 := BitVec.ofNat 32 (i 0).val
  let c2_i32 : BitVec 32 := 2#32
  let v0 : BitVec 32 := Scalar.remsi arg0 c2_i32
  let v213 : Index := Scalar.indexCast v0
  let c0_112 : Index := 0#32
  let c1408_113 : Index := 1408#32
  ![v213.toNat, 0, 1408]
def k0_off46 (i : grid0.Coords) : Fin 3 → Nat :=
  let arg0 : BitVec 32 := BitVec.ofNat 32 (i 0).val
  let c2_i32 : BitVec 32 := 2#32
  let v0 : BitVec 32 := Scalar.remsi arg0 c2_i32
  let v231 : Index := Scalar.indexCast v0
  let c0_123 : Index := 0#32
  let c1536_124 : Index := 1536#32
  ![v231.toNat, 0, 1536]
def k0_off47 (i : grid0.Coords) : Fin 3 → Nat :=
  let arg0 : BitVec 32 := BitVec.ofNat 32 (i 0).val
  let c2_i32 : BitVec 32 := 2#32
  let v0 : BitVec 32 := Scalar.remsi arg0 c2_i32
  let v247 : Index := Scalar.indexCast v0
  let c0_131 : Index := 0#32
  let c1664_132 : Index := 1664#32
  ![v247.toNat, 0, 1664]
def k0_off48 (i : grid0.Coords) : Fin 3 → Nat :=
  let arg0 : BitVec 32 := BitVec.ofNat 32 (i 0).val
  let c2_i32 : BitVec 32 := 2#32
  let v0 : BitVec 32 := Scalar.remsi arg0 c2_i32
  let v263 : Index := Scalar.indexCast v0
  let c0_139 : Index := 0#32
  let c1792_140 : Index := 1792#32
  ![v263.toNat, 0, 1792]
def k0_off49 (i : grid0.Coords) : Fin 3 → Nat :=
  let arg0 : BitVec 32 := BitVec.ofNat 32 (i 0).val
  let c2_i32 : BitVec 32 := 2#32
  let v0 : BitVec 32 := Scalar.remsi arg0 c2_i32
  let v279 : Index := Scalar.indexCast v0
  let c0_147 : Index := 0#32
  let c1920_148 : Index := 1920#32
  ![v279.toNat, 0, 1920]
def k0_off50 (i : grid0.Coords) : Fin 3 → Nat :=
  let arg0 : BitVec 32 := BitVec.ofNat 32 (i 0).val
  let c2_i32 : BitVec 32 := 2#32
  let v0 : BitVec 32 := Scalar.remsi arg0 c2_i32
  let v297 : Index := Scalar.indexCast v0
  let c0_158 : Index := 0#32
  let c2048_159 : Index := 2048#32
  ![v297.toNat, 0, 2048]
def k0_off51 (i : grid0.Coords) : Fin 3 → Nat :=
  let arg0 : BitVec 32 := BitVec.ofNat 32 (i 0).val
  let c2_i32 : BitVec 32 := 2#32
  let v0 : BitVec 32 := Scalar.remsi arg0 c2_i32
  let v313 : Index := Scalar.indexCast v0
  let c0_166 : Index := 0#32
  let c2176_167 : Index := 2176#32
  ![v313.toNat, 0, 2176]
def k0_off52 (i : grid0.Coords) : Fin 3 → Nat :=
  let arg0 : BitVec 32 := BitVec.ofNat 32 (i 0).val
  let c2_i32 : BitVec 32 := 2#32
  let v0 : BitVec 32 := Scalar.remsi arg0 c2_i32
  let v329 : Index := Scalar.indexCast v0
  let c0_174 : Index := 0#32
  let c2304_175 : Index := 2304#32
  ![v329.toNat, 0, 2304]
def k0_off53 (i : grid0.Coords) : Fin 3 → Nat :=
  let arg0 : BitVec 32 := BitVec.ofNat 32 (i 0).val
  let c2_i32 : BitVec 32 := 2#32
  let v0 : BitVec 32 := Scalar.remsi arg0 c2_i32
  let v345 : Index := Scalar.indexCast v0
  let c0_182 : Index := 0#32
  let c2432_183 : Index := 2432#32
  ![v345.toNat, 0, 2432]
def k0_off54 (i : grid0.Coords) : Fin 3 → Nat :=
  let arg0 : BitVec 32 := BitVec.ofNat 32 (i 0).val
  let c2_i32 : BitVec 32 := 2#32
  let v0 : BitVec 32 := Scalar.remsi arg0 c2_i32
  let v363 : Index := Scalar.indexCast v0
  let c0_193 : Index := 0#32
  let c2560_194 : Index := 2560#32
  ![v363.toNat, 0, 2560]
def k0_off55 (i : grid0.Coords) : Fin 3 → Nat :=
  let arg0 : BitVec 32 := BitVec.ofNat 32 (i 0).val
  let c2_i32 : BitVec 32 := 2#32
  let v0 : BitVec 32 := Scalar.remsi arg0 c2_i32
  let v379 : Index := Scalar.indexCast v0
  let c0_201 : Index := 0#32
  let c2688_202 : Index := 2688#32
  ![v379.toNat, 0, 2688]
def k0_off56 (i : grid0.Coords) : Fin 3 → Nat :=
  let arg0 : BitVec 32 := BitVec.ofNat 32 (i 0).val
  let c2_i32 : BitVec 32 := 2#32
  let v0 : BitVec 32 := Scalar.remsi arg0 c2_i32
  let v395 : Index := Scalar.indexCast v0
  let c0_209 : Index := 0#32
  let c2816_210 : Index := 2816#32
  ![v395.toNat, 0, 2816]
def k0_off57 (i : grid0.Coords) : Fin 3 → Nat :=
  let arg0 : BitVec 32 := BitVec.ofNat 32 (i 0).val
  let c2_i32 : BitVec 32 := 2#32
  let v0 : BitVec 32 := Scalar.remsi arg0 c2_i32
  let v411 : Index := Scalar.indexCast v0
  let c0_217 : Index := 0#32
  let c2944_218 : Index := 2944#32
  ![v411.toNat, 0, 2944]
def k0_off58 (i : grid0.Coords) : Fin 3 → Nat :=
  let arg0 : BitVec 32 := BitVec.ofNat 32 (i 0).val
  let c2_i32 : BitVec 32 := 2#32
  let v0 : BitVec 32 := Scalar.remsi arg0 c2_i32
  let v429 : Index := Scalar.indexCast v0
  let c0_228 : Index := 0#32
  let c3072_229 : Index := 3072#32
  ![v429.toNat, 0, 3072]
def k0_off59 (i : grid0.Coords) : Fin 3 → Nat :=
  let arg0 : BitVec 32 := BitVec.ofNat 32 (i 0).val
  let c2_i32 : BitVec 32 := 2#32
  let v0 : BitVec 32 := Scalar.remsi arg0 c2_i32
  let v445 : Index := Scalar.indexCast v0
  let c0_236 : Index := 0#32
  let c3200_237 : Index := 3200#32
  ![v445.toNat, 0, 3200]
def k0_off60 (i : grid0.Coords) : Fin 3 → Nat :=
  let arg0 : BitVec 32 := BitVec.ofNat 32 (i 0).val
  let c2_i32 : BitVec 32 := 2#32
  let v0 : BitVec 32 := Scalar.remsi arg0 c2_i32
  let v461 : Index := Scalar.indexCast v0
  let c0_244 : Index := 0#32
  let c3328_245 : Index := 3328#32
  ![v461.toNat, 0, 3328]
def k0_off61 (i : grid0.Coords) : Fin 3 → Nat :=
  let arg0 : BitVec 32 := BitVec.ofNat 32 (i 0).val
  let c2_i32 : BitVec 32 := 2#32
  let v0 : BitVec 32 := Scalar.remsi arg0 c2_i32
  let v477 : Index := Scalar.indexCast v0
  let c0_252 : Index := 0#32
  let c3456_253 : Index := 3456#32
  ![v477.toNat, 0, 3456]
def k0_off62 (i : grid0.Coords) : Fin 3 → Nat :=
  let arg0 : BitVec 32 := BitVec.ofNat 32 (i 0).val
  let c2_i32 : BitVec 32 := 2#32
  let v0 : BitVec 32 := Scalar.remsi arg0 c2_i32
  let v495 : Index := Scalar.indexCast v0
  let c0_263 : Index := 0#32
  let c3584_264 : Index := 3584#32
  ![v495.toNat, 0, 3584]
def k0_off63 (i : grid0.Coords) : Fin 3 → Nat :=
  let arg0 : BitVec 32 := BitVec.ofNat 32 (i 0).val
  let c2_i32 : BitVec 32 := 2#32
  let v0 : BitVec 32 := Scalar.remsi arg0 c2_i32
  let v511 : Index := Scalar.indexCast v0
  let c0_271 : Index := 0#32
  let c3712_272 : Index := 3712#32
  ![v511.toNat, 0, 3712]
def k0_off64 (i : grid0.Coords) : Fin 3 → Nat :=
  let arg0 : BitVec 32 := BitVec.ofNat 32 (i 0).val
  let c2_i32 : BitVec 32 := 2#32
  let v0 : BitVec 32 := Scalar.remsi arg0 c2_i32
  let v527 : Index := Scalar.indexCast v0
  let c0_279 : Index := 0#32
  let c3840_280 : Index := 3840#32
  ![v527.toNat, 0, 3840]
def k0_off65 (i : grid0.Coords) : Fin 3 → Nat :=
  let arg0 : BitVec 32 := BitVec.ofNat 32 (i 0).val
  let c2_i32 : BitVec 32 := 2#32
  let v0 : BitVec 32 := Scalar.remsi arg0 c2_i32
  let v543 : Index := Scalar.indexCast v0
  let c0_287 : Index := 0#32
  let c3968_288 : Index := 3968#32
  ![v543.toNat, 0, 3968]
def cc0_transform_0 (i : grid0.Coords) : Fin 2 → Nat :=
  let arg0 : BitVec 32 := BitVec.ofNat 32 (i 0).val
  let c71_i32 : BitVec 32 := 71#32
  let v0 : BitVec 32 := Scalar.minsi arg0 c71_i32
  let c24_i32 : BitVec 32 := 24#32
  let v1 : BitVec 32 := Scalar.remsi v0 c24_i32
  let c71_i32_0 : BitVec 32 := 71#32
  let v2 : BitVec 32 := Scalar.minsi arg0 c71_i32_0
  let c24_i32_1 : BitVec 32 := 24#32
  let v3 : BitVec 32 := Scalar.divsi v2 c24_i32_1
  let c0_i32 : BitVec 32 := 0#32
  ![v1.toNat, v3.toNat]

def cc0_transform_1 (i : grid0.Coords) : Fin 2 → Nat :=
  let arg0 : BitVec 32 := BitVec.ofNat 32 (i 0).val
  let c71_i32 : BitVec 32 := 71#32
  let v0 : BitVec 32 := Scalar.minsi arg0 c71_i32
  let c24_i32 : BitVec 32 := 24#32
  let v1 : BitVec 32 := Scalar.remsi v0 c24_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c71_i32 : BitVec 32 := 71#32
  let v0 : BitVec 32 := Scalar.minsi arg0 c71_i32
  let c24_i32 : BitVec 32 := 24#32
  let v1 : BitVec 32 := Scalar.remsi v0 c24_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c71_i32 : BitVec 32 := 71#32
  let v0 : BitVec 32 := Scalar.minsi arg0 c71_i32
  let c24_i32 : BitVec 32 := 24#32
  let v1 : BitVec 32 := Scalar.divsi v0 c24_i32
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let c71_i32 : BitVec 32 := 71#32
  let v0 : BitVec 32 := Scalar.minsi arg0 c71_i32
  let c24_i32 : BitVec 32 := 24#32
  let v1 : BitVec 32 := Scalar.divsi v0 c24_i32
  let c0_i32 : BitVec 32 := 0#32
  let c0_i32_0 : BitVec 32 := 0#32
  ![c0_i32.toNat, v1.toNat]

def cc0_transform_5 (i : grid0.Coords) : Fin 2 → Nat :=
  let arg0 : BitVec 32 := BitVec.ofNat 32 (i 0).val
  let c71_i32 : BitVec 32 := 71#32
  let v0 : BitVec 32 := Scalar.minsi arg0 c71_i32
  let c24_i32 : BitVec 32 := 24#32
  let v1 : BitVec 32 := Scalar.remsi v0 c24_i32
  let c71_i32_0 : BitVec 32 := 71#32
  let v2 : BitVec 32 := Scalar.minsi arg0 c71_i32_0
  let c24_i32_1 : BitVec 32 := 24#32
  let v3 : BitVec 32 := Scalar.divsi v2 c24_i32_1
  let c0_i32 : BitVec 32 := 0#32
  ![v1.toNat, v3.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1536x4096 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S6144x12288 : Shape := ⟨2, ![6144, 12288]⟩
abbrev S6144x1536 : Shape := ⟨2, ![6144, 1536]⟩
abbrev S6144x1 : Shape := ⟨2, ![6144, 1]⟩
abbrev S1536x12288 : Shape := ⟨2, ![1536, 12288]⟩
abbrev S1x12288 : Shape := ⟨2, ![1, 12288]⟩

abbrev nBuf : Space → Nat
  | .hbm => 6
  | .vmem => 6
  | .smem => 0
  | _ => 0

abbrev bufTy : (tb : Table) → Fin (tcTables nBuf tb) → BufTy
  | .hbm, ⟨0, _⟩ => ⟨S6144x12288, .bf16⟩
  | .hbm, ⟨1, _⟩ => ⟨S6144x1536, .i8⟩
  | .hbm, ⟨2, _⟩ => ⟨S6144x1, .f32⟩
  | .hbm, ⟨3, _⟩ => ⟨S1536x12288, .i8⟩
  | .hbm, ⟨4, _⟩ => ⟨S1x12288, .f32⟩
  | .hbm, ⟨5, _⟩ => ⟨S6144x12288, .bf16⟩
  | .local _ .vmem, ⟨0, _⟩ => ⟨S6144x12288, .bf16⟩
  | .local _ .vmem, ⟨1, _⟩ => ⟨S6144x1536, .i8⟩
  | .local _ .vmem, ⟨2, _⟩ => ⟨S6144x1, .f32⟩
  | .local _ .vmem, ⟨3, _⟩ => ⟨S1536x12288, .i8⟩
  | .local _ .vmem, ⟨4, _⟩ => ⟨S1x12288, .f32⟩
  | .local _ .vmem, ⟨5, _⟩ => ⟨S6144x12288, .bf16⟩
  | _, _ => ⟨S6144x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S6144x12288 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144x1536 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x12288 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x12288 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6144x12288 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Qkv.lean ====
abbrev S6144x12288 : Shape := ⟨2, ![6144, 12288]⟩
abbrev S6144x1 : Shape := ⟨2, ![6144, 1]⟩
abbrev S12288x1792 : Shape := ⟨2, ![12288, 1792]⟩
abbrev S1x1792 : Shape := ⟨2, ![1, 1792]⟩
abbrev S6144x64 : Shape := ⟨2, ![6144, 64]⟩
abbrev S6144x128 : Shape := ⟨2, ![6144, 128]⟩
abbrev S6144x1536 : Shape := ⟨2, ![6144, 1536]⟩
abbrev S24x2x128 : Shape := ⟨3, ![24, 2, 128]⟩
abbrev S256x12288 : Shape := ⟨2, ![256, 12288]⟩
abbrev S256x128 : Shape := ⟨2, ![256, 128]⟩
abbrev S256x64 : Shape := ⟨2, ![256, 64]⟩
abbrev S256x1536 : Shape := ⟨2, ![256, 1536]⟩
abbrev S1x2x128 : Shape := ⟨3, ![1, 2, 128]⟩
abbrev S2x256x12288 : Shape := ⟨3, ![2, 256, 12288]⟩
abbrev S2x256x128 : Shape := ⟨3, ![2, 256, 128]⟩
abbrev S1x256x12288 : Shape := ⟨3, ![1, 256, 12288]⟩
abbrev S1x256x128 : Shape := ⟨3, ![1, 256, 128]⟩
abbrev S1x256x1024 : Shape := ⟨3, ![1, 256, 1024]⟩
abbrev S256x1024 : Shape := ⟨2, ![256, 1024]⟩
abbrev S1024x512 : Shape := ⟨2, ![1024, 512]⟩
abbrev S256x512 : Shape := ⟨2, ![256, 512]⟩
abbrev S1x128 : Shape := ⟨2, ![1, 128]⟩
abbrev S1024x256 : Shape := ⟨2, ![1024, 256]⟩
abbrev S256x256 : Shape := ⟨2, ![256, 256]⟩
abbrev S256 : Shape := ⟨1, ![256]⟩
abbrev S256x1 : Shape := ⟨2, ![256, 1]⟩
abbrev S128x128 : Shape := ⟨2, ![128, 128]⟩
abbrev S1x1x128 : Shape := ⟨3, ![1, 1, 128]⟩

abbrev nBuf : Space → Nat
  | .hbm => 12
  | .vmem => 22
  | .smem => 0
  | _ => 0

abbrev bufTy : (tb : Table) → Fin (tcTables nBuf tb) → BufTy
  | .hbm, ⟨0, _⟩ => ⟨S6144x12288, .i8⟩
  | .hbm, ⟨1, _⟩ => ⟨S6144x1, .f32⟩
  | .hbm, ⟨2, _⟩ => ⟨S12288x1792, .i8⟩
  | .hbm, ⟨3, _⟩ => ⟨S1x1792, .f32⟩
  | .hbm, ⟨4, _⟩ => ⟨S6144x64, .f32⟩
  | .hbm, ⟨5, _⟩ => ⟨S6144x64, .f32⟩
  | .hbm, ⟨6, _⟩ => ⟨S6144x128, .f32⟩
  | .hbm, ⟨7, _⟩ => ⟨S6144x1536, .bf16⟩
  | .hbm, ⟨8, _⟩ => ⟨S6144x128, .i8⟩
  | .hbm, ⟨9, _⟩ => ⟨S24x2x128, .f32⟩
  | .hbm, ⟨10, _⟩ => ⟨S6144x128, .i8⟩
  | .hbm, ⟨11, _⟩ => ⟨S24x2x128, .f32⟩
  | .local _ .vmem, ⟨0, _⟩ => ⟨S256x12288, .i8⟩
  | .local _ .vmem, ⟨1, _⟩ => ⟨S256x12288, .i8⟩
  | .local _ .vmem, ⟨2, _⟩ => ⟨S256x128, .f32⟩
  | .local _ .vmem, ⟨3, _⟩ => ⟨S256x128, .f32⟩
  | .local _ .vmem, ⟨4, _⟩ => ⟨S12288x1792, .i8⟩
  | .local _ .vmem, ⟨5, _⟩ => ⟨S1x1792, .f32⟩
  | .local _ .vmem, ⟨6, _⟩ => ⟨S256x64, .f32⟩
  | .local _ .vmem, ⟨7, _⟩ => ⟨S256x64, .f32⟩
  | .local _ .vmem, ⟨8, _⟩ => ⟨S256x64, .f32⟩
  | .local _ .vmem, ⟨9, _⟩ => ⟨S256x64, .f32⟩
  | .local _ .vmem, ⟨10, _⟩ => ⟨S256x1536, .bf16⟩
  | .local _ .vmem, ⟨11, _⟩ => ⟨S256x1536, .bf16⟩
  | .local _ .vmem, ⟨12, _⟩ => ⟨S256x128, .i8⟩
  | .local _ .vmem, ⟨13, _⟩ => ⟨S256x128, .i8⟩
  | .local _ .vmem, ⟨14, _⟩ => ⟨S1x2x128, .f32⟩
  | .local _ .vmem, ⟨15, _⟩ => ⟨S1x2x128, .f32⟩
  | .local _ .vmem, ⟨16, _⟩ => ⟨S256x128, .i8⟩
  | .local _ .vmem, ⟨17, _⟩ => ⟨S256x128, .i8⟩
  | .local _ .vmem, ⟨18, _⟩ => ⟨S1x2x128, .f32⟩
  | .local _ .vmem, ⟨19, _⟩ => ⟨S1x2x128, .f32⟩
  | .local _ .vmem, ⟨20, _⟩ => ⟨S2x256x12288, .bf16⟩
  | .local _ .vmem, ⟨21, _⟩ => ⟨S2x256x128, .f32⟩
  | _, _ => ⟨S6144x12288, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![25], ![false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_off1 (i : grid0.Coords) : Fin 3 → Nat :=
  let arg0 : BitVec 32 := BitVec.ofNat 32 (i 0).val
  let c2_i32 : BitVec 32 := 2#32
  let v0 : BitVec 32 := Scalar.remsi arg0 c2_i32
  let v14 : Index := Scalar.indexCast v0
  let c0_6 : Index := 0#32
  let c0_7 : Index := 0#32
  ![v14.toNat, 0, 0]
def k0_off2 (i : grid0.Coords) : Fin 3 → Nat :=
  let arg0 : BitVec 32 := BitVec.ofNat 32 (i 0).val
  let c2_i32 : BitVec 32 := 2#32
  let v0 : BitVec 32 := Scalar.remsi arg0 c2_i32
  let v20 : Index := Scalar.indexCast v0
  let c0_10 : Index := 0#32
  let c0_11 : Index := 0#32
  ![v20.toNat, 0, 0]
def k0_cond2 (i : grid0.Coords) : BitVec 1 :=
  let arg0 : BitVec 32 := BitVec.ofNat 32 (i 0).val
  let c0_i32_1 : BitVec 32 := 0#32
  let v4 : BitVec 1 := Scalar.cmpi .sgt arg0 c0_i32_1
  let c24_i32 : BitVec 32 := 24#32
  let v5 : BitVec 1 := Scalar.cmpi .slt arg0 c24_i32
  let v6 : BitVec 1 := Scalar.andi v4 v5
  let v7 : BitVec 32 := Scalar.extui v6
  let c0_i32_2 : BitVec 32 := 0#32
  let v8 : BitVec 1 := Scalar.cmpi .ne v7 c0_i32_2
  v8

def k0_off3 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v19 : Index := Scalar.indexCast v12
  let c0_8 : Index := 0#32
  let c0_9 : Index := 0#32
  ![v19.toNat, 0, 0]
def k0_off4 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v25 : Index := Scalar.indexCast v12
  let c0_13 : Index := 0#32
  let c1024 : Index := 1024#32
  ![v25.toNat, 0, 1024]
def k0_off5 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v32 : Index := Scalar.indexCast v12
  let c0_17 : Index := 0#32
  let c2048 : Index := 2048#32
  ![v32.toNat, 0, 2048]
def k0_off6 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v39 : Index := Scalar.indexCast v12
  let c0_21 : Index := 0#32
  let c3072 : Index := 3072#32
  ![v39.toNat, 0, 3072]
def k0_off7 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v46 : Index := Scalar.indexCast v12
  let c0_25 : Index := 0#32
  let c4096 : Index := 4096#32
  ![v46.toNat, 0, 4096]
def k0_off8 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v53 : Index := Scalar.indexCast v12
  let c0_29 : Index := 0#32
  let c5120 : Index := 5120#32
  ![v53.toNat, 0, 5120]
def k0_off9 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v60 : Index := Scalar.indexCast v12
  let c0_33 : Index := 0#32
  let c6144 : Index := 6144#32
  ![v60.toNat, 0, 6144]
def k0_off10 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v67 : Index := Scalar.indexCast v12
  let c0_37 : Index := 0#32
  let c7168 : Index := 7168#32
  ![v67.toNat, 0, 7168]
def k0_off11 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v74 : Index := Scalar.indexCast v12
  let c0_41 : Index := 0#32
  let c8192 : Index := 8192#32
  ![v74.toNat, 0, 8192]
def k0_off12 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v81 : Index := Scalar.indexCast v12
  let c0_45 : Index := 0#32
  let c9216 : Index := 9216#32
  ![v81.toNat, 0, 9216]
def k0_off13 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v88 : Index := Scalar.indexCast v12
  let c0_49 : Index := 0#32
  let c10240 : Index := 10240#32
  ![v88.toNat, 0, 10240]
def k0_off14 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v95 : Index := Scalar.indexCast v12
  let c0_53 : Index := 0#32
  let c11264 : Index := 11264#32
  ![v95.toNat, 0, 11264]
def k0_off15 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v103 : Index := Scalar.indexCast v12
  let c0_57 : Index := 0#32
  let c0_58 : Index := 0#32
  ![v103.toNat, 0, 0]
def k0_off16 (i : grid0.Coords) : Fin 3 → Nat :=
  let arg0 : BitVec 32 := BitVec.ofNat 32 (i 0).val
  let c2_i32 : BitVec 32 := 2#32
  let v0 : BitVec 32 := Scalar.remsi arg0 c2_i32
  let v609 : Index := Scalar.indexCast v0
  let c0_348 : Index := 0#32
  let c0_349 : Index := 0#32
  ![v609.toNat, 0, 0]
def k0_off17 (i : grid0.Coords) : Fin 3 → Nat :=
  let arg0 : BitVec 32 := BitVec.ofNat 32 (i 0).val
  let c2_i32 : BitVec 32 := 2#32
  let v0 : BitVec 32 := Scalar.remsi arg0 c2_i32
  let v615 : Index := Scalar.indexCast v0
  let c0_352 : Index := 0#32
  let c0_353 : Index := 0#32
  ![v615.toNat, 0, 0]
def k0_cond3 (i : grid0.Coords) : BitVec 1 :=
  let arg0 : BitVec 32 := BitVec.ofNat 32 (i 0).val
  let c24_i32_3 : BitVec 32 := 24#32
  let v9 : BitVec 1 := Scalar.cmpi .eq arg0 c24_i32_3
  let v10 : BitVec 32 := Scalar.extui v9
  let c0_i32_4 : BitVec 32 := 0#32
  let v11 : BitVec 1 := Scalar.cmpi .ne v10 c0_i32_4
  v11

def k0_off18 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v19 : Index := Scalar.indexCast v12
  let c0_8 : Index := 0#32
  let c0_9 : Index := 0#32
  ![v19.toNat, 0, 0]
def k0_off19 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v25 : Index := Scalar.indexCast v12
  let c0_13 : Index := 0#32
  let c1024 : Index := 1024#32
  ![v25.toNat, 0, 1024]
def k0_off20 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v32 : Index := Scalar.indexCast v12
  let c0_17 : Index := 0#32
  let c2048 : Index := 2048#32
  ![v32.toNat, 0, 2048]
def k0_off21 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v39 : Index := Scalar.indexCast v12
  let c0_21 : Index := 0#32
  let c3072 : Index := 3072#32
  ![v39.toNat, 0, 3072]
def k0_off22 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v46 : Index := Scalar.indexCast v12
  let c0_25 : Index := 0#32
  let c4096 : Index := 4096#32
  ![v46.toNat, 0, 4096]
def k0_off23 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v53 : Index := Scalar.indexCast v12
  let c0_29 : Index := 0#32
  let c5120 : Index := 5120#32
  ![v53.toNat, 0, 5120]
def k0_off24 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v60 : Index := Scalar.indexCast v12
  let c0_33 : Index := 0#32
  let c6144 : Index := 6144#32
  ![v60.toNat, 0, 6144]
def k0_off25 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v67 : Index := Scalar.indexCast v12
  let c0_37 : Index := 0#32
  let c7168 : Index := 7168#32
  ![v67.toNat, 0, 7168]
def k0_off26 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v74 : Index := Scalar.indexCast v12
  let c0_41 : Index := 0#32
  let c8192 : Index := 8192#32
  ![v74.toNat, 0, 8192]
def k0_off27 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v81 : Index := Scalar.indexCast v12
  let c0_45 : Index := 0#32
  let c9216 : Index := 9216#32
  ![v81.toNat, 0, 9216]
def k0_off28 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v88 : Index := Scalar.indexCast v12
  let c0_49 : Index := 0#32
  let c10240 : Index := 10240#32
  ![v88.toNat, 0, 10240]
def k0_off29 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v95 : Index := Scalar.indexCast v12
  let c0_53 : Index := 0#32
  let c11264 : Index := 11264#32
  ![v95.toNat, 0, 11264]
def k0_off30 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v12 : BitVec 32 := Scalar.subi c1_i32 v0
  let v103 : Index := Scalar.indexCast v12
  let c0_57 : Index := 0#32
  let c0_58 : Index := 0#32
  ![v103.toNat, 0, 0]
def cc0_transform_0 (i : grid0.Coords) : Fin 2 → Nat :=
  let arg0 : BitVec 32 := BitVec.ofNat 32 (i 0).val
  let c23_i32 : BitVec 32 := 23#32
  let v0 : BitVec 32 := Scalar.minsi arg0 c23_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c23_i32 : BitVec 32 := 23#32
  let v0 : BitVec 32 := Scalar.minsi arg0 c23_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_9 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

abbrev stage0_0 : Fin 2 → Memref sig .tc .vmem S256x12288 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S12288x1792 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1792 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x2x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== QkvReferenceIdeal.lean ====
abbrev S6144x12288 : Shape := ⟨2, ![6144, 12288]⟩
abbrev S6144x1 : Shape := ⟨2, ![6144, 1]⟩
abbrev S12288x1792 : Shape := ⟨2, ![12288, 1792]⟩
abbrev S1x1792 : Shape := ⟨2, ![1, 1792]⟩
abbrev S6144x64 : Shape := ⟨2, ![6144, 64]⟩
abbrev S6144x1536 : Shape := ⟨2, ![6144, 1536]⟩
abbrev S6144x128 : Shape := ⟨2, ![6144, 128]⟩
abbrev S24x2x128 : Shape := ⟨3, ![24, 2, 128]⟩
abbrev S6144x1792 : Shape := ⟨2, ![6144, 1792]⟩
abbrev S6144 : Shape := ⟨1, ![6144]⟩

abbrev nBuf : Space → Nat
  | .hbm => 11
  | .vmem => 11
  | .smem => 0
  | _ => 0

abbrev bufTy : (tb : Table) → Fin (tcTables nBuf tb) → BufTy
  | .hbm, ⟨0, _⟩ => ⟨S6144x12288, .i8⟩
  | .hbm, ⟨1, _⟩ => ⟨S6144x1, .f32⟩
  | .hbm, ⟨2, _⟩ => ⟨S12288x1792, .i8⟩
  | .hbm, ⟨3, _⟩ => ⟨S1x1792, .f32⟩
  | .hbm, ⟨4, _⟩ => ⟨S6144x64, .f32⟩
  | .hbm, ⟨5, _⟩ => ⟨S6144x64, .f32⟩
  | .hbm, ⟨6, _⟩ => ⟨S6144x1536, .bf16⟩
  | .hbm, ⟨7, _⟩ => ⟨S6144x128, .i8⟩
  | .hbm, ⟨8, _⟩ => ⟨S24x2x128, .f32⟩
  | .hbm, ⟨9, _⟩ => ⟨S6144x128, .i8⟩
  | .hbm, ⟨10, _⟩ => ⟨S24x2x128, .f32⟩
  | .local _ .vmem, ⟨0, _⟩ => ⟨S6144x12288, .i8⟩
  | .local _ .vmem, ⟨1, _⟩ => ⟨S6144x1, .f32⟩
  | .local _ .vmem, ⟨2, _⟩ => ⟨S12288x1792, .i8⟩
  | .local _ .vmem, ⟨3, _⟩ => ⟨S1x1792, .f32⟩
  | .local _ .vmem, ⟨4, _⟩ => ⟨S6144x64, .f32⟩
  | .local _ .vmem, ⟨5, _⟩ => ⟨S6144x64, .f32⟩
  | .local _ .vmem, ⟨6, _⟩ => ⟨S6144x1536, .bf16⟩
  | .local _ .vmem, ⟨7, _⟩ => ⟨S6144x128, .i8⟩
  | .local _ .vmem, ⟨8, _⟩ => ⟨S24x2x128, .f32⟩
  | .local _ .vmem, ⟨9, _⟩ => ⟨S6144x128, .i8⟩
  | .local _ .vmem, ⟨10, _⟩ => ⟨S24x2x128, .f32⟩
  | _, _ => ⟨S6144x12288, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S6144x12288 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12288x1792 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1792 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6144x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6144x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6144x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6144x128 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S24x2x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6144x128 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S24x2x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Words.Runs.lean ====
/- The projection on words, at any float values: the conditions of its body over the grid's points, its staging buffers and
   its scratch, and what a run of the pipeline says of the arguments. -/
module

public import proofs.«01_k».proof.Proof.Gen.Kernel.Frame
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Words

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      ((h c).2 main_arg2 (Pipeline.mem_restRefs_of main_arg2 (by decide) (by decide))).trans (V_main_arg2 m c),
      (Pipeline.RDat.FramePost.arr_in h c 4 rfl).trans ((hA c 4).trans (V_main_arg3 m c)),
      (Pipeline.RDat.FramePost.arr_in h c 3 rfl).trans ((hA c 3).trans (V_main_arg4 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at points 0, 24 and 48 only — decided over the grid. -/
theorem hcond0_0 : ∀ t : Fin cfg0.N, cond0_0 (grid0.coords t) ↔ (t.val % 73 = 0 ∨ t.val % 73 = 24 ∨ t.val % 73 = 48) :=
  (by decide +kernel : ∀ t : Fin grid0.N, cond0_0 (grid0.coords t) ↔ (t.val % 73 = 0 ∨ t.val % 73 = 24 ∨ t.val % 73 = 48))

/-- The condition of the body's `scf.if` 1 (`k0_h2`), from the grid coordinates (the skeleton's scalar
    chain substituted). -/
abbrev cond0_1 (i : grid0.Coords) : Prop := k0_cond2 i = 1#1
/-- It holds at the first point only — by arithmetic of the point. -/
theorem hcond0_1 : ∀ t : Fin cfg0.N, cond0_1 (grid0.coords t) ↔ t.val % 73 = 0 :=
  (fun t => by
    have ht : t.val < 73 := Nat.lt_of_lt_of_eq t.isLt N_0
    have e0 : (grid0.coords t 0).val = t.val / 1 % 73 := Pipeline.Grid.coords_val t 0 (by decide) rfl
    simp only [cond0_1, k0_cond2, e0]
    word_cmp
   : ∀ t : Fin grid0.N, cond0_1 (grid0.coords t) ↔ t.val % 73 = 0)

/-- The condition of the body's `scf.if` 2 (`k0_h3`), from the grid coordinates (the skeleton's scalar
    chain substituted). -/
abbrev cond0_2 (i : grid0.Coords) : Prop := k0_cond3 i = 1#1
/-- It holds at the points whose coordinates have 1 ≤ i0 and i0 ≤ 71 — decided over the grid. -/
theorem hcond0_2 : ∀ t : Fin cfg0.N, cond0_2 (grid0.coords t) ↔ (1 ≤ t.val % 73 ∧ t.val % 73 ≤ 71) :=
  (by decide +kernel : ∀ t : Fin grid0.N, cond0_2 (grid0.coords t) ↔ (1 ≤ t.val % 73 ∧ t.val % 73 ≤ 71))

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S256x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1536 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x4096 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1536x4096 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x4096 .bf16 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S1536x4096 .bf16 := Memref.whole cc0_scratch0
abbrev scM0_1 : Memref sig .tc .vmem S2x256x4096 .f32 := Memref.whole cc0_scratch1
/-- The scratch `arg7` the kernel carries between points, as a view: what it holds is stated through it. -/
abbrev VS0_0 : View sig .tc .vmem S1536x4096 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Words

end
-- ==== Proof.Words.RunA.lean ====
/- The body's triple on words at the first point, the output's contents not named. -/
module

public import proofs.«01_k».proof.Proof.Words.Runs

@[expose] public section

-- membership in a rectangle of production extents (`View.cover_of_tiled`): the elaborator's structural look
-- recurses once per coordinate of the long axes
set_option maxRecDepth 16384

noncomputable section

namespace Cert.Kernel.Words

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1344000 in
/-- The pieces the body's stores leave in the widened weights' scratch, last first, with the proof that from the inputs'
    buffers at their contents the body runs to them, the other buffers at some contents. -/
noncomputable def kernelRun0_A (c : Dev nD) (i : grid0.Coords) (arg1 : Memref sig .tc .vmem S256x4096 .bf16) (harg1 : arg1.IsWhole) (arg2 : Memref sig .tc .vmem S256x1536 .i8) (harg2 : arg2.IsWhole) (arg3 : Memref sig .tc .vmem S256x128 .f32) (harg3 : arg3.IsWhole) (arg4 : Memref sig .tc .vmem S1x4096 .f32) (harg4 : arg4.IsWhole) (arg5 : Memref sig .tc .vmem S1536x4096 .i8) (harg5 : arg5.IsWhole) (arg6 : Memref sig .tc .vmem S256x4096 .bf16) (harg6 : arg6.IsWhole) (arg7 : Memref sig .tc .vmem S1536x4096 .bf16) (harg7 : arg7.IsWhole) (arg8 : Memref sig .tc .vmem S2x256x4096 .f32) (harg8 : arg8.IsWhole) (hc0 : cond0_0 i) (hc1 : cond0_1 i) (hc2 : ¬cond0_2 i)
    (x0 : Vec F S256x4096 .bf16) (x1 : Vec F S256x1536 .i8) (x2 : Vec F S256x128 .f32) (x3 : Vec F S1x4096 .f32) (x4 : Vec F S1536x4096 .i8) :
    { LS0 : List (View.Piece (Elt F) S1536x4096 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ f, arg7.view.loc (c : Thread nD τ) ↦[arg7.view.set]{fullShare} arg7.view.writes (Elt F) f LS0) ∗ (∃ d, owns (c : Thread nD τ) arg8 fullShare d)) -∗ K ⟨⟩))
          ⊢ wp frame (wpE (defs₀ (F := F)) Variants.none c none) E (cc0_oproj i arg1 harg1 arg2 harg2 arg3 harg3 arg4 harg4 arg5 harg5 arg6 harg6 arg7 harg7 arg8 harg8) K } := by
  refine ⟨?_, fun E K => ?run⟩
  case run =>
    simp only [cc0_oproj_eq_skeleton]; unfold cc0_oproj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [HS0]; · iexists _; iexact HS0
    iexists _, _; isplitr; swap; · iexact HS1
    ipureintro; rfl

end Cert.Kernel.Words

end
-- ==== Proof.Words.RunB.lean ====
/- The body's triple on words at a point that finds the weights widened, the output's contents not named. -/
module

public import proofs.«01_k».proof.Proof.Words.RunA

@[expose] public section

-- membership in a rectangle of production extents (`View.cover_of_tiled`): the elaborator's structural look
-- recurses once per coordinate of the long axes
set_option maxRecDepth 16384

noncomputable section

namespace Cert.Kernel.Words

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1276000 in
/-- The pieces the body's stores leave in the widened weights' scratch, last first, with the proof that from the inputs'
    buffers at their contents the body runs to them, the other buffers at some contents. -/
noncomputable def kernelRun0_B (c : Dev nD) (i : grid0.Coords) (arg1 : Memref sig .tc .vmem S256x4096 .bf16) (harg1 : arg1.IsWhole) (arg2 : Memref sig .tc .vmem S256x1536 .i8) (harg2 : arg2.IsWhole) (arg3 : Memref sig .tc .vmem S256x128 .f32) (harg3 : arg3.IsWhole) (arg4 : Memref sig .tc .vmem S1x4096 .f32) (harg4 : arg4.IsWhole) (arg5 : Memref sig .tc .vmem S1536x4096 .i8) (harg5 : arg5.IsWhole) (arg6 : Memref sig .tc .vmem S256x4096 .bf16) (harg6 : arg6.IsWhole) (arg7 : Memref sig .tc .vmem S1536x4096 .bf16) (harg7 : arg7.IsWhole) (arg8 : Memref sig .tc .vmem S2x256x4096 .f32) (harg8 : arg8.IsWhole) (hc0 : ¬cond0_0 i) (hc1 : ¬cond0_1 i) (hc2 : cond0_2 i)
    (x0 : Vec F S256x4096 .bf16) (x1 : Vec F S256x1536 .i8) (x2 : Vec F S256x128 .f32) (x3 : Vec F S1x4096 .f32) (x4 : Vec F S1536x4096 .i8) (xs0 : Vec F S1536x4096 .bf16) :
    { LS0 : List (View.Piece (Elt F) S1536x4096 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0 ∗ (∃ d, owns (c : Thread nD τ) arg8 fullShare d)) -∗ K ⟨⟩))
          ⊢ wp frame (wpE (defs₀ (F := F)) Variants.none c none) E (cc0_oproj i arg1 harg1 arg2 harg2 arg3 harg3 arg4 harg4 arg5 harg5 arg6 harg6 arg7 harg7 arg8 harg8) K } := by
  refine ⟨[], fun E K => ?run⟩
  case run =>
    simp only [cc0_oproj_eq_skeleton]; unfold cc0_oproj_skel
    simp only [k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [HS0]
    · iexists _; isplitr; · ipureintro; exact harg7.read_unread _
      iexact HS0
    iexists _, _; isplitr; swap; · iexact HS1
    ipureintro; rfl

end Cert.Kernel.Words

end
-- ==== Proof.Words.RunC.lean ====
/- The body's triple on words at the first point of a later column block, the output's contents not named. -/
module

public import proofs.«01_k».proof.Proof.Words.RunB

@[expose] public section

-- membership in a rectangle of production extents (`View.cover_of_tiled`): the elaborator's structural look
-- recurses once per coordinate of the long axes
set_option maxRecDepth 16384

noncomputable section

namespace Cert.Kernel.Words

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1344000 in
/-- The pieces the body's stores leave in the widened weights' scratch, last first, with the proof that from the inputs'
    buffers at their contents the body runs to them, the other buffers at some contents. -/
noncomputable def kernelRun0_C (c : Dev nD) (i : grid0.Coords) (arg1 : Memref sig .tc .vmem S256x4096 .bf16) (harg1 : arg1.IsWhole) (arg2 : Memref sig .tc .vmem S256x1536 .i8) (harg2 : arg2.IsWhole) (arg3 : Memref sig .tc .vmem S256x128 .f32) (harg3 : arg3.IsWhole) (arg4 : Memref sig .tc .vmem S1x4096 .f32) (harg4 : arg4.IsWhole) (arg5 : Memref sig .tc .vmem S1536x4096 .i8) (harg5 : arg5.IsWhole) (arg6 : Memref sig .tc .vmem S256x4096 .bf16) (harg6 : arg6.IsWhole) (arg7 : Memref sig .tc .vmem S1536x4096 .bf16) (harg7 : arg7.IsWhole) (arg8 : Memref sig .tc .vmem S2x256x4096 .f32) (harg8 : arg8.IsWhole) (hc0 : cond0_0 i) (hc1 : ¬cond0_1 i) (hc2 : cond0_2 i)
    (x0 : Vec F S256x4096 .bf16) (x1 : Vec F S256x1536 .i8) (x2 : Vec F S256x128 .f32) (x3 : Vec F S1x4096 .f32) (x4 : Vec F S1536x4096 .i8) :
    { LS0 : List (View.Piece (Elt F) S1536x4096 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ f, arg7.view.loc (c : Thread nD τ) ↦[arg7.view.set]{fullShare} arg7.view.writes (Elt F) f LS0) ∗ (∃ d, owns (c : Thread nD τ) arg8 fullShare d)) -∗ K ⟨⟩))
          ⊢ wp frame (wpE (defs₀ (F := F)) Variants.none c none) E (cc0_oproj i arg1 harg1 arg2 harg2 arg3 harg3 arg4 harg4 arg5 harg5 arg6 harg6 arg7 harg7 arg8 harg8) K } := by
  refine ⟨?_, fun E K => ?run⟩
  case run =>
    simp only [cc0_oproj_eq_skeleton]; unfold cc0_oproj_skel
    simp only [k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [HS0]; · iexists _; iexact HS0
    iexists _, _; isplitr; swap; · iexact HS1
    ipureintro; rfl

end Cert.Kernel.Words

end
-- ==== Proof.Words.RunD.lean ====
/- The body's triple on words at the last point, which stores nothing. -/
module

public import proofs.«01_k».proof.Proof.Words.RunC

@[expose] public section

-- membership in a rectangle of production extents (`View.cover_of_tiled`): the elaborator's structural look
-- recurses once per coordinate of the long axes
set_option maxRecDepth 16384

noncomputable section

namespace Cert.Kernel.Words

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- The pieces the body's stores leave in the widened weights' scratch, last first, with the proof that from the inputs'
    buffers at their contents the body runs to them, the other buffers at some contents. -/
noncomputable def kernelRun0_D (c : Dev nD) (i : grid0.Coords) (arg1 : Memref sig .tc .vmem S256x4096 .bf16) (harg1 : arg1.IsWhole) (arg2 : Memref sig .tc .vmem S256x1536 .i8) (harg2 : arg2.IsWhole) (arg3 : Memref sig .tc .vmem S256x128 .f32) (harg3 : arg3.IsWhole) (arg4 : Memref sig .tc .vmem S1x4096 .f32) (harg4 : arg4.IsWhole) (arg5 : Memref sig .tc .vmem S1536x4096 .i8) (harg5 : arg5.IsWhole) (arg6 : Memref sig .tc .vmem S256x4096 .bf16) (harg6 : arg6.IsWhole) (arg7 : Memref sig .tc .vmem S1536x4096 .bf16) (harg7 : arg7.IsWhole) (arg8 : Memref sig .tc .vmem S2x256x4096 .f32) (harg8 : arg8.IsWhole) (hc0 : ¬cond0_0 i) (hc1 : ¬cond0_1 i) (hc2 : ¬cond0_2 i)
    (x0 : Vec F S256x4096 .bf16) (x1 : Vec F S256x1536 .i8) (x2 : Vec F S256x128 .f32) (x3 : Vec F S1x4096 .f32) (x4 : Vec F S1536x4096 .i8) (xs0 : Vec F S1536x4096 .bf16) :
    { LS0 : List (View.Piece (Elt F) S1536x4096 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0 ∗ (∃ d, owns (c : Thread nD τ) arg8 fullShare d)) -∗ K ⟨⟩))
          ⊢ wp frame (wpE (defs₀ (F := F)) Variants.none c none) E (cc0_oproj i arg1 harg1 arg2 harg2 arg3 harg3 arg4 harg4 arg5 harg5 arg6 harg6 arg7 harg7 arg8 harg8) K } := by
  refine ⟨[], fun E K => ?run⟩
  case run =>
    simp only [cc0_oproj_eq_skeleton]; unfold cc0_oproj_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [HS0]
    · iexists _; isplitr; · ipureintro; exact harg7.read_unread _
      iexact HS0
    iexists _, _; isplitr; swap; · iexact HS1
    ipureintro; rfl

end Cert.Kernel.Words

end
-- ==== Proof.Words.Frame.lean ====
/- The projection on words: it runs to its end from any memory and leaves its arguments unchanged and every counter at
   zero. What it leaves in the output is not named here. -/
module

public import proofs.«01_k».proof.Proof.Words.RunD
public import Idealize.ShloMosaic.Lib.Claim

@[expose] public section

-- membership in a rectangle of production extents (`View.cover_of_tiled`): the elaborator's structural look
-- recurses once per coordinate of the long axes
set_option maxRecDepth 16384

noncomputable section

namespace Cert.Kernel.Words

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg7`, which the kernel carries between points, cover it: 6 pieces of `S256x4096` tiling it (Lib/Ring.lean `Piece.tiledL`). -/
theorem scover0_A_0 (c : Dev nD) (i : grid0.Coords) (arg1 : Memref sig .tc .vmem S256x4096 .bf16) (harg1 : arg1.IsWhole) (arg2 : Memref sig .tc .vmem S256x1536 .i8) (harg2 : arg2.IsWhole) (arg3 : Memref sig .tc .vmem S256x128 .f32) (harg3 : arg3.IsWhole) (arg4 : Memref sig .tc .vmem S1x4096 .f32) (harg4 : arg4.IsWhole) (arg5 : Memref sig .tc .vmem S1536x4096 .i8) (harg5 : arg5.IsWhole) (arg6 : Memref sig .tc .vmem S256x4096 .bf16) (harg6 : arg6.IsWhole) (arg7 : Memref sig .tc .vmem S1536x4096 .bf16) (harg7 : arg7.IsWhole) (arg8 : Memref sig .tc .vmem S2x256x4096 .f32) (harg8 : arg8.IsWhole) (hc0 : cond0_0 i) (hc1 : cond0_1 i) (hc2 : ¬cond0_2 i)
    (x0 : Vec F S256x4096 .bf16) (x1 : Vec F S256x1536 .i8) (x2 : Vec F S256x128 .f32) (x3 : Vec F S1x4096 .f32) (x4 : Vec F S1536x4096 .i8) (y : S1536x4096.Idx) :
    ∃ pc ∈ (kernelRun0_A c i arg1 harg1 arg2 harg2 arg3 harg3 arg4 harg4 arg5 harg5 arg6 harg6 arg7 harg7 arg8 harg8 hc0 hc1 hc2 x0 x1 x2 x3 x4).1, y ∈ pc.1.set :=
  View.cover_of_tiledL (kernelRun0_A c i arg1 harg1 arg2 harg2 arg3 harg3 arg4 harg4 arg5 harg5 arg6 harg6 arg7 harg7 arg8 harg8 hc0 hc1 hc2 x0 x1 x2 x3 x4).1 S256x4096.size (by sl_kernel_rfl) y

/-- What case A leaves in scratch `arg7`: its pieces read back over junk. -/
def sout0_A_0 (c : Dev nD) (i : grid0.Coords) (arg1 : Memref sig .tc .vmem S256x4096 .bf16) (harg1 : arg1.IsWhole) (arg2 : Memref sig .tc .vmem S256x1536 .i8) (harg2 : arg2.IsWhole) (arg3 : Memref sig .tc .vmem S256x128 .f32) (harg3 : arg3.IsWhole) (arg4 : Memref sig .tc .vmem S1x4096 .f32) (harg4 : arg4.IsWhole) (arg5 : Memref sig .tc .vmem S1536x4096 .i8) (harg5 : arg5.IsWhole) (arg6 : Memref sig .tc .vmem S256x4096 .bf16) (harg6 : arg6.IsWhole) (arg7 : Memref sig .tc .vmem S1536x4096 .bf16) (harg7 : arg7.IsWhole) (arg8 : Memref sig .tc .vmem S2x256x4096 .f32) (harg8 : arg8.IsWhole) (hc0 : cond0_0 i) (hc1 : cond0_1 i) (hc2 : ¬cond0_2 i)
    (x0 : Vec F S256x4096 .bf16) (x1 : Vec F S256x1536 .i8) (x2 : Vec F S256x128 .f32) (x3 : Vec F S1x4096 .f32) (x4 : Vec F S1536x4096 .i8) : Vec F S1536x4096 .bf16 :=
  VS0_0.read (Elt F) (VS0_0.writes (Elt F) VS0_0.junk (kernelRun0_A c i arg1 harg1 arg2 harg2 arg3 harg3 arg4 harg4 arg5 harg5 arg6 harg6 arg7 harg7 arg8 harg8 hc0 hc1 hc2 x0 x1 x2 x3 x4).1)

/-- Case B stores nothing into scratch `arg7`: it holds what the point before left. -/
def sout0_B_0 (c : Dev nD) (i : grid0.Coords) (arg1 : Memref sig .tc .vmem S256x4096 .bf16) (harg1 : arg1.IsWhole) (arg2 : Memref sig .tc .vmem S256x1536 .i8) (harg2 : arg2.IsWhole) (arg3 : Memref sig .tc .vmem S256x128 .f32) (harg3 : arg3.IsWhole) (arg4 : Memref sig .tc .vmem S1x4096 .f32) (harg4 : arg4.IsWhole) (arg5 : Memref sig .tc .vmem S1536x4096 .i8) (harg5 : arg5.IsWhole) (arg6 : Memref sig .tc .vmem S256x4096 .bf16) (harg6 : arg6.IsWhole) (arg7 : Memref sig .tc .vmem S1536x4096 .bf16) (harg7 : arg7.IsWhole) (arg8 : Memref sig .tc .vmem S2x256x4096 .f32) (harg8 : arg8.IsWhole) (hc0 : ¬cond0_0 i) (hc1 : ¬cond0_1 i) (hc2 : cond0_2 i)
    (x0 : Vec F S256x4096 .bf16) (x1 : Vec F S256x1536 .i8) (x2 : Vec F S256x128 .f32) (x3 : Vec F S1x4096 .f32) (x4 : Vec F S1536x4096 .i8) (xs0 : Vec F S1536x4096 .bf16) : Vec F S1536x4096 .bf16 := xs0

/-- Case C's pieces for scratch `arg7`, which the kernel carries between points, cover it: 6 pieces of `S256x4096` tiling it (Lib/Ring.lean `Piece.tiledL`). -/
theorem scover0_C_0 (c : Dev nD) (i : grid0.Coords) (arg1 : Memref sig .tc .vmem S256x4096 .bf16) (harg1 : arg1.IsWhole) (arg2 : Memref sig .tc .vmem S256x1536 .i8) (harg2 : arg2.IsWhole) (arg3 : Memref sig .tc .vmem S256x128 .f32) (harg3 : arg3.IsWhole) (arg4 : Memref sig .tc .vmem S1x4096 .f32) (harg4 : arg4.IsWhole) (arg5 : Memref sig .tc .vmem S1536x4096 .i8) (harg5 : arg5.IsWhole) (arg6 : Memref sig .tc .vmem S256x4096 .bf16) (harg6 : arg6.IsWhole) (arg7 : Memref sig .tc .vmem S1536x4096 .bf16) (harg7 : arg7.IsWhole) (arg8 : Memref sig .tc .vmem S2x256x4096 .f32) (harg8 : arg8.IsWhole) (hc0 : cond0_0 i) (hc1 : ¬cond0_1 i) (hc2 : cond0_2 i)
    (x0 : Vec F S256x4096 .bf16) (x1 : Vec F S256x1536 .i8) (x2 : Vec F S256x128 .f32) (x3 : Vec F S1x4096 .f32) (x4 : Vec F S1536x4096 .i8) (y : S1536x4096.Idx) :
    ∃ pc ∈ (kernelRun0_C c i arg1 harg1 arg2 harg2 arg3 harg3 arg4 harg4 arg5 harg5 arg6 harg6 arg7 harg7 arg8 harg8 hc0 hc1 hc2 x0 x1 x2 x3 x4).1, y ∈ pc.1.set :=
  View.cover_of_tiledL (kernelRun0_C c i arg1 harg1 arg2 harg2 arg3 harg3 arg4 harg4 arg5 harg5 arg6 harg6 arg7 harg7 arg8 harg8 hc0 hc1 hc2 x0 x1 x2 x3 x4).1 S256x4096.size (by sl_kernel_rfl) y

/-- What case C leaves in scratch `arg7`: its pieces read back over junk. -/
def sout0_C_0 (c : Dev nD) (i : grid0.Coords) (arg1 : Memref sig .tc .vmem S256x4096 .bf16) (harg1 : arg1.IsWhole) (arg2 : Memref sig .tc .vmem S256x1536 .i8) (harg2 : arg2.IsWhole) (arg3 : Memref sig .tc .vmem S256x128 .f32) (harg3 : arg3.IsWhole) (arg4 : Memref sig .tc .vmem S1x4096 .f32) (harg4 : arg4.IsWhole) (arg5 : Memref sig .tc .vmem S1536x4096 .i8) (harg5 : arg5.IsWhole) (arg6 : Memref sig .tc .vmem S256x4096 .bf16) (harg6 : arg6.IsWhole) (arg7 : Memref sig .tc .vmem S1536x4096 .bf16) (harg7 : arg7.IsWhole) (arg8 : Memref sig .tc .vmem S2x256x4096 .f32) (harg8 : arg8.IsWhole) (hc0 : cond0_0 i) (hc1 : ¬cond0_1 i) (hc2 : cond0_2 i)
    (x0 : Vec F S256x4096 .bf16) (x1 : Vec F S256x1536 .i8) (x2 : Vec F S256x128 .f32) (x3 : Vec F S1x4096 .f32) (x4 : Vec F S1536x4096 .i8) : Vec F S1536x4096 .bf16 :=
  VS0_0.read (Elt F) (VS0_0.writes (Elt F) VS0_0.junk (kernelRun0_C c i arg1 harg1 arg2 harg2 arg3 harg3 arg4 harg4 arg5 harg5 arg6 harg6 arg7 harg7 arg8 harg8 hc0 hc1 hc2 x0 x1 x2 x3 x4).1)

/-- Case D stores nothing into scratch `arg7`: it holds what the point before left. -/
def sout0_D_0 (c : Dev nD) (i : grid0.Coords) (arg1 : Memref sig .tc .vmem S256x4096 .bf16) (harg1 : arg1.IsWhole) (arg2 : Memref sig .tc .vmem S256x1536 .i8) (harg2 : arg2.IsWhole) (arg3 : Memref sig .tc .vmem S256x128 .f32) (harg3 : arg3.IsWhole) (arg4 : Memref sig .tc .vmem S1x4096 .f32) (harg4 : arg4.IsWhole) (arg5 : Memref sig .tc .vmem S1536x4096 .i8) (harg5 : arg5.IsWhole) (arg6 : Memref sig .tc .vmem S256x4096 .bf16) (harg6 : arg6.IsWhole) (arg7 : Memref sig .tc .vmem S1536x4096 .bf16) (harg7 : arg7.IsWhole) (arg8 : Memref sig .tc .vmem S2x256x4096 .f32) (harg8 : arg8.IsWhole) (hc0 : ¬cond0_0 i) (hc1 : ¬cond0_1 i) (hc2 : ¬cond0_2 i)
    (x0 : Vec F S256x4096 .bf16) (x1 : Vec F S256x1536 .i8) (x2 : Vec F S256x128 .f32) (x3 : Vec F S1x4096 .f32) (x4 : Vec F S1536x4096 .i8) (xs0 : Vec F S1536x4096 .bf16) : Vec F S1536x4096 .bf16 := xs0

/-! ## What the outputs hold after each point -/

/-- THE ACCUMULATION. What the outputs' staging buffers and the scratch the kernel carries between points hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1536x4096 .bf16
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (by (try dsimp only); omega)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩)
  | n + 1, hn =>
    if h0 : ((n + 1) % 73 = 0 ∨ (n + 1) % 73 = 24 ∨ (n + 1) % 73 = 48) then
      if h1 : (n + 1) % 73 = 0 then
        if h2 : (1 ≤ (n + 1) % 73 ∧ (n + 1) % 73 ≤ 71) then
          False.elim (by have hN : n + 1 < 73 := lt_of_lt_of_eq hn (show cfg0.N = 73 from N_0); omega)
        else
          sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩)
      else
        if h2 : (1 ≤ (n + 1) % 73 ∧ (n + 1) % 73 ≤ 71) then
          sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩)
        else
          False.elim (by have hN : n + 1 < 73 := lt_of_lt_of_eq hn (show cfg0.N = 73 from N_0); omega)
    else
      if h1 : (n + 1) % 73 = 0 then
        False.elim (by have hN : n + 1 < 73 := lt_of_lt_of_eq hn (show cfg0.N = 73 from N_0); omega)
      else
        if h2 : (1 ≤ (n + 1) % 73 ∧ (n + 1) % 73 ≤ 71) then
          sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn))
        else
          sout0_D_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn))

/-- `outsAt0` at a point of case A: that case's contents. -/
theorem outsAt0_A (c : Dev nD) (t : Fin cfg0.N) (h0 : (t.val % 73 = 0 ∨ t.val % 73 = 24 ∨ t.val % 73 = 48)) (h1 : t.val % 73 = 0) (h2 : ¬(1 ≤ t.val % 73 ∧ t.val % 73 ≤ 71)) :
    outsAt0 m c t.val t.isLt = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) := by
  obtain ⟨n, hn⟩ := t
  cases n with
  | zero => exact rfl
  | succ n => exact (dif_pos h0).trans ((dif_pos h1).trans ((dif_neg h2).trans rfl))

/-- `outsAt0` at a point of case B: that case's contents, over what the point before left. -/
theorem outsAt0_B (c : Dev nD) (t : Fin cfg0.N) (h0 : ¬(t.val % 73 = 0 ∨ t.val % 73 = 24 ∨ t.val % 73 = 48)) (h1 : ¬t.val % 73 = 0) (h2 : (1 ≤ t.val % 73 ∧ t.val % 73 ≤ 71)) :
    outsAt0 m c t.val t.isLt = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)) := by
  obtain ⟨n, hn⟩ := t
  cases n with
  | zero => exact (by exfalso; (try dsimp only at h0); exact by omega)
  | succ n => exact (dif_neg h0).trans ((dif_neg h1).trans ((dif_pos h2).trans rfl))

/-- `outsAt0` at a point of case C: that case's contents. -/
theorem outsAt0_C (c : Dev nD) (t : Fin cfg0.N) (h0 : (t.val % 73 = 0 ∨ t.val % 73 = 24 ∨ t.val % 73 = 48)) (h1 : ¬t.val % 73 = 0) (h2 : (1 ≤ t.val % 73 ∧ t.val % 73 ≤ 71)) :
    outsAt0 m c t.val t.isLt = sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) ((hcond0_2 t).mpr h2) (iblk m c 0 t) (iblk m c 1 t) (iblk m c 2 t) (iblk m c 3 t) (iblk m c 4 t) := by
  obtain ⟨n, hn⟩ := t
  cases n with
  | zero => exact (by exfalso; (try dsimp only at h1); exact absurd (Nat.zero_mod _) h1)
  | succ n => exact (dif_pos h0).trans ((dif_neg h1).trans ((dif_pos h2).trans rfl))

/-- `outsAt0` at a point of case D: that case's contents, over what the point before left. -/
theorem outsAt0_D (c : Dev nD) (t : Fin cfg0.N) (h0 : ¬(t.val % 73 = 0 ∨ t.val % 73 = 24 ∨ t.val % 73 = 48)) (h1 : ¬t.val % 73 = 0) (h2 : ¬(1 ≤ t.val % 73 ∧ t.val % 73 ≤ 71)) :
    outsAt0 m c t.val t.isLt = sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)) := by
  obtain ⟨n, hn⟩ := t
  cases n with
  | zero => exact (by exfalso; (try dsimp only at h0); exact by omega)
  | succ n => exact (dif_neg h0).trans ((dif_neg h1).trans ((dif_neg h2).trans rfl))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn)) ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn)) ∗ (∃ d, owns (c : Thread nD τ) scM0_1 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega))) ∗ (∃ d, owns (c : Thread nD τ) scM0_1 fullShare d)) ∗ (∃ r, prngReg c r)) := by
  cases n with
  | zero => exact absurd rfl hz
  | succ n => rfl

/-! ## The pipeline's proof data -/

/-- The output windows this certificate FORGETS (5): nothing reads what the kernel leaves in them, so nothing
    of it is named (Lib/Pipeline/Dat.lean `Dat.toRForget`). -/
def forgets0 : Fin 6 → Bool := fun w => w.val == 5

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (∃ d, owns (c : Thread nD τ) (ms0_5 t) fullShare d))

set_option maxHeartbeats 12800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 73 := lt_of_lt_of_eq t.isLt (show cfg0.N = 73 from N_0)
  by_cases h0 : (t.val % 73 = 0 ∨ t.val % 73 = 24 ∨ t.val % 73 = 48)
  · by_cases h1 : t.val % 73 = 0
    · by_cases h2 : (1 ≤ t.val % 73 ∧ t.val % 73 ≤ 71)
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        by_cases hz : t.val = 0
        · rw [PhiS_castSucc m c t, PhiS_zero m c _ _ hz, PhiA0_eq]
          rw [outsAt0_A m c t h0 h1 h2]
          unfold sout0_A_0
          iintro ⟨⟨⟨HS0, HS1⟩, Hg⟩, Ho, ⟨%d0, H0⟩, ⟨%d1, H1⟩, ⟨%d2, H2⟩, ⟨%d3, H3⟩, ⟨%d4, H4⟩, ⟨%d5, H5⟩⟩
          iapply ((kernelRun0_A c (grid0.coords t) _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t)).2 Set.univ _)
          isplitl [H0]; · iexact H0
          isplitl [H1]; · iexact H1
          isplitl [H2]; · iexact H2
          isplitl [H3]; · iexact H3
          isplitl [H4]; · iexact H4
          isplitl [H5]; · iexists _; iexact H5
          isplitl [HS0]; · iexact HS0
          isplitl [HS1]; · iexact HS1
          iintro ⟨H0, H1, H2, H3, H4, H5, ⟨%es0, HS0⟩, HS1⟩
          isplitl [HS0 HS1 Hg]
          · isplitl [HS0 HS1]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _)
              iexact HS1
            iexact Hg
          isplitl [Ho]; · iexact Ho
          isplitl [H0]; · iexact H0
          isplitl [H1]; · iexact H1
          isplitl [H2]; · iexact H2
          isplitl [H3]; · iexact H3
          isplitl [H4]; · iexact H4
          iexact H5
        · exfalso; have hN : t.val < 73 := lt_of_lt_of_eq t.isLt (show cfg0.N = 73 from N_0); omega
    · by_cases h2 : (1 ≤ t.val % 73 ∧ t.val % 73 ≤ 71)
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        by_cases hz : t.val = 0
        · exfalso; have hN : t.val < 73 := lt_of_lt_of_eq t.isLt (show cfg0.N = 73 from N_0); omega
        · rw [PhiS_castSucc m c t, PhiS_pos m c _ _ hz]
          rw [outsAt0_C m c t h0 h1 h2]
          unfold sout0_C_0
          iintro ⟨⟨⟨HS0, HS1⟩, Hg⟩, Ho, ⟨%d0, H0⟩, ⟨%d1, H1⟩, ⟨%d2, H2⟩, ⟨%d3, H3⟩, ⟨%d4, H4⟩, ⟨%d5, H5⟩⟩
          iapply ((kernelRun0_C c (grid0.coords t) _ _ _ _ _ _ _ _ _ _ _ _ _ _ _ _ ((hcond0_0 t).mpr h0) (fun h => h1 ((hcond0_1 t).mp h)) ((hcond0_2 t).mpr h2) (iblk m c 0 t) (iblk m c 1 t) (iblk m c 2 t) (iblk m c 3 t) (iblk m c 4 t)).2 Set.univ _)
          isplitl [H0]; · iexact H0
          isplitl [H1]; · iexact H1
          isplitl [H2]; · iexact H2
          isplitl [H3]; · iexact H3
          isplitl [H4]; · iexact H4
          isplitl [H5]; · iexists _; iexact H5
          isplitl [HS0]; · iexists _; iexact HS0
          isplitl [HS1]; · iexact HS1
          iintro ⟨H0, H1, H2, H3, H4, H5, ⟨%es0, HS0⟩, HS1⟩
          isplitl [HS0 HS1 Hg]
          · isplitl [HS0 HS1]
            · isplitl [HS0]
              · unfold owns; iexists _; isplitr
                swap; · iexact HS0
                ipureintro; exact View.read_writes_of_cover _ _ _ _ _ (scover0_C_0 c _ _ _ _ _ _ _ _ _ _ _ _ _ _ _ _ _ _ _ _ _ _ _ _ _)
              iexact HS1
            iexact Hg
          isplitl [Ho]; · iexact Ho
          isplitl [H0]; · iexact H0
          isplitl [H1]; · iexact H1
          isplitl [H2]; · iexact H2
          isplitl [H3]; · iexact H3
          isplitl [H4]; · iexact H4
          iexact H5
      · exfalso; omega
  · by_cases h1 : t.val % 73 = 0
    · exfalso; omega
    · by_cases h2 : (1 ≤ t.val % 73 ∧ t.val % 73 ≤ 71)
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        by_cases hz : t.val = 0
        · exfalso; have hN : t.val < 73 := lt_of_lt_of_eq t.isLt (show cfg0.N = 73 from N_0); omega
        · rw [PhiS_castSucc m c t, PhiS_pos m c _ _ hz]
          rw [outsAt0_B m c t h0 h1 h2]
          unfold sout0_B_0
          iintro ⟨⟨⟨HS0, HS1⟩, Hg⟩, Ho, ⟨%d0, H0⟩, ⟨%d1, H1⟩, ⟨%d2, H2⟩, ⟨%d3, H3⟩, ⟨%d4, H4⟩, ⟨%d5, H5⟩⟩
          iapply ((kernelRun0_B c (grid0.coords t) _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) _).2 Set.univ _)
          isplitl [H0]; · iexact H0
          isplitl [H1]; · iexact H1
          isplitl [H2]; · iexact H2
          isplitl [H3]; · iexact H3
          isplitl [H4]; · iexact H4
          isplitl [H5]; · iexists _; iexact H5
          isplitl [HS0]; · iexact HS0
          isplitl [HS1]; · iexact HS1
          iintro ⟨H0, H1, H2, H3, H4, H5, HS0, HS1⟩
          isplitl [HS0 HS1 Hg]
          · isplitl [HS0 HS1]
            · isplitl [HS0]
              · iexact HS0
              iexact HS1
            iexact Hg
          isplitl [Ho]; · iexact Ho
          isplitl [H0]; · iexact H0
          isplitl [H1]; · iexact H1
          isplitl [H2]; · iexact H2
          isplitl [H3]; · iexact H3
          isplitl [H4]; · iexact H4
          iexact H5
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        by_cases hz : t.val = 0
        · exfalso; have hN : t.val < 73 := lt_of_lt_of_eq t.isLt (show cfg0.N = 73 from N_0); omega
        · rw [PhiS_castSucc m c t, PhiS_pos m c _ _ hz]
          rw [outsAt0_D m c t h0 h1 h2]
          unfold sout0_D_0
          iintro ⟨⟨⟨HS0, HS1⟩, Hg⟩, Ho, ⟨%d0, H0⟩, ⟨%d1, H1⟩, ⟨%d2, H2⟩, ⟨%d3, H3⟩, ⟨%d4, H4⟩, ⟨%d5, H5⟩⟩
          iapply ((kernelRun0_D c (grid0.coords t) _ _ _ _ _ _ _ _ _ _ _ _ _ _ _ _ (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) _).2 Set.univ _)
          isplitl [H0]; · iexact H0
          isplitl [H1]; · iexact H1
          isplitl [H2]; · iexact H2
          isplitl [H3]; · iexact H3
          isplitl [H4]; · iexact H4
          isplitl [H5]; · iexists _; iexact H5
          isplitl [HS0]; · iexact HS0
          isplitl [HS1]; · iexact HS1
          iintro ⟨H0, H1, H2, H3, H4, H5, HS0, HS1⟩
          isplitl [HS0 HS1 Hg]
          · isplitl [HS0 HS1]
            · isplitl [HS0]
              · iexact HS0
              iexact HS1
            iexact Hg
          isplitl [Ho]; · iexact Ho
          isplitl [H0]; · iexact H0
          isplitl [H1]; · iexact H1
          isplitl [H2]; · iexact H2
          isplitl [H3]; · iexact H3
          isplitl [H4]; · iexact H4
          iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 73 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (window 5) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (fun c => (dats m 0 c).toRForget forgets0) (A_eq m) (run_main m ρ)

/-- The program runs to its end from any memory, leaves its arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Words

end
-- ==== Proof.Send.Cases.lean ====
/- The cases of the projection's body: its conditions over the grid's points, its staging buffers and its scratch. -/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Send

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- Condition 0 of the body at grid point `i`. -/
abbrev cond0_0 (i : grid0.Coords) : Prop := k0_cond1 i = 1#1
/-- It holds at points 0, 24 and 48 only — decided over the grid. -/
theorem hcond0_0 : ∀ t : Fin cfg0.N, cond0_0 (grid0.coords t) ↔ (t.val % 73 = 0 ∨ t.val % 73 = 24 ∨ t.val % 73 = 48) :=
  (by decide +kernel : ∀ t : Fin grid0.N, cond0_0 (grid0.coords t) ↔ (t.val % 73 = 0 ∨ t.val % 73 = 24 ∨ t.val % 73 = 48))

/-- Condition 1 of the body at grid point `i`. -/
abbrev cond0_1 (i : grid0.Coords) : Prop := k0_cond2 i = 1#1
/-- It holds at the first point only — by arithmetic of the point. -/
theorem hcond0_1 : ∀ t : Fin cfg0.N, cond0_1 (grid0.coords t) ↔ t.val % 73 = 0 :=
  (fun t => by
    have ht : t.val < 73 := Nat.lt_of_lt_of_eq t.isLt N_0
    have e0 : (grid0.coords t 0).val = t.val / 1 % 73 := Pipeline.Grid.coords_val t 0 (by decide) rfl
    simp only [cond0_1, k0_cond2, e0]
    word_cmp
   : ∀ t : Fin grid0.N, cond0_1 (grid0.coords t) ↔ t.val % 73 = 0)

/-- Condition 2 of the body at grid point `i`. -/
abbrev cond0_2 (i : grid0.Coords) : Prop := k0_cond3 i = 1#1
/-- It holds at the points whose coordinates have 1 ≤ i0 and i0 ≤ 71 — decided over the grid. -/
theorem hcond0_2 : ∀ t : Fin cfg0.N, cond0_2 (grid0.coords t) ↔ (1 ≤ t.val % 73 ∧ t.val % 73 ≤ 71) :=
  (by decide +kernel : ∀ t : Fin grid0.N, cond0_2 (grid0.coords t) ↔ (1 ≤ t.val % 73 ∧ t.val % 73 ≤ 71))

/-! ## Where the windows are idle -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S256x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1536 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x4096 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1536x4096 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x4096 .bf16 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S1536x4096 .bf16 := Memref.whole cc0_scratch0
abbrev scM0_1 : Memref sig .tc .vmem S2x256x4096 .f32 := Memref.whole cc0_scratch1
/-- The scratch `arg7` the kernel carries between points, as a view: what it holds is stated through it. -/
abbrev VS0_0 : View sig .tc .vmem S1536x4096 .bf16 := scM0_0.view

/-- The result's staging buffer, as a view. -/
abbrev VO0_5 : View sig .tc .vmem S256x4096 .bf16 := (Memref.whole cc0_stg5_0 : Memref sig .tc .vmem S256x4096 .bf16).view

/-- The result's window is not idle where a branch of the body stores into it. -/
theorem liveAt0_5_A : ∀ t : Fin cfg0.N, cond0_1 (grid0.coords t) → cfg0.idle 5 (grid0.coords t) = false := by decide +kernel
theorem liveAt0_5_B : ∀ t : Fin cfg0.N, cond0_2 (grid0.coords t) → cfg0.idle 5 (grid0.coords t) = false := by decide +kernel
/-- It is idle at the last point, which writes it back. -/
theorem idleAt0_5_D : ∀ t : Fin cfg0.N, t.val = 72 → cfg0.idle 5 (grid0.coords t) = true := by decide +kernel
theorem flushAt0_5_D : ∀ t : Fin cfg0.N, t.val = 72 → (cfg0.win 5).flush t = true := by decide +kernel
theorem flushAt0_5_71 : ∀ t : Fin cfg0.N, t.val = 71 → (cfg0.win 5).flush t = false := by decide +kernel

/-- The region's invariant, the scratch buffers owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Send

end
-- ==== Proof.Send.RunA.lean ====
/- The projection's body, run at the first point (the weights widened, then the product): what its stores leave, found by the run. -/
module

public import proofs.«01_k».proof.Proof.Send.Cases

@[expose] public section

set_option maxRecDepth 16384

noncomputable section

namespace Cert.KernelIdeal.Send

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1344000 in
/-- The body at the first point (the weights widened, then the product): the pieces its stores leave in the output's buffer (and, where it widens the weights, in their
    scratch), last first, with the proof that from the inputs' buffers at their contents the body runs to them. -/
noncomputable def kernelRun0_A (c : Dev nD) (i : grid0.Coords) (arg1 : Memref sig .tc .vmem S256x4096 .bf16) (harg1 : arg1.IsWhole) (arg2 : Memref sig .tc .vmem S256x1536 .i8) (harg2 : arg2.IsWhole) (arg3 : Memref sig .tc .vmem S256x128 .f32) (harg3 : arg3.IsWhole) (arg4 : Memref sig .tc .vmem S1x4096 .f32) (harg4 : arg4.IsWhole) (arg5 : Memref sig .tc .vmem S1536x4096 .i8) (harg5 : arg5.IsWhole) (arg6 : Memref sig .tc .vmem S256x4096 .bf16) (harg6 : arg6.IsWhole) (arg7 : Memref sig .tc .vmem S1536x4096 .bf16) (harg7 : arg7.IsWhole) (arg8 : Memref sig .tc .vmem S2x256x4096 .f32) (harg8 : arg8.IsWhole) (hc0 : cond0_0 i) (hc1 : cond0_1 i) (hc2 : ¬cond0_2 i)
    (x0 : Vec F S256x4096 .bf16) (x1 : Vec F S256x1536 .i8) (x2 : Vec F S256x128 .f32) (x3 : Vec F S1x4096 .f32) (x4 : Vec F S1536x4096 .i8) :
    Σ' (L5 : List (View.Piece (Elt F) S256x4096 .bf16)), { LS0 : List (View.Piece (Elt F) S1536x4096 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ d, owns (c : Thread nD τ) arg8 fullShare d)) -∗ K ⟨⟩))
          ⊢ wp frame (wpE (defs₀ (F := F)) Variants.none c none) E (cc0_oproj i arg1 harg1 arg2 harg2 arg3 harg3 arg4 harg4 arg5 harg5 arg6 harg6 arg7 harg7 arg8 harg8) K } := by
  refine ⟨?_, ?_, fun E K => ?run⟩
  case run =>
    simp only [cc0_oproj_eq_skeleton]; unfold cc0_oproj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    have hrd0 : ∀ (𝒱 : Variants) (c : Dev nD) (bd : Option 𝒱.V) (i : grid0.Coords) (arg1 : Memref sig .tc .vmem S256x4096 .bf16) (harg1 : arg1.IsWhole) (arg2 : Memref sig .tc .vmem S256x1536 .i8) (harg2 : arg2.IsWhole) (arg3 : Memref sig .tc .vmem S256x128 .f32) (harg3 : arg3.IsWhole) (arg4 : Memref sig .tc .vmem S1x4096 .f32) (harg4 : arg4.IsWhole) (arg5 : Memref sig .tc .vmem S1536x4096 .i8) (harg5 : arg5.IsWhole) (arg6 : Memref sig .tc .vmem S256x4096 .bf16) (harg6 : arg6.IsWhole) (arg7 : Memref sig .tc .vmem S1536x4096 .bf16) (harg7 : arg7.IsWhole) (arg8 : Memref sig .tc .vmem S2x256x4096 .f32) (harg8 : arg8.IsWhole) (k0_h1 : k0_cond1 i = 1#1) (X_arg5 : BufTy.Contents (Elt F) arg5.view.ty) (hrdF : BufTy.Contents (Elt F) arg7.view.ty) (hrdB : LoadRect S1536x4096), arg7.view.readAt (Elt F) hrdB (arg7.view.writes (Elt F) hrdF (pb_k0_t1 (F := F) 𝒱 c bd i arg1 harg1 arg2 harg2 arg3 harg3 arg4 harg4 arg5 harg5 arg6 harg6 arg7 harg7 arg8 harg8 k0_h1 X_arg5 (Scf.trips k0_t1_loop.lb k0_t1_loop.ub k0_t1_loop.st))) = arg7.view.readCov (pb_k0_t1 (F := F) 𝒱 c bd i arg1 harg1 arg2 harg2 arg3 harg3 arg4 harg4 arg5 harg5 arg6 harg6 arg7 harg7 arg8 harg8 k0_h1 X_arg5 (Scf.trips k0_t1_loop.lb k0_t1_loop.ub k0_t1_loop.st)) hrdB := fun 𝒱 c bd i arg1 harg1 arg2 harg2 arg3 harg3 arg4 harg4 arg5 harg5 arg6 harg6 arg7 harg7 arg8 harg8 k0_h1 X_arg5 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 k0_h1 X_arg5 (Scf.trips k0_t1_loop.lb k0_t1_loop.ub k0_t1_loop.st)) S256x4096.size (by sl_kernel_rfl) (hrdB.idx hrdJ))
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [HS0]; · iexists _; iexact HS0
    iexists _, _; isplitr; swap; · iexact HS1
    ipureintro; rfl

end Cert.KernelIdeal.Send

end
-- ==== Proof.Send.Tiles.lean ====
/- What the projection's body computes of one block: the closed form `sendv` of a block of the result, and each stored
   `256 × 128` tile as the tile of `sendv` its rectangle names. -/
module

public import proofs.«01_k».proof.Proof.Gen.KernelIdeal.Skeleton
public import Idealize.ShloMosaic.Lib.Pointwise
public import Idealize.ShloMosaic.Lib.Pipeline.Value

@[expose] public section

set_option maxRecDepth 16384

noncomputable section

namespace Cert.KernelIdeal.Send

open Cert.KernelIdeal Cert.KernelIdeal.Gen
open Idealize.ShloMosaic

/-- A block of the weights, widened element by element. -/
def wbv (x4 : Vec Ideal S1536x4096 .i8) : Vec Ideal S1536x4096 .bf16 := fun y => (FloatOps.sitofp .bf16 (x4 y) : Ideal .bf16)

/-- One block of the result: the product of the block of codes with the widened weights, times the row's scale (every
    lane of the staged scales holds it), times the column's scale, plus an eighth of the residual. -/
def sendv (x0 : Vec Ideal S256x4096 .bf16) (x1 : Vec Ideal S256x1536 .i8) (x2 : Vec Ideal S256x128 .f32)
    (x3 : Vec Ideal S1x4096 .f32) (wb : Vec Ideal S1536x4096 .bf16) : Vec Ideal S256x4096 .bf16 := fun y =>
  (∑ k : Fin 1536, (FloatOps.sitofp .bf16 (x1 (ix2 (y 0) k)) : Ideal .bf16) * wb (ix2 k (y 1)))
      * x2 (ix2 (y 0) ⟨(y 1).val % 128, Nat.mod_lt _ (by decide)⟩) * x3 (ix2 0 (y 1))
    + x0 y * Ideal.ofBits .f32 0x3E000000#32

section
variable (x0 : Vec Ideal S256x4096 .bf16) (x1 : Vec Ideal S256x1536 .i8) (x2 : Vec Ideal S256x128 .f32)
  (x3 : Vec Ideal S1x4096 .f32) (wb : Vec Ideal S1536x4096 .bf16)

/-- The index a tile at column `o` names. -/
theorem emb_tile (o : ℕ) (h : ∀ a, (![0, o] : Fin 2 → ℕ) a + (![256, 128] : Fin 2 → ℕ) a ≤ S256x4096.size a) (r : Fin 256) (l : Fin 128) :
    (Rect.unit (s := S256x4096) ![0, o] ![256, 128] h).emb (ix2 r l) = ix2 r ⟨o + l.val, by have := h 1; simp at this; omega⟩ := by
  funext a; fin_cases a
  · apply Fin.ext; simp [Rect.emb, Rect.unit]
  · apply Fin.ext; simp [Rect.emb, Rect.unit]

/-- The first tile of a product at columns `w … w + 511`: the tile of `sendv` at column `w + 0`. -/
theorem piece0 (w o : ℕ) (ho : o = w + 0) (hd : w % 128 = 0)
    (hA : ∀ a, (![0, 0] : Fin 2 → ℕ) a + (![256, 1536] : Fin 2 → ℕ) a ≤ S256x1536.size a)
    (hS : ∀ a, (![0, 0] : Fin 2 → ℕ) a + (![256, 128] : Fin 2 → ℕ) a ≤ S256x128.size a)
    (hW : ∀ a, (![0, w] : Fin 2 → ℕ) a + (![1536, 512] : Fin 2 → ℕ) a ≤ S1536x4096.size a)
    (hO : ∀ a, (![0, o] : Fin 2 → ℕ) a + (![1, 128] : Fin 2 → ℕ) a ≤ S1x4096.size a)
    (hX : ∀ a, (![0, o] : Fin 2 → ℕ) a + (![256, 128] : Fin 2 → ℕ) a ≤ S256x4096.size a)
    (x : (Rect.unit (s := S256x4096) ![0, o] ![256, 128] hX).shape.Idx) :
    k0_pay10 (View.ld x1 (Rect.unit ![0, 0] ![256, 1536] hA)) (View.ld x2 (Rect.unit ![0, 0] ![256, 128] hS))
        (View.ld wb (Rect.unit ![0, w] ![1536, 512] hW)) (View.ld x3 (Rect.unit ![0, o] ![1, 128] hO))
        (View.ld x0 (Rect.unit ![0, o] ![256, 128] hX)) x
      = sendv x0 x1 x2 x3 wb ((Rect.unit (s := S256x4096) ![0, o] ![256, 128] hX).emb x) := by
  obtain ⟨r, l, rfl⟩ : ∃ (r : Fin 256) (l : Fin 128), x = ix2 r l := ⟨x 0, x 1, eq_ix2 x⟩
  rw [emb_tile]
  have hb : o + 128 ≤ 4096 := hX 1
  have e1 : (⟨(o + l.val) % 128, Nat.mod_lt _ (by decide)⟩ : Fin 128) = l := Fin.ext (by have := l.isLt; simp only; omega)
  have e2 : ∀ h, (⟨w + (0 + l.val), h⟩ : Fin 4096) = ⟨o + l.val, by have := l.isLt; omega⟩ := fun h => Fin.ext (by simp only; omega)
  have e3 : ∀ h, (⟨w + l.val, h⟩ : Fin 4096) = ⟨w + (0 + l.val), by omega⟩ := fun h => Fin.ext (by simp only; omega)
  pointwise [k0_pay10, k0_pay9, k0_pay8, k0_pay7, k0_pay6, sendv]
  simp only [e1, e3, e2]

/-- The second tile of a product at columns `w … w + 511`: the tile of `sendv` at column `w + 128`. -/
theorem piece1 (w o : ℕ) (ho : o = w + 128) (hd : w % 128 = 0)
    (hA : ∀ a, (![0, 0] : Fin 2 → ℕ) a + (![256, 1536] : Fin 2 → ℕ) a ≤ S256x1536.size a)
    (hS : ∀ a, (![0, 0] : Fin 2 → ℕ) a + (![256, 128] : Fin 2 → ℕ) a ≤ S256x128.size a)
    (hW : ∀ a, (![0, w] : Fin 2 → ℕ) a + (![1536, 512] : Fin 2 → ℕ) a ≤ S1536x4096.size a)
    (hO : ∀ a, (![0, o] : Fin 2 → ℕ) a + (![1, 128] : Fin 2 → ℕ) a ≤ S1x4096.size a)
    (hX : ∀ a, (![0, o] : Fin 2 → ℕ) a + (![256, 128] : Fin 2 → ℕ) a ≤ S256x4096.size a)
    (x : (Rect.unit (s := S256x4096) ![0, o] ![256, 128] hX).shape.Idx) :
    k0_pay13 (View.ld x1 (Rect.unit ![0, 0] ![256, 1536] hA)) (View.ld x2 (Rect.unit ![0, 0] ![256, 128] hS))
        (View.ld wb (Rect.unit ![0, w] ![1536, 512] hW)) (View.ld x3 (Rect.unit ![0, o] ![1, 128] hO))
        (View.ld x0 (Rect.unit ![0, o] ![256, 128] hX)) x
      = sendv x0 x1 x2 x3 wb ((Rect.unit (s := S256x4096) ![0, o] ![256, 128] hX).emb x) := by
  obtain ⟨r, l, rfl⟩ : ∃ (r : Fin 256) (l : Fin 128), x = ix2 r l := ⟨x 0, x 1, eq_ix2 x⟩
  rw [emb_tile]
  have hb : o + 128 ≤ 4096 := hX 1
  have e1 : (⟨(o + l.val) % 128, Nat.mod_lt _ (by decide)⟩ : Fin 128) = l := Fin.ext (by have := l.isLt; simp only; omega)
  have e2 : ∀ h, (⟨w + (128 + l.val), h⟩ : Fin 4096) = ⟨o + l.val, by have := l.isLt; omega⟩ := fun h => Fin.ext (by simp only; omega)
  have e3 : ∀ h, (⟨w + l.val, h⟩ : Fin 4096) = ⟨w + (0 + l.val), by omega⟩ := fun h => Fin.ext (by simp only; omega)
  pointwise [k0_pay13, k0_pay12, k0_pay8, k0_pay7, k0_pay6, sendv]
  simp only [e1, e2]

/-- The third tile of a product at columns `w … w + 511`: the tile of `sendv` at column `w + 256`. -/
theorem piece2 (w o : ℕ) (ho : o = w + 256) (hd : w % 128 = 0)
    (hA : ∀ a, (![0, 0] : Fin 2 → ℕ) a + (![256, 1536] : Fin 2 → ℕ) a ≤ S256x1536.size a)
    (hS : ∀ a, (![0, 0] : Fin 2 → ℕ) a + (![256, 128] : Fin 2 → ℕ) a ≤ S256x128.size a)
    (hW : ∀ a, (![0, w] : Fin 2 → ℕ) a + (![1536, 512] : Fin 2 → ℕ) a ≤ S1536x4096.size a)
    (hO : ∀ a, (![0, o] : Fin 2 → ℕ) a + (![1, 128] : Fin 2 → ℕ) a ≤ S1x4096.size a)
    (hX : ∀ a, (![0, o] : Fin 2 → ℕ) a + (![256, 128] : Fin 2 → ℕ) a ≤ S256x4096.size a)
    (x : (Rect.unit (s := S256x4096) ![0, o] ![256, 128] hX).shape.Idx) :
    k0_pay16 (k0_pay7 (View.ld x2 (Rect.unit ![0, 0] ![256, 128] hS))) (k0_pay8 (View.ld x1 (Rect.unit ![0, 0] ![256, 1536] hA))
        (View.ld wb (Rect.unit ![0, w] ![1536, 512] hW))) (View.ld x3 (Rect.unit ![0, o] ![1, 128] hO))
        (View.ld x0 (Rect.unit ![0, o] ![256, 128] hX)) x
      = sendv x0 x1 x2 x3 wb ((Rect.unit (s := S256x4096) ![0, o] ![256, 128] hX).emb x) := by
  obtain ⟨r, l, rfl⟩ : ∃ (r : Fin 256) (l : Fin 128), x = ix2 r l := ⟨x 0, x 1, eq_ix2 x⟩
  rw [emb_tile]
  have hb : o + 128 ≤ 4096 := hX 1
  have e1 : (⟨(o + l.val) % 128, Nat.mod_lt _ (by decide)⟩ : Fin 128) = l := Fin.ext (by have := l.isLt; simp only; omega)
  have e2 : ∀ h, (⟨w + (256 + l.val), h⟩ : Fin 4096) = ⟨o + l.val, by have := l.isLt; omega⟩ := fun h => Fin.ext (by simp only; omega)
  have e3 : ∀ h, (⟨w + l.val, h⟩ : Fin 4096) = ⟨w + (0 + l.val), by omega⟩ := fun h => Fin.ext (by simp only; omega)
  pointwise [k0_pay16, k0_pay15, k0_pay8, k0_pay7, k0_pay6, sendv]
  simp only [e1, e2]

/-- The fourth tile of a product at columns `w … w + 511`: the tile of `sendv` at column `w + 384`. -/
theorem piece3 (w o : ℕ) (ho : o = w + 384) (hd : w % 128 = 0)
    (hA : ∀ a, (![0, 0] : Fin 2 → ℕ) a + (![256, 1536] : Fin 2 → ℕ) a ≤ S256x1536.size a)
    (hS : ∀ a, (![0, 0] : Fin 2 → ℕ) a + (![256, 128] : Fin 2 → ℕ) a ≤ S256x128.size a)
    (hW : ∀ a, (![0, w] : Fin 2 → ℕ) a + (![1536, 512] : Fin 2 → ℕ) a ≤ S1536x4096.size a)
    (hO : ∀ a, (![0, o] : Fin 2 → ℕ) a + (![1, 128] : Fin 2 → ℕ) a ≤ S1x4096.size a)
    (hX : ∀ a, (![0, o] : Fin 2 → ℕ) a + (![256, 128] : Fin 2 → ℕ) a ≤ S256x4096.size a)
    (x : (Rect.unit (s := S256x4096) ![0, o] ![256, 128] hX).shape.Idx) :
    k0_pay19 (k0_pay7 (View.ld x2 (Rect.unit ![0, 0] ![256, 128] hS))) (k0_pay8 (View.ld x1 (Rect.unit ![0, 0] ![256, 1536] hA))
        (View.ld wb (Rect.unit ![0, w] ![1536, 512] hW))) (View.ld x3 (Rect.unit ![0, o] ![1, 128] hO))
        (View.ld x0 (Rect.unit ![0, o] ![256, 128] hX)) x
      = sendv x0 x1 x2 x3 wb ((Rect.unit (s := S256x4096) ![0, o] ![256, 128] hX).emb x) := by
  obtain ⟨r, l, rfl⟩ : ∃ (r : Fin 256) (l : Fin 128), x = ix2 r l := ⟨x 0, x 1, eq_ix2 x⟩
  rw [emb_tile]
  have hb : o + 128 ≤ 4096 := hX 1
  have e1 : (⟨(o + l.val) % 128, Nat.mod_lt _ (by decide)⟩ : Fin 128) = l := Fin.ext (by have := l.isLt; simp only; omega)
  have e2 : ∀ h, (⟨w + (384 + l.val), h⟩ : Fin 4096) = ⟨o + l.val, by have := l.isLt; omega⟩ := fun h => Fin.ext (by simp only; omega)
  have e3 : ∀ h, (⟨w + l.val, h⟩ : Fin 4096) = ⟨w + (0 + l.val), by omega⟩ := fun h => Fin.ext (by simp only; omega)
  pointwise [k0_pay19, k0_pay18, k0_pay8, k0_pay7, k0_pay6, sendv]
  simp only [e1, e2]

end

end Cert.KernelIdeal.Send

end
-- ==== Proof.Send.Widen.lean ====
/- What the widening loop leaves in the scratch: the block of weights, widened element by element. -/
module

public import proofs.«01_k».proof.Proof.Send.Tiles
public import proofs.«01_k».proof.Proof.Gen.KernelIdeal.Loops
public import Idealize.ShloMosaic.Lib.Ring

@[expose] public section

set_option maxRecDepth 16384

noncomputable section

namespace Cert.KernelIdeal.Send

open Cert.KernelIdeal Cert.KernelIdeal.Gen
open Idealize.ShloMosaic Idealize.ShloMosaic.TcCoe Idealize.SL.Sem

section
variable (c : Dev nD) (i : grid0.Coords) (arg1 : Memref sig .tc .vmem S256x4096 .bf16) (harg1 : arg1.IsWhole) (arg2 : Memref sig .tc .vmem S256x1536 .i8) (harg2 : arg2.IsWhole) (arg3 : Memref sig .tc .vmem S256x128 .f32) (harg3 : arg3.IsWhole)
  (arg4 : Memref sig .tc .vmem S1x4096 .f32) (harg4 : arg4.IsWhole) (arg5 : Memref sig .tc .vmem S1536x4096 .i8) (harg5 : arg5.IsWhole) (arg6 : Memref sig .tc .vmem S256x4096 .bf16) (harg6 : arg6.IsWhole) (arg7 : Memref sig .tc .vmem S1536x4096 .bf16) (harg7 : arg7.IsWhole) (arg8 : Memref sig .tc .vmem S2x256x4096 .f32) (harg8 : arg8.IsWhole)

/-- A block widened and cast to its own shape is the block widened. -/
theorem pay1_eq (v : Vec Ideal S256x4096 .i8) (x : S256x4096.Idx) : k0_pay1 v x = (FloatOps.sitofp .bf16 (v x) : Ideal .bf16) := by
  obtain ⟨r, l, rfl⟩ : ∃ (r : Fin 256) (l : Fin 4096), x = ix2 r l := ⟨x 0, x 1, eq_ix2 x⟩
  pointwise [k0_pay1]

/-- Each piece a trip of the loop stores is the block of `wbv` its rectangle names. -/
theorem trip_pieces (h1 : k0_cond1 i = 1#1) (x4 : Vec Ideal S1536x4096 .i8) (k : Fin k0_t1_loop.trips) :
    ∀ p ∈ (trip_k0_t1 (F := Ideal) Variants.none c none i arg1 harg1 arg2 harg2 arg3 harg3 arg4 harg4 arg5 harg5 arg6 harg6 arg7 harg7 arg8 harg8 h1 (harg5.unread x4) k).1,
      ∀ x : p.1.shape.Idx, p.2 x = wbv x4 (p.1.emb x) := by
  unfold trip_k0_t1
  dsimp only
  refine List.forall_mem_cons.mpr ⟨fun x => ?_, fun _ h => absurd h List.not_mem_nil⟩
  dsimp only
  rw [View.readAt_eq_ld, harg5.read_unread]
  exact pay1_eq _ x

/-- So are the pieces of the trips before `n`. -/
theorem pb_pieces (h1 : k0_cond1 i = 1#1) (x4 : Vec Ideal S1536x4096 .i8) (n : ℕ) :
    ∀ p ∈ pb_k0_t1 (F := Ideal) Variants.none c none i arg1 harg1 arg2 harg2 arg3 harg3 arg4 harg4 arg5 harg5 arg6 harg6 arg7 harg7 arg8 harg8 h1 (harg5.unread x4) n,
      ∀ x : p.1.shape.Idx, p.2 x = wbv x4 (p.1.emb x) := by
  induction n with
  | zero => intro p hp; exact absurd hp List.not_mem_nil
  | succ n ih =>
    by_cases hn : n < k0_t1_loop.trips
    · intro p hp
      rw [pb_k0_t1_succ (k := ⟨n, hn⟩)] at hp
      rcases List.mem_append.mp hp with h | h
      · exact trip_pieces c i arg1 harg1 arg2 harg2 arg3 harg3 arg4 harg4 arg5 harg5 arg6 harg6 arg7 harg7 arg8 harg8 h1 x4 ⟨n, hn⟩ p h
      · exact ih p h
    · intro p hp
      rw [pb_k0_t1.eq_2] at hp; unfold pb_k0_t1Step at hp; rw [dif_neg hn] at hp
      exact ih p hp

/-- The six trips' pieces cover the scratch. -/
theorem pb_cover (h1 : k0_cond1 i = 1#1) (x4 : Vec Ideal S1536x4096 .i8) (y : S1536x4096.Idx) :
    ∃ pc ∈ pb_k0_t1 (F := Ideal) Variants.none c none i arg1 harg1 arg2 harg2 arg3 harg3 arg4 harg4 arg5 harg5 arg6 harg6 arg7 harg7 arg8 harg8 h1 (harg5.unread x4) (Scf.trips (0#32) (Scalar.addi 0#32 6#32) 1#32), y ∈ pc.1.set :=
  View.cover_of_tiledL (pb_k0_t1 (F := Ideal) Variants.none c none i arg1 harg1 arg2 harg2 arg3 harg3 arg4 harg4 arg5 harg5 arg6 harg6 arg7 harg7 arg8 harg8 h1 (harg5.unread x4) (Scf.trips (0#32) (Scalar.addi 0#32 6#32) 1#32)) S256x4096.size (by sl_kernel_rfl) y

/-- A load of the scratch after the loop reads the widened weights. -/
theorem readCov_widened (h1 : k0_cond1 i = 1#1) (x4 : Vec Ideal S1536x4096 .i8) (r : Rect S1536x4096) :
    arg7.view.readCov (pb_k0_t1 (F := Ideal) Variants.none c none i arg1 harg1 arg2 harg2 arg3 harg3 arg4 harg4 arg5 harg5 arg6 harg6 arg7 harg7 arg8 harg8 h1 (harg5.unread x4) (Scf.trips (0#32) (Scalar.addi 0#32 6#32) 1#32)) r.toLoadRect
      = View.ld (wbv x4) r := by
  rw [View.readCov_eq_canon_ld _ _ _ (pb_cover c i arg1 harg1 arg2 harg2 arg3 harg3 arg4 harg4 arg5 harg5 arg6 harg6 arg7 harg7 arg8 harg8 h1 x4)]
  congr 1
  funext y
  exact View.canon_apply_of_pieces _ _ (pb_pieces c i arg1 harg1 arg2 harg2 arg3 harg3 arg4 harg4 arg5 harg5 arg6 harg6 arg7 harg7 arg8 harg8 h1 x4 _) y (pb_cover c i arg1 harg1 arg2 harg2 arg3 harg3 arg4 harg4 arg5 harg5 arg6 harg6 arg7 harg7 arg8 harg8 h1 x4 y)

end

end Cert.KernelIdeal.Send

end
-- ==== Proof.Send.OutA.lean ====
/- The body at the first point: what its stores leave in the result's buffer and in the scratch, in closed form. -/
module

public import proofs.«01_k».proof.Proof.Send.RunA
public import proofs.«01_k».proof.Proof.Send.Widen

@[expose] public section

set_option maxRecDepth 16384

noncomputable section

namespace Cert.KernelIdeal.Send

open Cert.KernelIdeal Cert.KernelIdeal.Gen
open Idealize.ShloMosaic Idealize.ShloMosaic.TcCoe Idealize.ShloMosaic.Tactic Idealize.SL.Sem

section
variable (c : Dev nD) (i : grid0.Coords) (arg1 : Memref sig .tc .vmem S256x4096 .bf16) (harg1 : arg1.IsWhole) (arg2 : Memref sig .tc .vmem S256x1536 .i8) (harg2 : arg2.IsWhole) (arg3 : Memref sig .tc .vmem S256x128 .f32) (harg3 : arg3.IsWhole) (arg4 : Memref sig .tc .vmem S1x4096 .f32) (harg4 : arg4.IsWhole) (arg5 : Memref sig .tc .vmem S1536x4096 .i8) (harg5 : arg5.IsWhole) (arg6 : Memref sig .tc .vmem S256x4096 .bf16) (harg6 : arg6.IsWhole) (arg7 : Memref sig .tc .vmem S1536x4096 .bf16) (harg7 : arg7.IsWhole) (arg8 : Memref sig .tc .vmem S2x256x4096 .f32) (harg8 : arg8.IsWhole)
    (hc0 : cond0_0 i) (hc1 : cond0_1 i) (hc2 : ¬cond0_2 i)
    (x0 : Vec Ideal S256x4096 .bf16) (x1 : Vec Ideal S256x1536 .i8) (x2 : Vec Ideal S256x128 .f32) (x3 : Vec Ideal S1x4096 .f32) (x4 : Vec Ideal S1536x4096 .i8)

/-- Its 32 tiles cover the result's block. -/
theorem coverA (y : S256x4096.Idx) : ∃ pc ∈ (kernelRun0_A (F := Ideal) c i arg1 harg1 arg2 harg2 arg3 harg3 arg4 harg4 arg5 harg5 arg6 harg6 arg7 harg7 arg8 harg8 hc0 hc1 hc2 x0 x1 x2 x3 x4).1, y ∈ pc.1.set :=
  View.cover_of_tiledL (kernelRun0_A (F := Ideal) c i arg1 harg1 arg2 harg2 arg3 harg3 arg4 harg4 arg5 harg5 arg6 harg6 arg7 harg7 arg8 harg8 hc0 hc1 hc2 x0 x1 x2 x3 x4).1 S256x128.size (by sl_kernel_rfl) y

set_option maxHeartbeats 1600000 in
/-- Each of its tiles is the tile of `sendv` its rectangle names. -/
theorem piecesA : ∀ p ∈ (kernelRun0_A (F := Ideal) c i arg1 harg1 arg2 harg2 arg3 harg3 arg4 harg4 arg5 harg5 arg6 harg6 arg7 harg7 arg8 harg8 hc0 hc1 hc2 x0 x1 x2 x3 x4).1, ∀ x : p.1.shape.Idx, p.2 x = sendv x0 x1 x2 x3 (wbv x4) (p.1.emb x) := by
  unfold kernelRun0_A
  dsimp only
  sl_unfold_words
  simp only [readCov_widened c i arg1 harg1 arg2 harg2 arg3 harg3 arg4 harg4 arg5 harg5 arg6 harg6 arg7 harg7 arg8 harg8, View.readAt_eq_ld, harg1.read_unread, harg2.read_unread, harg3.read_unread, harg4.read_unread]
  refine List.forall_mem_cons.mpr ⟨fun x => piece3 x0 x1 x2 x3 (wbv x4) 3584 3968 rfl rfl _ _ _ _ _ x, ?_⟩
  refine List.forall_mem_cons.mpr ⟨fun x => piece2 x0 x1 x2 x3 (wbv x4) 3584 3840 rfl rfl _ _ _ _ _ x, ?_⟩
  refine List.forall_mem_cons.mpr ⟨fun x => piece1 x0 x1 x2 x3 (wbv x4) 3584 3712 rfl rfl _ _ _ _ _ x, ?_⟩
  refine List.forall_mem_cons.mpr ⟨fun x => piece0 x0 x1 x2 x3 (wbv x4) 3584 3584 rfl rfl _ _ _ _ _ x, ?_⟩
  refine List.forall_mem_cons.mpr ⟨fun x => piece3 x0 x1 x2 x3 (wbv x4) 3072 3456 rfl rfl _ _ _ _ _ x, ?_⟩
  refine List.forall_mem_cons.mpr ⟨fun x => piece2 x0 x1 x2 x3 (wbv x4) 3072 3328 rfl rfl _ _ _ _ _ x, ?_⟩
  refine List.forall_mem_cons.mpr ⟨fun x => piece1 x0 x1 x2 x3 (wbv x4) 3072 3200 rfl rfl _ _ _ _ _ x, ?_⟩
  refine List.forall_mem_cons.mpr ⟨fun x => piece0 x0 x1 x2 x3 (wbv x4) 3072 3072 rfl rfl _ _ _ _ _ x, ?_⟩
  refine List.forall_mem_cons.mpr ⟨fun x => piece3 x0 x1 x2 x3 (wbv x4) 2560 2944 rfl rfl _ _ _ _ _ x, ?_⟩
  refine List.forall_mem_cons.mpr ⟨fun x => piece2 x0 x1 x2 x3 (wbv x4) 2560 2816 rfl rfl _ _ _ _ _ x, ?_⟩
  refine List.forall_mem_cons.mpr ⟨fun x => piece1 x0 x1 x2 x3 (wbv x4) 2560 2688 rfl rfl _ _ _ _ _ x, ?_⟩
  refine List.forall_mem_cons.mpr ⟨fun x => piece0 x0 x1 x2 x3 (wbv x4) 2560 2560 rfl rfl _ _ _ _ _ x, ?_⟩
  refine List.forall_mem_cons.mpr ⟨fun x => piece3 x0 x1 x2 x3 (wbv x4) 2048 2432 rfl rfl _ _ _ _ _ x, ?_⟩
  refine List.forall_mem_cons.mpr ⟨fun x => piece2 x0 x1 x2 x3 (wbv x4) 2048 2304 rfl rfl _ _ _ _ _ x, ?_⟩
  refine List.forall_mem_cons.mpr ⟨fun x => piece1 x0 x1 x2 x3 (wbv x4) 2048 2176 rfl rfl _ _ _ _ _ x, ?_⟩
  refine List.forall_mem_cons.mpr ⟨fun x => piece0 x0 x1 x2 x3 (wbv x4) 2048 2048 rfl rfl _ _ _ _ _ x, ?_⟩
  refine List.forall_mem_cons.mpr ⟨fun x => piece3 x0 x1 x2 x3 (wbv x4) 1536 1920 rfl rfl _ _ _ _ _ x, ?_⟩
  refine List.forall_mem_cons.mpr ⟨fun x => piece2 x0 x1 x2 x3 (wbv x4) 1536 1792 rfl rfl _ _ _ _ _ x, ?_⟩
  refine List.forall_mem_cons.mpr ⟨fun x => piece1 x0 x1 x2 x3 (wbv x4) 1536 1664 rfl rfl _ _ _ _ _ x, ?_⟩
  refine List.forall_mem_cons.mpr ⟨fun x => piece0 x0 x1 x2 x3 (wbv x4) 1536 1536 rfl rfl _ _ _ _ _ x, ?_⟩
  refine List.forall_mem_cons.mpr ⟨fun x => piece3 x0 x1 x2 x3 (wbv x4) 1024 1408 rfl rfl _ _ _ _ _ x, ?_⟩
  refine List.forall_mem_cons.mpr ⟨fun x => piece2 x0 x1 x2 x3 (wbv x4) 1024 1280 rfl rfl _ _ _ _ _ x, ?_⟩
  refine List.forall_mem_cons.mpr ⟨fun x => piece1 x0 x1 x2 x3 (wbv x4) 1024 1152 rfl rfl _ _ _ _ _ x, ?_⟩
  refine List.forall_mem_cons.mpr ⟨fun x => piece0 x0 x1 x2 x3 (wbv x4) 1024 1024 rfl rfl _ _ _ _ _ x, ?_⟩
  refine List.forall_mem_cons.mpr ⟨fun x => piece3 x0 x1 x2 x3 (wbv x4) 512 896 rfl rfl _ _ _ _ _ x, ?_⟩
  refine List.forall_mem_cons.mpr ⟨fun x => piece2 x0 x1 x2 x3 (wbv x4) 512 768 rfl rfl _ _ _ _ _ x, ?_⟩
  refine List.forall_mem_cons.mpr ⟨fun x => piece1 x0 x1 x2 x3 (wbv x4) 512 640 rfl rfl _ _ _ _ _ x, ?_⟩
  refine List.forall_mem_cons.mpr ⟨fun x => piece0 x0 x1 x2 x3 (wbv x4) 512 512 rfl rfl _ _ _ _ _ x, ?_⟩
  refine List.forall_mem_cons.mpr ⟨fun x => piece3 x0 x1 x2 x3 (wbv x4) 0 384 rfl rfl _ _ _ _ _ x, ?_⟩
  refine List.forall_mem_cons.mpr ⟨fun x => piece2 x0 x1 x2 x3 (wbv x4) 0 256 rfl rfl _ _ _ _ _ x, ?_⟩
  refine List.forall_mem_cons.mpr ⟨fun x => piece1 x0 x1 x2 x3 (wbv x4) 0 128 rfl rfl _ _ _ _ _ x, ?_⟩
  refine List.forall_mem_cons.mpr ⟨fun x => piece0 x0 x1 x2 x3 (wbv x4) 0 0 rfl rfl _ _ _ _ _ x, ?_⟩
  exact fun _ h => absurd h List.not_mem_nil

/-- So the result's buffer holds `sendv` of the point's blocks. -/
theorem outA (v : View Cert.KernelIdeal.sig .tc .vmem S256x4096 .bf16) (f : v.ty.Contents (Elt Ideal)) :
    v.read (Elt Ideal) (v.writes (Elt Ideal) f (kernelRun0_A (F := Ideal) c i arg1 harg1 arg2 harg2 arg3 harg3 arg4 harg4 arg5 harg5 arg6 harg6 arg7 harg7 arg8 harg8 hc0 hc1 hc2 x0 x1 x2 x3 x4).1) = sendv x0 x1 x2 x3 (wbv x4) := by
  rw [View.read_writes_eq_canon _ _ _ (coverA c i arg1 harg1 arg2 harg2 arg3 harg3 arg4 harg4 arg5 harg5 arg6 harg6 arg7 harg7 arg8 harg8 hc0 hc1 hc2 x0 x1 x2 x3 x4)]
  exact funext fun y => View.canon_apply_of_pieces _ _ (piecesA c i arg1 harg1 arg2 harg2 arg3 harg3 arg4 harg4 arg5 harg5 arg6 harg6 arg7 harg7 arg8 harg8 hc0 hc1 hc2 x0 x1 x2 x3 x4) y (coverA c i arg1 harg1 arg2 harg2 arg3 harg3 arg4 harg4 arg5 harg5 arg6 harg6 arg7 harg7 arg8 harg8 hc0 hc1 hc2 x0 x1 x2 x3 x4 y)

/-- And the scratch the widened block of weights. -/
theorem scratchA (v : View Cert.KernelIdeal.sig .tc .vmem S1536x4096 .bf16) (f : v.ty.Contents (Elt Ideal)) :
    v.read (Elt Ideal) (v.writes (Elt Ideal) f (kernelRun0_A (F := Ideal) c i arg1 harg1 arg2 harg2 arg3 harg3 arg4 harg4 arg5 harg5 arg6 harg6 arg7 harg7 arg8 harg8 hc0 hc1 hc2 x0 x1 x2 x3 x4).2.1) = wbv x4 := by
  have e : (kernelRun0_A (F := Ideal) c i arg1 harg1 arg2 harg2 arg3 harg3 arg4 harg4 arg5 harg5 arg6 harg6 arg7 harg7 arg8 harg8 hc0 hc1 hc2 x0 x1 x2 x3 x4).2.1 = pb_k0_t1 (F := Ideal) Variants.none c none i arg1 harg1 arg2 harg2 arg3 harg3 arg4 harg4 arg5 harg5 arg6 harg6 arg7 harg7 arg8 harg8 hc0 (harg5.unread x4) (Scf.trips (0#32) (Scalar.addi 0#32 6#32) 1#32) := by
    unfold kernelRun0_A; rfl
  rw [e, View.read_writes_eq_canon _ _ _ (pb_cover c i arg1 harg1 arg2 harg2 arg3 harg3 arg4 harg4 arg5 harg5 arg6 harg6 arg7 harg7 arg8 harg8 hc0 x4)]
  exact funext fun y => View.canon_apply_of_pieces _ _ (pb_pieces c i arg1 harg1 arg2 harg2 arg3 harg3 arg4 harg4 arg5 harg5 arg6 harg6 arg7 harg7 arg8 harg8 hc0 x4 _) y (pb_cover c i arg1 harg1 arg2 harg2 arg3 harg3 arg4 harg4 arg5 harg5 arg6 harg6 arg7 harg7 arg8 harg8 hc0 x4 y)

end

end Cert.KernelIdeal.Send

end
-- ==== Proof.Send.RunB.lean ====
/- The projection's body, run at a point that finds the weights widened: what its stores leave, found by the run. -/
module

public import proofs.«01_k».proof.Proof.Send.RunA

@[expose] public section

set_option maxRecDepth 16384

noncomputable section

namespace Cert.KernelIdeal.Send

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1276000 in
/-- The body at a point that finds the weights widened: the pieces its stores leave in the output's buffer (and, where it widens the weights, in their
    scratch), last first, with the proof that from the inputs' buffers at their contents the body runs to them. -/
noncomputable def kernelRun0_B (c : Dev nD) (i : grid0.Coords) (arg1 : Memref sig .tc .vmem S256x4096 .bf16) (harg1 : arg1.IsWhole) (arg2 : Memref sig .tc .vmem S256x1536 .i8) (harg2 : arg2.IsWhole) (arg3 : Memref sig .tc .vmem S256x128 .f32) (harg3 : arg3.IsWhole) (arg4 : Memref sig .tc .vmem S1x4096 .f32) (harg4 : arg4.IsWhole) (arg5 : Memref sig .tc .vmem S1536x4096 .i8) (harg5 : arg5.IsWhole) (arg6 : Memref sig .tc .vmem S256x4096 .bf16) (harg6 : arg6.IsWhole) (arg7 : Memref sig .tc .vmem S1536x4096 .bf16) (harg7 : arg7.IsWhole) (arg8 : Memref sig .tc .vmem S2x256x4096 .f32) (harg8 : arg8.IsWhole) (hc0 : ¬cond0_0 i) (hc1 : ¬cond0_1 i) (hc2 : cond0_2 i)
    (x0 : Vec F S256x4096 .bf16) (x1 : Vec F S256x1536 .i8) (x2 : Vec F S256x128 .f32) (x3 : Vec F S1x4096 .f32) (x4 : Vec F S1536x4096 .i8) (xs0 : Vec F S1536x4096 .bf16) :
    Σ' (L5 : List (View.Piece (Elt F) S256x4096 .bf16)), { LS0 : List (View.Piece (Elt F) S1536x4096 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xs0 ∗ (∃ d, owns (c : Thread nD τ) arg8 fullShare d)) -∗ K ⟨⟩))
          ⊢ wp frame (wpE (defs₀ (F := F)) Variants.none c none) E (cc0_oproj i arg1 harg1 arg2 harg2 arg3 harg3 arg4 harg4 arg5 harg5 arg6 harg6 arg7 harg7 arg8 harg8) K } := by
  refine ⟨?_, [], fun E K => ?run⟩
  case run =>
    simp only [cc0_oproj_eq_skeleton]; unfold cc0_oproj_skel
    simp only [k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [HS0]
    · iexists _; isplitr; · ipureintro; exact harg7.read_unread _
      iexact HS0
    iexists _, _; isplitr; swap; · iexact HS1
    ipureintro; rfl

end Cert.KernelIdeal.Send

end
-- ==== Proof.Send.OutB.lean ====
/- The body at a point that finds the weights widened: what its stores leave in the result's buffer, in closed form. -/
module

public import proofs.«01_k».proof.Proof.Send.RunB
public import proofs.«01_k».proof.Proof.Send.Widen

@[expose] public section

set_option maxRecDepth 16384

noncomputable section

namespace Cert.KernelIdeal.Send

open Cert.KernelIdeal Cert.KernelIdeal.Gen
open Idealize.ShloMosaic Idealize.ShloMosaic.TcCoe Idealize.ShloMosaic.Tactic Idealize.SL.Sem

section
variable (c : Dev nD) (i : grid0.Coords) (arg1 : Memref sig .tc .vmem S256x4096 .bf16) (harg1 : arg1.IsWhole) (arg2 : Memref sig .tc .vmem S256x1536 .i8) (harg2 : arg2.IsWhole) (arg3 : Memref sig .tc .vmem S256x128 .f32) (harg3 : arg3.IsWhole) (arg4 : Memref sig .tc .vmem S1x4096 .f32) (harg4 : arg4.IsWhole) (arg5 : Memref sig .tc .vmem S1536x4096 .i8) (harg5 : arg5.IsWhole) (arg6 : Memref sig .tc .vmem S256x4096 .bf16) (harg6 : arg6.IsWhole) (arg7 : Memref sig .tc .vmem S1536x4096 .bf16) (harg7 : arg7.IsWhole) (arg8 : Memref sig .tc .vmem S2x256x4096 .f32) (harg8 : arg8.IsWhole)
    (hc0 : ¬cond0_0 i) (hc1 : ¬cond0_1 i) (hc2 : cond0_2 i)
    (x0 : Vec Ideal S256x4096 .bf16) (x1 : Vec Ideal S256x1536 .i8) (x2 : Vec Ideal S256x128 .f32) (x3 : Vec Ideal S1x4096 .f32) (x4 : Vec Ideal S1536x4096 .i8) (xs0 : Vec Ideal S1536x4096 .bf16)

/-- Its 32 tiles cover the result's block. -/
theorem coverB (y : S256x4096.Idx) : ∃ pc ∈ (kernelRun0_B (F := Ideal) c i arg1 harg1 arg2 harg2 arg3 harg3 arg4 harg4 arg5 harg5 arg6 harg6 arg7 harg7 arg8 harg8 hc0 hc1 hc2 x0 x1 x2 x3 x4 xs0).1, y ∈ pc.1.set :=
  View.cover_of_tiledL (kernelRun0_B (F := Ideal) c i arg1 harg1 arg2 harg2 arg3 harg3 arg4 harg4 arg5 harg5 arg6 harg6 arg7 harg7 arg8 harg8 hc0 hc1 hc2 x0 x1 x2 x3 x4 xs0).1 S256x128.size (by sl_kernel_rfl) y

set_option maxHeartbeats 1600000 in
/-- Each of its tiles is the tile of `sendv` its rectangle names. -/
theorem piecesB : ∀ p ∈ (kernelRun0_B (F := Ideal) c i arg1 harg1 arg2 harg2 arg3 harg3 arg4 harg4 arg5 harg5 arg6 harg6 arg7 harg7 arg8 harg8 hc0 hc1 hc2 x0 x1 x2 x3 x4 xs0).1, ∀ x : p.1.shape.Idx, p.2 x = sendv x0 x1 x2 x3 xs0 (p.1.emb x) := by
  unfold kernelRun0_B
  dsimp only
  sl_unfold_words
  simp only [View.readAt_eq_ld, harg1.read_unread, harg2.read_unread, harg3.read_unread, harg4.read_unread, harg7.read_unread]
  refine List.forall_mem_cons.mpr ⟨fun x => piece3 x0 x1 x2 x3 xs0 3584 3968 rfl rfl _ _ _ _ _ x, ?_⟩
  refine List.forall_mem_cons.mpr ⟨fun x => piece2 x0 x1 x2 x3 xs0 3584 3840 rfl rfl _ _ _ _ _ x, ?_⟩
  refine List.forall_mem_cons.mpr ⟨fun x => piece1 x0 x1 x2 x3 xs0 3584 3712 rfl rfl _ _ _ _ _ x, ?_⟩
  refine List.forall_mem_cons.mpr ⟨fun x => piece0 x0 x1 x2 x3 xs0 3584 3584 rfl rfl _ _ _ _ _ x, ?_⟩
  refine List.forall_mem_cons.mpr ⟨fun x => piece3 x0 x1 x2 x3 xs0 3072 3456 rfl rfl _ _ _ _ _ x, ?_⟩
  refine List.forall_mem_cons.mpr ⟨fun x => piece2 x0 x1 x2 x3 xs0 3072 3328 rfl rfl _ _ _ _ _ x, ?_⟩
  refine List.forall_mem_cons.mpr ⟨fun x => piece1 x0 x1 x2 x3 xs0 3072 3200 rfl rfl _ _ _ _ _ x, ?_⟩
  refine List.forall_mem_cons.mpr ⟨fun x => piece0 x0 x1 x2 x3 xs0 3072 3072 rfl rfl _ _ _ _ _ x, ?_⟩
  refine List.forall_mem_cons.mpr ⟨fun x => piece3 x0 x1 x2 x3 xs0 2560 2944 rfl rfl _ _ _ _ _ x, ?_⟩
  refine List.forall_mem_cons.mpr ⟨fun x => piece2 x0 x1 x2 x3 xs0 2560 2816 rfl rfl _ _ _ _ _ x, ?_⟩
  refine List.forall_mem_cons.mpr ⟨fun x => piece1 x0 x1 x2 x3 xs0 2560 2688 rfl rfl _ _ _ _ _ x, ?_⟩
  refine List.forall_mem_cons.mpr ⟨fun x => piece0 x0 x1 x2 x3 xs0 2560 2560 rfl rfl _ _ _ _ _ x, ?_⟩
  refine List.forall_mem_cons.mpr ⟨fun x => piece3 x0 x1 x2 x3 xs0 2048 2432 rfl rfl _ _ _ _ _ x, ?_⟩
  refine List.forall_mem_cons.mpr ⟨fun x => piece2 x0 x1 x2 x3 xs0 2048 2304 rfl rfl _ _ _ _ _ x, ?_⟩
  refine List.forall_mem_cons.mpr ⟨fun x => piece1 x0 x1 x2 x3 xs0 2048 2176 rfl rfl _ _ _ _ _ x, ?_⟩
  refine List.forall_mem_cons.mpr ⟨fun x => piece0 x0 x1 x2 x3 xs0 2048 2048 rfl rfl _ _ _ _ _ x, ?_⟩
  refine List.forall_mem_cons.mpr ⟨fun x => piece3 x0 x1 x2 x3 xs0 1536 1920 rfl rfl _ _ _ _ _ x, ?_⟩
  refine List.forall_mem_cons.mpr ⟨fun x => piece2 x0 x1 x2 x3 xs0 1536 1792 rfl rfl _ _ _ _ _ x, ?_⟩
  refine List.forall_mem_cons.mpr ⟨fun x => piece1 x0 x1 x2 x3 xs0 1536 1664 rfl rfl _ _ _ _ _ x, ?_⟩
  refine List.forall_mem_cons.mpr ⟨fun x => piece0 x0 x1 x2 x3 xs0 1536 1536 rfl rfl _ _ _ _ _ x, ?_⟩
  refine List.forall_mem_cons.mpr ⟨fun x => piece3 x0 x1 x2 x3 xs0 1024 1408 rfl rfl _ _ _ _ _ x, ?_⟩
  refine List.forall_mem_cons.mpr ⟨fun x => piece2 x0 x1 x2 x3 xs0 1024 1280 rfl rfl _ _ _ _ _ x, ?_⟩
  refine List.forall_mem_cons.mpr ⟨fun x => piece1 x0 x1 x2 x3 xs0 1024 1152 rfl rfl _ _ _ _ _ x, ?_⟩
  refine List.forall_mem_cons.mpr ⟨fun x => piece0 x0 x1 x2 x3 xs0 1024 1024 rfl rfl _ _ _ _ _ x, ?_⟩
  refine List.forall_mem_cons.mpr ⟨fun x => piece3 x0 x1 x2 x3 xs0 512 896 rfl rfl _ _ _ _ _ x, ?_⟩
  refine List.forall_mem_cons.mpr ⟨fun x => piece2 x0 x1 x2 x3 xs0 512 768 rfl rfl _ _ _ _ _ x, ?_⟩
  refine List.forall_mem_cons.mpr ⟨fun x => piece1 x0 x1 x2 x3 xs0 512 640 rfl rfl _ _ _ _ _ x, ?_⟩
  refine List.forall_mem_cons.mpr ⟨fun x => piece0 x0 x1 x2 x3 xs0 512 512 rfl rfl _ _ _ _ _ x, ?_⟩
  refine List.forall_mem_cons.mpr ⟨fun x => piece3 x0 x1 x2 x3 xs0 0 384 rfl rfl _ _ _ _ _ x, ?_⟩
  refine List.forall_mem_cons.mpr ⟨fun x => piece2 x0 x1 x2 x3 xs0 0 256 rfl rfl _ _ _ _ _ x, ?_⟩
  refine List.forall_mem_cons.mpr ⟨fun x => piece1 x0 x1 x2 x3 xs0 0 128 rfl rfl _ _ _ _ _ x, ?_⟩
  refine List.forall_mem_cons.mpr ⟨fun x => piece0 x0 x1 x2 x3 xs0 0 0 rfl rfl _ _ _ _ _ x, ?_⟩
  exact fun _ h => absurd h List.not_mem_nil

/-- So the result's buffer holds `sendv` of the point's blocks. -/
theorem outB (v : View Cert.KernelIdeal.sig .tc .vmem S256x4096 .bf16) (f : v.ty.Contents (Elt Ideal)) :
    v.read (Elt Ideal) (v.writes (Elt Ideal) f (kernelRun0_B (F := Ideal) c i arg1 harg1 arg2 harg2 arg3 harg3 arg4 harg4 arg5 harg5 arg6 harg6 arg7 harg7 arg8 harg8 hc0 hc1 hc2 x0 x1 x2 x3 x4 xs0).1) = sendv x0 x1 x2 x3 xs0 := by
  rw [View.read_writes_eq_canon _ _ _ (coverB c i arg1 harg1 arg2 harg2 arg3 harg3 arg4 harg4 arg5 harg5 arg6 harg6 arg7 harg7 arg8 harg8 hc0 hc1 hc2 x0 x1 x2 x3 x4 xs0)]
  exact funext fun y => View.canon_apply_of_pieces _ _ (piecesB c i arg1 harg1 arg2 harg2 arg3 harg3 arg4 harg4 arg5 harg5 arg6 harg6 arg7 harg7 arg8 harg8 hc0 hc1 hc2 x0 x1 x2 x3 x4 xs0) y (coverB c i arg1 harg1 arg2 harg2 arg3 harg3 arg4 harg4 arg5 harg5 arg6 harg6 arg7 harg7 arg8 harg8 hc0 hc1 hc2 x0 x1 x2 x3 x4 xs0 y)

end

end Cert.KernelIdeal.Send

end
-- ==== Proof.Send.RunC.lean ====
/- The projection's body, run at a point that widens the weights of the next columns, then the product: what its stores leave, found by the run. -/
module

public import proofs.«01_k».proof.Proof.Send.RunB

@[expose] public section

set_option maxRecDepth 16384

noncomputable section

namespace Cert.KernelIdeal.Send

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1344000 in
/-- The body at a point that widens the weights of the next columns, then the product: the pieces its stores leave in the output's buffer (and, where it widens the weights, in their
    scratch), last first, with the proof that from the inputs' buffers at their contents the body runs to them. -/
noncomputable def kernelRun0_C (c : Dev nD) (i : grid0.Coords) (arg1 : Memref sig .tc .vmem S256x4096 .bf16) (harg1 : arg1.IsWhole) (arg2 : Memref sig .tc .vmem S256x1536 .i8) (harg2 : arg2.IsWhole) (arg3 : Memref sig .tc .vmem S256x128 .f32) (harg3 : arg3.IsWhole) (arg4 : Memref sig .tc .vmem S1x4096 .f32) (harg4 : arg4.IsWhole) (arg5 : Memref sig .tc .vmem S1536x4096 .i8) (harg5 : arg5.IsWhole) (arg6 : Memref sig .tc .vmem S256x4096 .bf16) (harg6 : arg6.IsWhole) (arg7 : Memref sig .tc .vmem S1536x4096 .bf16) (harg7 : arg7.IsWhole) (arg8 : Memref sig .tc .vmem S2x256x4096 .f32) (harg8 : arg8.IsWhole) (hc0 : cond0_0 i) (hc1 : ¬cond0_1 i) (hc2 : cond0_2 i)
    (x0 : Vec F S256x4096 .bf16) (x1 : Vec F S256x1536 .i8) (x2 : Vec F S256x128 .f32) (x3 : Vec F S1x4096 .f32) (x4 : Vec F S1536x4096 .i8) :
    Σ' (L5 : List (View.Piece (Elt F) S256x4096 .bf16)), { LS0 : List (View.Piece (Elt F) S1536x4096 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ d, owns (c : Thread nD τ) arg8 fullShare d)) -∗ K ⟨⟩))
          ⊢ wp frame (wpE (defs₀ (F := F)) Variants.none c none) E (cc0_oproj i arg1 harg1 arg2 harg2 arg3 harg3 arg4 harg4 arg5 harg5 arg6 harg6 arg7 harg7 arg8 harg8) K } := by
  refine ⟨?_, ?_, fun E K => ?run⟩
  case run =>
    simp only [cc0_oproj_eq_skeleton]; unfold cc0_oproj_skel
    simp only [k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    have hrd0 : ∀ (𝒱 : Variants) (c : Dev nD) (bd : Option 𝒱.V) (i : grid0.Coords) (arg1 : Memref sig .tc .vmem S256x4096 .bf16) (harg1 : arg1.IsWhole) (arg2 : Memref sig .tc .vmem S256x1536 .i8) (harg2 : arg2.IsWhole) (arg3 : Memref sig .tc .vmem S256x128 .f32) (harg3 : arg3.IsWhole) (arg4 : Memref sig .tc .vmem S1x4096 .f32) (harg4 : arg4.IsWhole) (arg5 : Memref sig .tc .vmem S1536x4096 .i8) (harg5 : arg5.IsWhole) (arg6 : Memref sig .tc .vmem S256x4096 .bf16) (harg6 : arg6.IsWhole) (arg7 : Memref sig .tc .vmem S1536x4096 .bf16) (harg7 : arg7.IsWhole) (arg8 : Memref sig .tc .vmem S2x256x4096 .f32) (harg8 : arg8.IsWhole) (k0_h1 : k0_cond1 i = 1#1) (X_arg5 : BufTy.Contents (Elt F) arg5.view.ty) (hrdF : BufTy.Contents (Elt F) arg7.view.ty) (hrdB : LoadRect S1536x4096), arg7.view.readAt (Elt F) hrdB (arg7.view.writes (Elt F) hrdF (pb_k0_t1 (F := F) 𝒱 c bd i arg1 harg1 arg2 harg2 arg3 harg3 arg4 harg4 arg5 harg5 arg6 harg6 arg7 harg7 arg8 harg8 k0_h1 X_arg5 (Scf.trips k0_t1_loop.lb k0_t1_loop.ub k0_t1_loop.st))) = arg7.view.readCov (pb_k0_t1 (F := F) 𝒱 c bd i arg1 harg1 arg2 harg2 arg3 harg3 arg4 harg4 arg5 harg5 arg6 harg6 arg7 harg7 arg8 harg8 k0_h1 X_arg5 (Scf.trips k0_t1_loop.lb k0_t1_loop.ub k0_t1_loop.st)) hrdB := fun 𝒱 c bd i arg1 harg1 arg2 harg2 arg3 harg3 arg4 harg4 arg5 harg5 arg6 harg6 arg7 harg7 arg8 harg8 k0_h1 X_arg5 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 k0_h1 X_arg5 (Scf.trips k0_t1_loop.lb k0_t1_loop.ub k0_t1_loop.st)) S256x4096.size (by sl_kernel_rfl) (hrdB.idx hrdJ))
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [HS0]; · iexists _; iexact HS0
    iexists _, _; isplitr; swap; · iexact HS1
    ipureintro; rfl

end Cert.KernelIdeal.Send

end
-- ==== Proof.Send.OutC.lean ====
/- The body at the first point of a later column block: what its stores leave in the result's buffer and in the scratch, in closed form. -/
module

public import proofs.«01_k».proof.Proof.Send.RunC
public import proofs.«01_k».proof.Proof.Send.Widen

@[expose] public section

set_option maxRecDepth 16384

noncomputable section

namespace Cert.KernelIdeal.Send

open Cert.KernelIdeal Cert.KernelIdeal.Gen
open Idealize.ShloMosaic Idealize.ShloMosaic.TcCoe Idealize.ShloMosaic.Tactic Idealize.SL.Sem

section
variable (c : Dev nD) (i : grid0.Coords) (arg1 : Memref sig .tc .vmem S256x4096 .bf16) (harg1 : arg1.IsWhole) (arg2 : Memref sig .tc .vmem S256x1536 .i8) (harg2 : arg2.IsWhole) (arg3 : Memref sig .tc .vmem S256x128 .f32) (harg3 : arg3.IsWhole) (arg4 : Memref sig .tc .vmem S1x4096 .f32) (harg4 : arg4.IsWhole) (arg5 : Memref sig .tc .vmem S1536x4096 .i8) (harg5 : arg5.IsWhole) (arg6 : Memref sig .tc .vmem S256x4096 .bf16) (harg6 : arg6.IsWhole) (arg7 : Memref sig .tc .vmem S1536x4096 .bf16) (harg7 : arg7.IsWhole) (arg8 : Memref sig .tc .vmem S2x256x4096 .f32) (harg8 : arg8.IsWhole)
    (hc0 : cond0_0 i) (hc1 : ¬cond0_1 i) (hc2 : cond0_2 i)
    (x0 : Vec Ideal S256x4096 .bf16) (x1 : Vec Ideal S256x1536 .i8) (x2 : Vec Ideal S256x128 .f32) (x3 : Vec Ideal S1x4096 .f32) (x4 : Vec Ideal S1536x4096 .i8)

/-- Its 32 tiles cover the result's block. -/
theorem coverC (y : S256x4096.Idx) : ∃ pc ∈ (kernelRun0_C (F := Ideal) c i arg1 harg1 arg2 harg2 arg3 harg3 arg4 harg4 arg5 harg5 arg6 harg6 arg7 harg7 arg8 harg8 hc0 hc1 hc2 x0 x1 x2 x3 x4).1, y ∈ pc.1.set :=
  View.cover_of_tiledL (kernelRun0_C (F := Ideal) c i arg1 harg1 arg2 harg2 arg3 harg3 arg4 harg4 arg5 harg5 arg6 harg6 arg7 harg7 arg8 harg8 hc0 hc1 hc2 x0 x1 x2 x3 x4).1 S256x128.size (by sl_kernel_rfl) y

set_option maxHeartbeats 1600000 in
/-- Each of its tiles is the tile of `sendv` its rectangle names. -/
theorem piecesC : ∀ p ∈ (kernelRun0_C (F := Ideal) c i arg1 harg1 arg2 harg2 arg3 harg3 arg4 harg4 arg5 harg5 arg6 harg6 arg7 harg7 arg8 harg8 hc0 hc1 hc2 x0 x1 x2 x3 x4).1, ∀ x : p.1.shape.Idx, p.2 x = sendv x0 x1 x2 x3 (wbv x4) (p.1.emb x) := by
  unfold kernelRun0_C
  dsimp only
  sl_unfold_words
  simp only [readCov_widened c i arg1 harg1 arg2 harg2 arg3 harg3 arg4 harg4 arg5 harg5 arg6 harg6 arg7 harg7 arg8 harg8, View.readAt_eq_ld, harg1.read_unread, harg2.read_unread, harg3.read_unread, harg4.read_unread]
  refine List.forall_mem_cons.mpr ⟨fun x => piece3 x0 x1 x2 x3 (wbv x4) 3584 3968 rfl rfl _ _ _ _ _ x, ?_⟩
  refine List.forall_mem_cons.mpr ⟨fun x => piece2 x0 x1 x2 x3 (wbv x4) 3584 3840 rfl rfl _ _ _ _ _ x, ?_⟩
  refine List.forall_mem_cons.mpr ⟨fun x => piece1 x0 x1 x2 x3 (wbv x4) 3584 3712 rfl rfl _ _ _ _ _ x, ?_⟩
  refine List.forall_mem_cons.mpr ⟨fun x => piece0 x0 x1 x2 x3 (wbv x4) 3584 3584 rfl rfl _ _ _ _ _ x, ?_⟩
  refine List.forall_mem_cons.mpr ⟨fun x => piece3 x0 x1 x2 x3 (wbv x4) 3072 3456 rfl rfl _ _ _ _ _ x, ?_⟩
  refine List.forall_mem_cons.mpr ⟨fun x => piece2 x0 x1 x2 x3 (wbv x4) 3072 3328 rfl rfl _ _ _ _ _ x, ?_⟩
  refine List.forall_mem_cons.mpr ⟨fun x => piece1 x0 x1 x2 x3 (wbv x4) 3072 3200 rfl rfl _ _ _ _ _ x, ?_⟩
  refine List.forall_mem_cons.mpr ⟨fun x => piece0 x0 x1 x2 x3 (wbv x4) 3072 3072 rfl rfl _ _ _ _ _ x, ?_⟩
  refine List.forall_mem_cons.mpr ⟨fun x => piece3 x0 x1 x2 x3 (wbv x4) 2560 2944 rfl rfl _ _ _ _ _ x, ?_⟩
  refine List.forall_mem_cons.mpr ⟨fun x => piece2 x0 x1 x2 x3 (wbv x4) 2560 2816 rfl rfl _ _ _ _ _ x, ?_⟩
  refine List.forall_mem_cons.mpr ⟨fun x => piece1 x0 x1 x2 x3 (wbv x4) 2560 2688 rfl rfl _ _ _ _ _ x, ?_⟩
  refine List.forall_mem_cons.mpr ⟨fun x => piece0 x0 x1 x2 x3 (wbv x4) 2560 2560 rfl rfl _ _ _ _ _ x, ?_⟩
  refine List.forall_mem_cons.mpr ⟨fun x => piece3 x0 x1 x2 x3 (wbv x4) 2048 2432 rfl rfl _ _ _ _ _ x, ?_⟩
  refine List.forall_mem_cons.mpr ⟨fun x => piece2 x0 x1 x2 x3 (wbv x4) 2048 2304 rfl rfl _ _ _ _ _ x, ?_⟩
  refine List.forall_mem_cons.mpr ⟨fun x => piece1 x0 x1 x2 x3 (wbv x4) 2048 2176 rfl rfl _ _ _ _ _ x, ?_⟩
  refine List.forall_mem_cons.mpr ⟨fun x => piece0 x0 x1 x2 x3 (wbv x4) 2048 2048 rfl rfl _ _ _ _ _ x, ?_⟩
  refine List.forall_mem_cons.mpr ⟨fun x => piece3 x0 x1 x2 x3 (wbv x4) 1536 1920 rfl rfl _ _ _ _ _ x, ?_⟩
  refine List.forall_mem_cons.mpr ⟨fun x => piece2 x0 x1 x2 x3 (wbv x4) 1536 1792 rfl rfl _ _ _ _ _ x, ?_⟩
  refine List.forall_mem_cons.mpr ⟨fun x => piece1 x0 x1 x2 x3 (wbv x4) 1536 1664 rfl rfl _ _ _ _ _ x, ?_⟩
  refine List.forall_mem_cons.mpr ⟨fun x => piece0 x0 x1 x2 x3 (wbv x4) 1536 1536 rfl rfl _ _ _ _ _ x, ?_⟩
  refine List.forall_mem_cons.mpr ⟨fun x => piece3 x0 x1 x2 x3 (wbv x4) 1024 1408 rfl rfl _ _ _ _ _ x, ?_⟩
  refine List.forall_mem_cons.mpr ⟨fun x => piece2 x0 x1 x2 x3 (wbv x4) 1024 1280 rfl rfl _ _ _ _ _ x, ?_⟩
  refine List.forall_mem_cons.mpr ⟨fun x => piece1 x0 x1 x2 x3 (wbv x4) 1024 1152 rfl rfl _ _ _ _ _ x, ?_⟩
  refine List.forall_mem_cons.mpr ⟨fun x => piece0 x0 x1 x2 x3 (wbv x4) 1024 1024 rfl rfl _ _ _ _ _ x, ?_⟩
  refine List.forall_mem_cons.mpr ⟨fun x => piece3 x0 x1 x2 x3 (wbv x4) 512 896 rfl rfl _ _ _ _ _ x, ?_⟩
  refine List.forall_mem_cons.mpr ⟨fun x => piece2 x0 x1 x2 x3 (wbv x4) 512 768 rfl rfl _ _ _ _ _ x, ?_⟩
  refine List.forall_mem_cons.mpr ⟨fun x => piece1 x0 x1 x2 x3 (wbv x4) 512 640 rfl rfl _ _ _ _ _ x, ?_⟩
  refine List.forall_mem_cons.mpr ⟨fun x => piece0 x0 x1 x2 x3 (wbv x4) 512 512 rfl rfl _ _ _ _ _ x, ?_⟩
  refine List.forall_mem_cons.mpr ⟨fun x => piece3 x0 x1 x2 x3 (wbv x4) 0 384 rfl rfl _ _ _ _ _ x, ?_⟩
  refine List.forall_mem_cons.mpr ⟨fun x => piece2 x0 x1 x2 x3 (wbv x4) 0 256 rfl rfl _ _ _ _ _ x, ?_⟩
  refine List.forall_mem_cons.mpr ⟨fun x => piece1 x0 x1 x2 x3 (wbv x4) 0 128 rfl rfl _ _ _ _ _ x, ?_⟩
  refine List.forall_mem_cons.mpr ⟨fun x => piece0 x0 x1 x2 x3 (wbv x4) 0 0 rfl rfl _ _ _ _ _ x, ?_⟩
  exact fun _ h => absurd h List.not_mem_nil

/-- So the result's buffer holds `sendv` of the point's blocks. -/
theorem outC (v : View Cert.KernelIdeal.sig .tc .vmem S256x4096 .bf16) (f : v.ty.Contents (Elt Ideal)) :
    v.read (Elt Ideal) (v.writes (Elt Ideal) f (kernelRun0_C (F := Ideal) c i arg1 harg1 arg2 harg2 arg3 harg3 arg4 harg4 arg5 harg5 arg6 harg6 arg7 harg7 arg8 harg8 hc0 hc1 hc2 x0 x1 x2 x3 x4).1) = sendv x0 x1 x2 x3 (wbv x4) := by
  rw [View.read_writes_eq_canon _ _ _ (coverC c i arg1 harg1 arg2 harg2 arg3 harg3 arg4 harg4 arg5 harg5 arg6 harg6 arg7 harg7 arg8 harg8 hc0 hc1 hc2 x0 x1 x2 x3 x4)]
  exact funext fun y => View.canon_apply_of_pieces _ _ (piecesC c i arg1 harg1 arg2 harg2 arg3 harg3 arg4 harg4 arg5 harg5 arg6 harg6 arg7 harg7 arg8 harg8 hc0 hc1 hc2 x0 x1 x2 x3 x4) y (coverC c i arg1 harg1 arg2 harg2 arg3 harg3 arg4 harg4 arg5 harg5 arg6 harg6 arg7 harg7 arg8 harg8 hc0 hc1 hc2 x0 x1 x2 x3 x4 y)

/-- And the scratch the widened block of weights. -/
theorem scratchC (v : View Cert.KernelIdeal.sig .tc .vmem S1536x4096 .bf16) (f : v.ty.Contents (Elt Ideal)) :
    v.read (Elt Ideal) (v.writes (Elt Ideal) f (kernelRun0_C (F := Ideal) c i arg1 harg1 arg2 harg2 arg3 harg3 arg4 harg4 arg5 harg5 arg6 harg6 arg7 harg7 arg8 harg8 hc0 hc1 hc2 x0 x1 x2 x3 x4).2.1) = wbv x4 := by
  have e : (kernelRun0_C (F := Ideal) c i arg1 harg1 arg2 harg2 arg3 harg3 arg4 harg4 arg5 harg5 arg6 harg6 arg7 harg7 arg8 harg8 hc0 hc1 hc2 x0 x1 x2 x3 x4).2.1 = pb_k0_t1 (F := Ideal) Variants.none c none i arg1 harg1 arg2 harg2 arg3 harg3 arg4 harg4 arg5 harg5 arg6 harg6 arg7 harg7 arg8 harg8 hc0 (harg5.unread x4) (Scf.trips (0#32) (Scalar.addi 0#32 6#32) 1#32) := by
    unfold kernelRun0_C; rfl
  rw [e, View.read_writes_eq_canon _ _ _ (pb_cover c i arg1 harg1 arg2 harg2 arg3 harg3 arg4 harg4 arg5 harg5 arg6 harg6 arg7 harg7 arg8 harg8 hc0 x4)]
  exact funext fun y => View.canon_apply_of_pieces _ _ (pb_pieces c i arg1 harg1 arg2 harg2 arg3 harg3 arg4 harg4 arg5 harg5 arg6 harg6 arg7 harg7 arg8 harg8 hc0 x4 _) y (pb_cover c i arg1 harg1 arg2 harg2 arg3 harg3 arg4 harg4 arg5 harg5 arg6 harg6 arg7 harg7 arg8 harg8 hc0 x4 y)

end

end Cert.KernelIdeal.Send

end
-- ==== Proof.Send.RunD.lean ====
/- The projection's body at the last point of the grid, where no branch is taken: it leaves every buffer as it was. -/
module

public import proofs.«01_k».proof.Proof.Send.RunC

@[expose] public section

set_option maxRecDepth 16384

noncomputable section

namespace Cert.KernelIdeal.Send

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point where none of its branches is taken, from buffers at any contents: it runs, and every buffer is as it was. -/
theorem kernelRun0_D (c : Dev nD) (i : grid0.Coords) (arg1 : Memref sig .tc .vmem S256x4096 .bf16) (harg1 : arg1.IsWhole) (arg2 : Memref sig .tc .vmem S256x1536 .i8) (harg2 : arg2.IsWhole) (arg3 : Memref sig .tc .vmem S256x128 .f32) (harg3 : arg3.IsWhole) (arg4 : Memref sig .tc .vmem S1x4096 .f32) (harg4 : arg4.IsWhole) (arg5 : Memref sig .tc .vmem S1536x4096 .i8) (harg5 : arg5.IsWhole) (arg6 : Memref sig .tc .vmem S256x4096 .bf16) (harg6 : arg6.IsWhole) (arg7 : Memref sig .tc .vmem S1536x4096 .bf16) (harg7 : arg7.IsWhole) (arg8 : Memref sig .tc .vmem S2x256x4096 .f32) (harg8 : arg8.IsWhole) (hc0 : ¬cond0_0 i) (hc1 : ¬cond0_1 i) (hc2 : ¬cond0_2 i)
    (x0 : Vec F S256x4096 .bf16) (x1 : Vec F S256x1536 .i8) (x2 : Vec F S256x128 .f32) (x3 : Vec F S1x4096 .f32) (x4 : Vec F S1536x4096 .i8) (x5 : Vec F S256x4096 .bf16) (xs0 : Vec F S1536x4096 .bf16)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xs0 ∗ (∃ d, owns (c : Thread nD τ) arg8 fullShare d) ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xs0 ∗ (∃ d, owns (c : Thread nD τ) arg8 fullShare d)) -∗ K ⟨⟩))
      ⊢ wp frame (wpE (defs₀ (F := F)) Variants.none c none) E (cc0_oproj i arg1 harg1 arg2 harg2 arg3 harg3 arg4 harg4 arg5 harg5 arg6 harg6 arg7 harg7 arg8 harg8) K := by
  simp only [cc0_oproj_eq_skeleton]; unfold cc0_oproj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%ds1, %fs1, -, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [HS0]
  · iexists _; isplitr; · ipureintro; exact harg7.read_unread _
    iexact HS0
  iexists _, _; isplitr; swap; · iexact HS1
  ipureintro; rfl

end Cert.KernelIdeal.Send

end
-- ==== Proof.Send.Frame.lean ====
/- The projection's run over its grid of 73 points: after each point the result's buffer holds the closed form of the
   block, the scratch the widened weights of the current columns; the last point stores nothing and its block is written
   back as the point before left it. -/
module

public import proofs.«01_k».proof.Proof.Send.OutA
public import proofs.«01_k».proof.Proof.Send.OutB
public import proofs.«01_k».proof.Proof.Send.OutC
public import proofs.«01_k».proof.Proof.Send.RunD
public import Idealize.ShloMosaic.Lib.Pipeline.ValueKit

@[expose] public section

set_option maxRecDepth 16384

noncomputable section

namespace Cert.KernelIdeal.Send

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## What the buffers hold after each point -/

/-- The last point at or before `n` that computes a block: all but the last one do. -/
def lastPt (n : ℕ) (h : n < cfg0.N) : Fin cfg0.N := ⟨min n 71, lt_of_le_of_lt (Nat.min_le_left _ _) h⟩

theorem lastPt_eq (t : Fin cfg0.N) (h : t.val ≤ 71) : lastPt t.val t.isLt = t := Fin.ext (Nat.min_eq_left h)

/-- The widened weights of point `t`'s columns. -/
def wideAt (c : Dev nD) (t : Fin cfg0.N) : Vec Ideal S1536x4096 .bf16 := wbv (iblk m c 4 t)

/-- Point `t`'s block of the result. -/
def resAt (c : Dev nD) (t : Fin cfg0.N) : Vec Ideal S256x4096 .bf16 :=
  sendv (iblk m c 0 t) (iblk m c 1 t) (iblk m c 2 t) (iblk m c 3 t) (wbv (iblk m c 4 t))

/-- The weights' block moves only where a new block of columns begins. -/
theorem index4_prev : ∀ t : Fin cfg0.N, t.val % 24 ≠ 0 → win0_4.index ⟨t.val - 1, lt_of_le_of_lt (Nat.sub_le _ _) t.isLt⟩ = win0_4.index t :=
  (by decide +kernel : ∀ t : Fin grid0.N, t.val % 24 ≠ 0 → win0_4.index ⟨t.val - 1, lt_of_le_of_lt (Nat.sub_le _ _) t.isLt⟩ = win0_4.index t)

/-- So within a block of columns the point before left the weights this point needs. -/
theorem wide_prev (c : Dev nD) (t : Fin cfg0.N) (h : t.val % 24 ≠ 0) (h' : t.val ≤ 71) :
    wideAt m c (lastPt (t.val - 1) (lt_of_le_of_lt (Nat.sub_le _ _) t.isLt)) = wideAt m c t := by
  have e : lastPt (t.val - 1) (lt_of_le_of_lt (Nat.sub_le _ _) t.isLt) = ⟨t.val - 1, lt_of_le_of_lt (Nat.sub_le _ _) t.isLt⟩ := Fin.ext (Nat.min_eq_left (by omega))
  rw [e]
  unfold wideAt
  have hi := index4_prev t h
  funext y
  unfold wbv
  congr 1
  blk_simp [iblk]
  congr 1
  blk_ext [hi]

/-- The invariant before position `n`: before the first point every scratch at anything; afterwards the widened weights
    at what the last computing point needed, the other scratch at anything. -/
def PhiS (c : Dev nD) : (n : ℕ) → n ≤ cfg0.N → sProp 𝕄
  | 0, _ => Pipeline.ΦA spec0 c
  | n + 1, hn => iprop(iprop(owns (c : Thread nD τ) scM0_0 fullShare (wideAt m c (lastPt n hn)) ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

/-- After point `n`. -/
theorem PhiS_succ (c : Dev nD) (n : ℕ) (hn : n < cfg0.N) :
    PhiS m c (n + 1) hn = iprop(iprop(owns (c : Thread nD τ) scM0_0 fullShare (wideAt m c (lastPt n hn)) ∗ (∃ d, owns (c : Thread nD τ) scM0_1 fullShare d)) ∗ (∃ r, prngReg c r)) := rfl

/-- Before a point that is not the first. -/
theorem PhiS_pos (c : Dev nD) (n : ℕ) (h : n ≤ cfg0.N) (hz : n ≠ 0) :
    PhiS m c n h = iprop(iprop(owns (c : Thread nD τ) scM0_0 fullShare (wideAt m c (lastPt (n - 1) (by omega))) ∗ (∃ d, owns (c : Thread nD τ) scM0_1 fullShare d)) ∗ (∃ r, prngReg c r)) := by
  cases n with
  | zero => exact absurd rfl hz
  | succ n => rfl

/-- The pipeline's proof data: the arrays as the region finds them; after each point an input's buffer at its block, the
    result's at the block of the last computing point. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => resAt m c (lastPt t.val t.isLt)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-! What the body leaves, window by window, and finds. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = resAt m c (lastPt t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]
theorem leaves0_4 (c : Dev nD) (t : Fin cfg0.N) : (dats m 0 c).leavesExact 4 t = owns (c : Thread nD τ) (ms0_4 t) fullShare (iblk m c 4 t) := by
  unfold Dat.leavesExact; rw [liveAt0_4 t, after0_4]

theorem last_D (t : Fin cfg0.N) (h : t.val = 72) :
    lastPt (t.val - 1) (lt_of_le_of_lt (Nat.sub_le _ _) t.isLt) = lastPt t.val t.isLt ∧ t.val - 1 = 71 :=
  ⟨Fin.ext (by show min (t.val - 1) 71 = min t.val 71; omega), by omega⟩

/-- The last point finds in the result's buffer what the point before left. -/
theorem before0_5_D (c : Dev nD) (t : Fin cfg0.N) (h : t.val = 72) (d) : (dats m 0 c).before 5 t d = resAt m c (lastPt t.val t.isLt) := by
  have hl : t.val - 1 < cfg0.N := lt_of_le_of_lt (Nat.sub_le _ _) t.isLt
  have hlive := liveAt0_5_B ⟨t.val - 1, hl⟩ ((hcond0_2 ⟨t.val - 1, hl⟩).mpr ⟨by show 1 ≤ (t.val - 1) % 73; omega, by show (t.val - 1) % 73 ≤ 71; omega⟩)
  rw [(dats m 0 c).before_of_pos 5 t (by omega) rfl, flushAt0_5_71 ⟨t.val - 1, hl⟩ (by show t.val - 1 = 71; omega), if_neg Bool.false_ne_true]
  unfold Dat.left
  rw [hlive]
  dsimp only
  unfold Dat.kept
  rw [Pipeline.fill_of_clip_none 5 _ (fun _ => rfl) d ((dats m 0 c).after 5 ⟨t.val - 1, hl⟩), Window.fill_cut, after0_5]
  exact congrArg (resAt m c) (last_D t h).1

/-! ## The body obligation -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 3200000 in
/-- The body's triple at the first point. -/
theorem sound_A (c : Dev nD) (t : Fin cfg0.N) (h0 : t.val % 73 = 0 ∨ t.val % 73 = 24 ∨ t.val % 73 = 48) (h1 : t.val % 73 = 0) (h2 : ¬(1 ≤ t.val % 73 ∧ t.val % 73 ≤ 71)) :
    bodyPre m c t ⊢ wp frame (wpE (defs₀ (F := Ideal)) Variants.none c none) Set.univ (bodyAt0 t) (fun _ => bodyPost m c t) := by
  have hN : t.val < 73 := lt_of_lt_of_eq t.isLt (show cfg0.N = 73 from N_0)
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4]
  rw [show (dats m 0 c).leavesExact 5 t = owns (c : Thread nD τ) (ms0_5 t) fullShare (resAt m c t) from by
    unfold Dat.leavesExact; rw [liveAt0_5_A t ((hcond0_1 t).mpr h1), after0_5, lastPt_eq t (by omega)]]
  rw [show lastPt t.val t.isLt = t from lastPt_eq t (by omega)]
  rw [PhiS_castSucc m c t, PhiS_zero m c _ _ (by omega), PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply ((kernelRun0_A (F := Ideal) c (grid0.coords t) _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t)).2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  iintro ⟨H0, H1, H2, H3, H4, ⟨%e5, H5⟩, ⟨%es0, HS0⟩, HS1⟩
  isplitl [HS0 HS1 Hg]
  · isplitl [HS0 HS1]
    · isplitl [HS0]
      · unfold owns; iexists _; isplitr
        swap; · iexact HS0
        ipureintro; exact scratchA c _ _ _ _ _ _ _ _ _ _ _ _ _ _ _ _ _ _ _ _ _ _ _ _ _ _ _
      iexact HS1
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact outA c _ _ _ _ _ _ _ _ _ _ _ _ _ _ _ _ _ _ _ _ _ _ _ _ _ _ _

set_option maxHeartbeats 3200000 in
/-- The body's triple at a point that finds the weights widened. -/
theorem sound_B (c : Dev nD) (t : Fin cfg0.N) (h0 : ¬(t.val % 73 = 0 ∨ t.val % 73 = 24 ∨ t.val % 73 = 48)) (h1 : ¬t.val % 73 = 0) (h2 : 1 ≤ t.val % 73 ∧ t.val % 73 ≤ 71) :
    bodyPre m c t ⊢ wp frame (wpE (defs₀ (F := Ideal)) Variants.none c none) Set.univ (bodyAt0 t) (fun _ => bodyPost m c t) := by
  have hN : t.val < 73 := lt_of_lt_of_eq t.isLt (show cfg0.N = 73 from N_0)
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4]
  rw [show (dats m 0 c).leavesExact 5 t = owns (c : Thread nD τ) (ms0_5 t) fullShare (resAt m c t) from by
    unfold Dat.leavesExact; rw [liveAt0_5_B t ((hcond0_2 t).mpr h2), after0_5, lastPt_eq t (by omega)]]
  rw [show lastPt t.val t.isLt = t from lastPt_eq t (by omega)]
  rw [PhiS_castSucc m c t, PhiS_pos m c _ _ (by omega)]
  rw [wide_prev m c t (by rw [Nat.mod_eq_of_lt hN] at h0; omega) (by omega)]
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply ((kernelRun0_B (F := Ideal) c (grid0.coords t) _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) _).2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  iintro ⟨H0, H1, H2, H3, H4, ⟨%e5, H5⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact outB c _ _ _ _ _ _ _ _ _ _ _ _ _ _ _ _ _ _ _ _ _ _ _ _ _ _ _ _

set_option maxHeartbeats 3200000 in
/-- The body's triple at the first point of a later column block. -/
theorem sound_C (c : Dev nD) (t : Fin cfg0.N) (h0 : t.val % 73 = 0 ∨ t.val % 73 = 24 ∨ t.val % 73 = 48) (h1 : ¬t.val % 73 = 0) (h2 : 1 ≤ t.val % 73 ∧ t.val % 73 ≤ 71) :
    bodyPre m c t ⊢ wp frame (wpE (defs₀ (F := Ideal)) Variants.none c none) Set.univ (bodyAt0 t) (fun _ => bodyPost m c t) := by
  have hN : t.val < 73 := lt_of_lt_of_eq t.isLt (show cfg0.N = 73 from N_0)
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4]
  rw [show (dats m 0 c).leavesExact 5 t = owns (c : Thread nD τ) (ms0_5 t) fullShare (resAt m c t) from by
    unfold Dat.leavesExact; rw [liveAt0_5_B t ((hcond0_2 t).mpr h2), after0_5, lastPt_eq t (by omega)]]
  rw [show lastPt t.val t.isLt = t from lastPt_eq t (by omega)]
  rw [PhiS_castSucc m c t, PhiS_pos m c _ _ (by omega)]
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply ((kernelRun0_C (F := Ideal) c (grid0.coords t) _ _ _ _ _ _ _ _ _ _ _ _ _ _ _ _ ((hcond0_0 t).mpr h0) (fun h => h1 ((hcond0_1 t).mp h)) ((hcond0_2 t).mpr h2) (iblk m c 0 t) (iblk m c 1 t) (iblk m c 2 t) (iblk m c 3 t) (iblk m c 4 t)).2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexists _; iexact HS0
  isplitl [HS1]; · iexact HS1
  iintro ⟨H0, H1, H2, H3, H4, ⟨%e5, H5⟩, ⟨%es0, HS0⟩, HS1⟩
  isplitl [HS0 HS1 Hg]
  · isplitl [HS0 HS1]
    · isplitl [HS0]
      · unfold owns; iexists _; isplitr
        swap; · iexact HS0
        ipureintro; exact scratchC c _ _ _ _ _ _ _ _ _ _ _ _ _ _ _ _ _ _ _ _ _ _ _ _ _ _ _
      iexact HS1
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact outC c _ _ _ _ _ _ _ _ _ _ _ _ _ _ _ _ _ _ _ _ _ _ _ _ _ _ _

set_option maxHeartbeats 3200000 in
/-- The body's triple at the last point. -/
theorem sound_D (c : Dev nD) (t : Fin cfg0.N) (h0 : ¬(t.val % 73 = 0 ∨ t.val % 73 = 24 ∨ t.val % 73 = 48)) (h1 : ¬t.val % 73 = 0) (h2 : ¬(1 ≤ t.val % 73 ∧ t.val % 73 ≤ 71)) :
    bodyPre m c t ⊢ wp frame (wpE (defs₀ (F := Ideal)) Variants.none c none) Set.univ (bodyAt0 t) (fun _ => bodyPost m c t) := by
  have hN : t.val < 73 := lt_of_lt_of_eq t.isLt (show cfg0.N = 73 from N_0)
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4]
  rw [PhiS_castSucc m c t, PhiS_pos m c _ _ (by omega)]
  obtain ⟨e, e'⟩ := last_D t (by omega)
  rw [show (dats m 0 c).leavesExact 5 t = owns (c : Thread nD τ) (ms0_5 t) fullShare (resAt m c (lastPt t.val t.isLt)) from by
    unfold Dat.leavesExact; rw [idleAt0_5_D t (by omega), flushAt0_5_D t (by omega)]; dsimp only; rw [after0_5]]
  simp only [before0_5_D m c t (by omega), e]
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply (kernelRun0_D c (grid0.coords t) _ _ _ _ _ _ _ _ _ _ _ _ _ _ _ _ (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (resAt m c (lastPt t.val t.isLt)) _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  iintro ⟨H0, H1, H2, H3, H4, H5, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body's triple at any point. -/
theorem sound_body (c : Dev nD) (t : Fin cfg0.N) :
    bodyPre m c t ⊢ wp frame (wpE (defs₀ (F := Ideal)) Variants.none c none) Set.univ (bodyAt0 t) (fun _ => bodyPost m c t) := by
  have hN : t.val < 73 := lt_of_lt_of_eq t.isLt (show cfg0.N = 73 from N_0)
  by_cases h0 : t.val % 73 = 0 ∨ t.val % 73 = 24 ∨ t.val % 73 = 48
  · by_cases h1 : t.val % 73 = 0
    · exact sound_A m c t h0 h1 (by omega)
    · exact sound_C m c t h0 h1 (by omega)
  · by_cases h2 : 1 ≤ t.val % 73 ∧ t.val % 73 ≤ 71
    · exact sound_B m c t h0 (by omega) h2
    · exact sound_D m c t h0 (by omega) h2

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 73 := N_0; omega)

/-! ## The run and the frame -/

-- `θ_run_frame_track`'s implicit arguments are found by unifying its conclusion with this one, which takes unfolding plain
-- definitions in a metavariable's type
set_option backward.isDefEq.respectTransparency.types false in
/-- The launch: `run_main`'s statement, and every semaphore counter of the machine at zero at every final state. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it. -/
theorem run_main : θ_run defs (onTc (τ := τ) (main (F := Ideal))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The program runs to its end from any memory, leaves its arguments unchanged and every semaphore counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Send

end
-- ==== Proof.Send.Value.lean ====
/- The projection's value: the result array after the run, in closed form of the arrays as launched, and the same of the
   plain program. -/
module

public import proofs.«01_k».proof.Proof.Send.Frame
public import proofs.«01_k».proof.Proof.Gen.ReferenceIdeal.Value
public import Idealize.ShloMosaic.Lib.Claim
public import Idealize.ShloMosaic.Lib.Pointwise
public import Idealize.ShloMosaic.Lib.Pipeline.ValueKit

@[expose] public section

set_option maxRecDepth 16384

noncomputable section

namespace Cert.KernelIdeal.Send

open Cert.KernelIdeal Cert.KernelIdeal.Gen
open Idealize.ShloMosaic Idealize.ShloMosaic.TcCoe Idealize.ShloMosaic.Tactic Idealize.SL.Sem

/-- The projection over the reals: the codes' product with the weights, times the row's scale and the column's, plus an
    eighth of `x`. -/
def sendF (x : Vec Ideal S6144x12288 .bf16) (a : Vec Ideal S6144x1536 .i8) (s : Vec Ideal S6144x1 .f32) (w : Vec Ideal S1536x12288 .i8) (o : Vec Ideal S1x12288 .f32) :
    Vec Ideal S6144x12288 .bf16 := fun y =>
  (∑ k : Fin 1536, (FloatOps.sitofp .bf16 (a (ix2 (y 0) k)) : Ideal .bf16) * (FloatOps.sitofp .bf16 (w (ix2 k (y 1))) : Ideal .bf16))
    * s (ix2 (y 0) 0) * o (ix2 0 (y 1)) + x y * Ideal.ofBits .f32 0x3E000000#32

variable (m : (ℓ : Loc nD τ sig) → Buf (Elt Ideal) ℓ) (ρ : Dev nD → PrngReg)

/-- Where the windows' blocks lie: 24 blocks of rows within each of 3 blocks of columns. -/
theorem idx_in : ∀ t : Fin cfg0.N, t.val ≤ 71 → win0_0.index t = ![t.val % 24, t.val / 24] ∧ win0_1.index t = ![t.val % 24, 0]
    ∧ win0_2.index t = ![t.val % 24, 0] ∧ win0_3.index t = ![0, t.val / 24] ∧ win0_4.index t = ![0, t.val / 24] :=
  (by decide +kernel : ∀ t : Fin grid0.N, t.val ≤ 71 → win0_0.index t = ![t.val % 24, t.val / 24] ∧ win0_1.index t = ![t.val % 24, 0]
    ∧ win0_2.index t = ![t.val % 24, 0] ∧ win0_3.index t = ![0, t.val / 24] ∧ win0_4.index t = ![0, t.val / 24])
theorem idx_out : ∀ t : Fin cfg0.N, win0_5.index t = ![min t.val 71 % 24, min t.val 71 / 24] :=
  (by decide +kernel : ∀ t : Fin grid0.N, win0_5.index t = ![min t.val 71 % 24, min t.val 71 / 24])

/-- The row scales as the region finds them: the argument's one column, repeated. -/
theorem V_rep (c : Dev nD) (y : S6144x128.Idx) : V m c main_v0 y = m ((c : Thread nD τ).loc main_arg2) (ix2 (y 0) 0) := by
  obtain ⟨r, l, rfl⟩ : ∃ (r : Fin 6144) (l : Fin 128), y = ix2 r l := ⟨y 0, y 1, eq_ix2 y⟩
  entry_read
  pointwise

set_option maxHeartbeats 1600000 in
/-- A computing point's block of the result is that block of `sendF`. -/
theorem resAt_eq (c : Dev nD) (t : Fin cfg0.N) (ht : t.val ≤ 71) (r : Fin 256) (l : Fin 4096) (i : S6144x12288.Idx)
    (h0 : (i 0).val = t.val % 24 * 256 + r.val) (h1 : (i 1).val = t.val / 24 * 4096 + l.val) :
    resAt m c t (ix2 r l) = sendF (m ((c : Thread nD τ).loc main_arg0)) (m ((c : Thread nD τ).loc main_arg1)) (m ((c : Thread nD τ).loc main_arg2))
      (m ((c : Thread nD τ).loc main_arg3)) (m ((c : Thread nD τ).loc main_arg4)) i := by
  obtain ⟨e0, e1, e2, e3, e4⟩ := idx_in t ht
  obtain ⟨R, C, rfl⟩ : ∃ (R : Fin 6144) (C : Fin 12288), i = ix2 R C := ⟨i 0, i 1, eq_ix2 i⟩
  replace h0 : R.val = t.val % 24 * 256 + r.val := h0
  replace h1 : C.val = t.val / 24 * 4096 + l.val := h1
  have b0 : iblk m c 0 t (ix2 r l) = m ((c : Thread nD τ).loc main_arg0) (ix2 R C) := by
    rw [← V_main_arg0 m c]; blk_ext [iblk, e0]
  have b1 : ∀ k : Fin 1536, iblk m c 1 t (ix2 r k) = m ((c : Thread nD τ).loc main_arg1) (ix2 R k) := fun k => by
    rw [← V_main_arg1 m c]; blk_ext [iblk, e1]
  have b3 : iblk m c 3 t (ix2 0 l) = m ((c : Thread nD τ).loc main_arg4) (ix2 0 C) := by
    rw [← V_main_arg4 m c]; blk_ext [iblk, e3]
  have b4 : ∀ k : Fin 1536, iblk m c 4 t (ix2 k l) = m ((c : Thread nD τ).loc main_arg3) (ix2 k C) := fun k => by
    rw [← V_main_arg3 m c]; blk_ext [iblk, e4]
  have b2 : ∀ q : Fin 128, iblk m c 2 t (ix2 r q) = m ((c : Thread nD τ).loc main_arg2) (ix2 R 0) := fun q => by
    have e : iblk m c 2 t (ix2 r q) = V m c main_v0 (ix2 R q) := by blk_ext [iblk, e2]
    rw [e, V_rep]; rfl
  unfold resAt sendF sendv wbv
  dsimp only [ix2]
  simp only [b0, b1, b2, b3, b4]

/-- The result array after the run. -/
theorem final (c : Dev nD) : (dats m 0 c).arrAt 5 cfg0.N
    = sendF (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t hf y => ?_
  blk_simp
  rw [after0_5]
  have e := idx_out t
  have ev : (lastPt t.val t.isLt).val = min t.val 71 := rfl
  revert y
  show ∀ y : S256x4096.Idx, _
  intro y
  obtain ⟨r, l, rfl⟩ : ∃ (r : Fin 256) (l : Fin 4096), y = ix2 r l := ⟨y 0, y 1, eq_ix2 y⟩
  refine resAt_eq m c (lastPt t.val t.isLt) (Nat.min_le_right _ _) r l _ ?_ ?_
  · blk_simp [e]; rfl
  · blk_simp [e]; rfl

/-- The program ends with its result at `sendF` of its arguments, and its arguments unchanged. -/
theorem run : θ_run defs (onTc (τ := τ) (main (F := Ideal))) ⟨m, fun _ => 0, ρ⟩ (fun r => ∀ c : Dev nD,
      r.2.mem ((c.tc : Thread nD τ).loc main_v1) = sendF (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.1 c).1 5).trans (final m c), h.2 c⟩)
    (θ_run_and (run_main m ρ) (unchanged m ρ))

end Cert.KernelIdeal.Send

namespace Cert.ReferenceIdeal.Send

open Cert.ReferenceIdeal Cert.ReferenceIdeal.Gen
open Idealize.ShloMosaic Idealize.ShloMosaic.TcCoe Idealize.ShloMosaic.Tactic

/-- Dividing by eight is multiplying by an eighth, on the extended reals. -/
theorem div_eight (x : EReal) : Ideal.div x (Ideal.ofBits FTy.f32 0x41000000#32) = x * Ideal.ofBits FTy.f32 0x3E000000#32 := by
  have h8 : Ideal.ofBits .f32 0x41000000#32 = ((8 : ℝ) : EReal) := by
    simp [Ideal.ofBits, Ideal.ieee, -EReal.coe_mul]; norm_num
  have h1 : Ideal.ofBits .f32 0x3E000000#32 = ((8⁻¹ : ℝ) : EReal) := by
    simp [Ideal.ofBits, Ideal.ieee, -EReal.coe_mul]; norm_num
  rw [h8, h1, Ideal.div, if_neg (by exact_mod_cast (by norm_num : (8 : ℝ) ≠ 0)), EReal.coe_inv]

/-- What the plain program computes is `sendF` too: over the reals `* 0.125` and `/ 8` are the same. -/
theorem pay_eq (x : Vec Ideal S6144x12288 .bf16) (a : Vec Ideal S6144x1536 .i8) (s : Vec Ideal S6144x1 .f32) (w : Vec Ideal S1536x12288 .i8) (o : Vec Ideal S1x12288 .f32) :
    k0_pay1 a w s o x = Cert.KernelIdeal.Send.sendF x a s w o := by
  funext y
  obtain ⟨r, l, rfl⟩ : ∃ (r : Fin 6144) (l : Fin 12288), y = ix2 r l := ⟨y 0, y 1, eq_ix2 y⟩
  unfold Cert.KernelIdeal.Send.sendF
  pointwise [k0_pay1]
  exact congrArg _ (div_eight _)

end Cert.ReferenceIdeal.Send

end
-- ==== Proof.QkvWords.Runs.lean ====
/- The query/key/value projection on words, at any float values: the conditions of its body over the grid's points, its
   staging buffers and its scratch, and what a run of the pipeline says of the arguments. -/
module

public import proofs.«01_k».proof.Proof.Gen.Qkv.Frame
public import proofs.«01_k».proof.Proof.Gen.Qkv.Skeleton
public import proofs.«01_k».proof.Proof.Gen.Qkv.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Qkv.Words

open Cert.Qkv Cert.Qkv.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Qkv`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 25 = 0 :=
  (fun t => by
    have ht : t.val < 25 := Nat.lt_of_lt_of_eq t.isLt N_0
    have e0 : (grid0.coords t 0).val = t.val / 1 % 25 := Pipeline.Grid.coords_val t 0 (by decide) rfl
    simp only [cond0_0, k0_cond1, e0]
    word_cmp
   : ∀ t : Fin grid0.N, cond0_0 (grid0.coords t) ↔ t.val % 25 = 0)

/-- The condition of the body's `scf.if` 1 (`k0_h2`), from the grid coordinates (the skeleton's scalar
    chain substituted). -/
abbrev cond0_1 (i : grid0.Coords) : Prop := k0_cond2 i = 1#1
/-- It holds at the points whose coordinates have 1 ≤ i0 and i0 ≤ 23 — decided over the grid. -/
theorem hcond0_1 : ∀ t : Fin cfg0.N, cond0_1 (grid0.coords t) ↔ (1 ≤ t.val % 25 ∧ t.val % 25 ≤ 23) :=
  (by decide +kernel : ∀ t : Fin grid0.N, cond0_1 (grid0.coords t) ↔ (1 ≤ t.val % 25 ∧ t.val % 25 ≤ 23))

/-- The condition of the body's `scf.if` 2 (`k0_h3`), from the grid coordinates (the skeleton's scalar
    chain substituted). -/
abbrev cond0_2 (i : grid0.Coords) : Prop := k0_cond3 i = 1#1
/-- It holds at the last point only — by arithmetic of the point. -/
theorem hcond0_2 : ∀ t : Fin cfg0.N, cond0_2 (grid0.coords t) ↔ t.val % 25 = 24 :=
  (fun t => by
    have ht : t.val < 25 := Nat.lt_of_lt_of_eq t.isLt N_0
    have e0 : (grid0.coords t 0).val = t.val / 1 % 25 := Pipeline.Grid.coords_val t 0 (by decide) rfl
    simp only [cond0_2, k0_cond3, e0]
    word_cmp
   : ∀ t : Fin grid0.N, cond0_2 (grid0.coords t) ↔ t.val % 25 = 24)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S256x12288 .i8 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S12288x1792 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1792 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x1536 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x128 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x2x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x128 .i8 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x2x128 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S2x256x12288 .bf16 := Memref.whole cc0_scratch0
abbrev scM0_1 : Memref sig .tc .vmem S2x256x128 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Qkv.Words

end
-- ==== Proof.QkvWords.RunA.lean ====
/- The body's triple on words at the first point, which only fills its slot. -/
module

public import proofs.«01_k».proof.Proof.QkvWords.Runs

@[expose] public section

-- membership in a rectangle of production extents (`View.cover_of_tiled`): the elaborator's structural look
-- recurses once per coordinate of the long axes
set_option maxRecDepth 16384

noncomputable section

namespace Cert.Qkv.Words

open Cert.Qkv Cert.Qkv.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE A (`scf.if` 0 taken, `scf.if` 1 not taken, `scf.if` 2 not taken: points 0): on whole staging memrefs — the inputs' at their contents,
    the FORGOTTEN outputs' (6, 7, 8, 9, 10) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .vmem S256x12288 .i8) (harg1 : arg1.IsWhole) (arg2 : Memref sig .tc .vmem S256x128 .f32) (harg2 : arg2.IsWhole) (arg3 : Memref sig .tc .vmem S12288x1792 .i8) (harg3 : arg3.IsWhole) (arg4 : Memref sig .tc .vmem S1x1792 .f32) (harg4 : arg4.IsWhole) (arg5 : Memref sig .tc .vmem S256x64 .f32) (harg5 : arg5.IsWhole) (arg6 : Memref sig .tc .vmem S256x64 .f32) (harg6 : arg6.IsWhole) (arg7 : Memref sig .tc .vmem S256x1536 .bf16) (harg7 : arg7.IsWhole) (arg8 : Memref sig .tc .vmem S256x128 .i8) (harg8 : arg8.IsWhole) (arg9 : Memref sig .tc .vmem S1x2x128 .f32) (harg9 : arg9.IsWhole) (arg10 : Memref sig .tc .vmem S256x128 .i8) (harg10 : arg10.IsWhole) (arg11 : Memref sig .tc .vmem S1x2x128 .f32) (harg11 : arg11.IsWhole) (arg12 : Memref sig .tc .vmem S2x256x12288 .bf16) (harg12 : arg12.IsWhole) (arg13 : Memref sig .tc .vmem S2x256x128 .f32) (harg13 : arg13.IsWhole) (hc0 : cond0_0 i) (hc1 : ¬cond0_1 i) (hc2 : ¬cond0_2 i)
    (x0 : Vec F S256x12288 .i8) (x1 : Vec F S256x128 .f32) (x2 : Vec F S12288x1792 .i8) (x3 : Vec F S1x1792 .f32) (x4 : Vec F S256x64 .f32) (x5 : Vec F S256x64 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12 arg13 harg13) K := by
    intro E K
    simp only [cc0_qkv_eq_skeleton]; unfold cc0_qkv_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    iexists _, _; isplitr; swap; · iexact HS1
    ipureintro; rfl

end Cert.Qkv.Words

end
-- ==== Proof.QkvWords.RunB.lean ====
/- The body's triple on words at a point that projects and fills, the outputs' contents not named. -/
module

public import proofs.«01_k».proof.Proof.QkvWords.RunA

@[expose] public section

-- membership in a rectangle of production extents (`View.cover_of_tiled`): the elaborator's structural look
-- recurses once per coordinate of the long axes
set_option maxRecDepth 16384

noncomputable section

namespace Cert.Qkv.Words

open Cert.Qkv Cert.Qkv.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1180000 in
/-- The body's triple IN CASE B (`scf.if` 0 not taken, `scf.if` 1 taken, `scf.if` 2 not taken: points 1, 2, … 23: 23 of 25): on whole staging memrefs — the inputs' at their contents,
    the FORGOTTEN outputs' (6, 7, 8, 9, 10) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .vmem S256x12288 .i8) (harg1 : arg1.IsWhole) (arg2 : Memref sig .tc .vmem S256x128 .f32) (harg2 : arg2.IsWhole) (arg3 : Memref sig .tc .vmem S12288x1792 .i8) (harg3 : arg3.IsWhole) (arg4 : Memref sig .tc .vmem S1x1792 .f32) (harg4 : arg4.IsWhole) (arg5 : Memref sig .tc .vmem S256x64 .f32) (harg5 : arg5.IsWhole) (arg6 : Memref sig .tc .vmem S256x64 .f32) (harg6 : arg6.IsWhole) (arg7 : Memref sig .tc .vmem S256x1536 .bf16) (harg7 : arg7.IsWhole) (arg8 : Memref sig .tc .vmem S256x128 .i8) (harg8 : arg8.IsWhole) (arg9 : Memref sig .tc .vmem S1x2x128 .f32) (harg9 : arg9.IsWhole) (arg10 : Memref sig .tc .vmem S256x128 .i8) (harg10 : arg10.IsWhole) (arg11 : Memref sig .tc .vmem S1x2x128 .f32) (harg11 : arg11.IsWhole) (arg12 : Memref sig .tc .vmem S2x256x12288 .bf16) (harg12 : arg12.IsWhole) (arg13 : Memref sig .tc .vmem S2x256x128 .f32) (harg13 : arg13.IsWhole) (hc0 : ¬cond0_0 i) (hc1 : cond0_1 i) (hc2 : ¬cond0_2 i)
    (x0 : Vec F S256x12288 .i8) (x1 : Vec F S256x128 .f32) (x2 : Vec F S12288x1792 .i8) (x3 : Vec F S1x1792 .f32) (x4 : Vec F S256x64 .f32) (x5 : Vec F S256x64 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12 arg13 harg13) K := by
    intro E K
    simp only [cc0_qkv_eq_skeleton]; unfold cc0_qkv_skel
    simp only [k0_part17_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    iexists _, _; isplitr; swap; · iexact HS1
    ipureintro; rfl

end Cert.Qkv.Words

end
-- ==== Proof.QkvWords.RunC.lean ====
/- The body's triple on words at the last point, which only projects, the outputs' contents not named. -/
module

public import proofs.«01_k».proof.Proof.QkvWords.RunB

@[expose] public section

-- membership in a rectangle of production extents (`View.cover_of_tiled`): the elaborator's structural look
-- recurses once per coordinate of the long axes
set_option maxRecDepth 16384

noncomputable section

namespace Cert.Qkv.Words

open Cert.Qkv Cert.Qkv.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1132000 in
/-- The body's triple IN CASE C (`scf.if` 0 not taken, `scf.if` 1 not taken, `scf.if` 2 taken: points 24): on whole staging memrefs — the inputs' at their contents,
    the FORGOTTEN outputs' (6, 7, 8, 9, 10) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_C (c : Dev nD) (i : grid0.Coords) (arg1 : Memref sig .tc .vmem S256x12288 .i8) (harg1 : arg1.IsWhole) (arg2 : Memref sig .tc .vmem S256x128 .f32) (harg2 : arg2.IsWhole) (arg3 : Memref sig .tc .vmem S12288x1792 .i8) (harg3 : arg3.IsWhole) (arg4 : Memref sig .tc .vmem S1x1792 .f32) (harg4 : arg4.IsWhole) (arg5 : Memref sig .tc .vmem S256x64 .f32) (harg5 : arg5.IsWhole) (arg6 : Memref sig .tc .vmem S256x64 .f32) (harg6 : arg6.IsWhole) (arg7 : Memref sig .tc .vmem S256x1536 .bf16) (harg7 : arg7.IsWhole) (arg8 : Memref sig .tc .vmem S256x128 .i8) (harg8 : arg8.IsWhole) (arg9 : Memref sig .tc .vmem S1x2x128 .f32) (harg9 : arg9.IsWhole) (arg10 : Memref sig .tc .vmem S256x128 .i8) (harg10 : arg10.IsWhole) (arg11 : Memref sig .tc .vmem S1x2x128 .f32) (harg11 : arg11.IsWhole) (arg12 : Memref sig .tc .vmem S2x256x12288 .bf16) (harg12 : arg12.IsWhole) (arg13 : Memref sig .tc .vmem S2x256x128 .f32) (harg13 : arg13.IsWhole) (hc0 : ¬cond0_0 i) (hc1 : ¬cond0_1 i) (hc2 : cond0_2 i)
    (x0 : Vec F S256x12288 .i8) (x1 : Vec F S256x128 .f32) (x2 : Vec F S12288x1792 .i8) (x3 : Vec F S1x1792 .f32) (x4 : Vec F S256x64 .f32) (x5 : Vec F S256x64 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12 arg13 harg13) K := by
    intro E K
    simp only [cc0_qkv_eq_skeleton]; unfold cc0_qkv_skel
    simp only [k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    iexists _, _; isplitr; swap; · iexact HS1
    ipureintro; rfl

end Cert.Qkv.Words

end
-- ==== Proof.QkvWords.Frame.lean ====
/- The query/key/value projection on words: it runs to its end from any memory and leaves its arguments unchanged and
   every counter at zero. What it leaves in the outputs is not named here. -/
module

public import proofs.«01_k».proof.Proof.QkvWords.RunC
public import Idealize.ShloMosaic.Lib.Claim

@[expose] public section

-- membership in a rectangle of production extents (`View.cover_of_tiled`): the elaborator's structural look
-- recurses once per coordinate of the long axes
set_option maxRecDepth 16384

noncomputable section

namespace Cert.Qkv.Words

open Cert.Qkv Cert.Qkv.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (6, 7, 8, 9, 10): nothing reads what the kernel leaves in them, so nothing
    of it is named (Lib/Pipeline/Dat.lean `Dat.toRForget`). -/
def forgets0 : Fin 11 → Bool := fun w => w.val == 6 || w.val == 7 || w.val == 8 || w.val == 9 || w.val == 10

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

set_option maxHeartbeats 3600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 25 := lt_of_lt_of_eq t.isLt (show cfg0.N = 25 from N_0)
  by_cases h0 : t.val % 25 = 0
  · by_cases h1 : (1 ≤ t.val % 25 ∧ t.val % 25 ≤ 23)
    · exfalso; omega
    · by_cases h2 : t.val % 25 = 24
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_A c (grid0.coords t) _ _ _ _ _ _ _ _ _ _ _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t)) Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]; · iexists _; iexact H8
        isplitl [H9]; · iexists _; iexact H9
        isplitl [H10]; · iexists _; iexact H10
        isplitl [HS0]; · iexact HS0
        isplitl [HS1]; · iexact HS1
        iintro ⟨H0, H1, H2, H3, H4, H5, H6, H7, H8, H9, H10, HS0, HS1⟩
        isplitl [HS0 HS1 Hg]
        · isplitl [HS0 HS1]
          · isplitl [HS0]
            · iexact HS0
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexact H10
  · by_cases h1 : (1 ≤ t.val % 25 ∧ t.val % 25 ≤ 23)
    · by_cases h2 : t.val % 25 = 24
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_B c (grid0.coords t) _ _ _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t)) Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]; · iexists _; iexact H8
        isplitl [H9]; · iexists _; iexact H9
        isplitl [H10]; · iexists _; iexact H10
        isplitl [HS0]; · iexact HS0
        isplitl [HS1]; · iexact HS1
        iintro ⟨H0, H1, H2, H3, H4, H5, H6, H7, H8, H9, H10, HS0, HS1⟩
        isplitl [HS0 HS1 Hg]
        · isplitl [HS0 HS1]
          · isplitl [HS0]
            · iexact HS0
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexact H10
    · by_cases h2 : t.val % 25 = 24
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_C c (grid0.coords t) _ _ _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t)) Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]; · iexists _; iexact H8
        isplitl [H9]; · iexists _; iexact H9
        isplitl [H10]; · iexists _; iexact H10
        isplitl [HS0]; · iexact HS0
        isplitl [HS1]; · iexact HS1
        iintro ⟨H0, H1, H2, H3, H4, H5, H6, H7, H8, H9, H10, HS0, HS1⟩
        isplitl [HS0 HS1 Hg]
        · isplitl [HS0 HS1]
          · isplitl [HS0]
            · iexact HS0
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexact H10
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 6, 7, 8, 9, 10) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (fun c => (dats m 0 c).toRForget forgets0) (A_eq m) (run_main m ρ)

/-- The program runs to its end from any memory, leaves its arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Qkv.Words

end
-- ==== Proof.Qkv.Cases.lean ====
/- The query/key/value projection at any float values: the conditions of its body over the grid's points, its
   staging buffers and its scratch, and what a run of the pipeline says of the arguments. -/
module

public import proofs.«01_k».proof.Proof.Gen.QkvIdeal.Frame
public import proofs.«01_k».proof.Proof.Gen.QkvIdeal.Skeleton
public import proofs.«01_k».proof.Proof.Gen.QkvIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.QkvIdeal.Proj

open Cert.QkvIdeal Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 25 = 0 :=
  (fun t => by
    have ht : t.val < 25 := Nat.lt_of_lt_of_eq t.isLt N_0
    have e0 : (grid0.coords t 0).val = t.val / 1 % 25 := Pipeline.Grid.coords_val t 0 (by decide) rfl
    simp only [cond0_0, k0_cond1, e0]
    word_cmp
   : ∀ t : Fin grid0.N, cond0_0 (grid0.coords t) ↔ t.val % 25 = 0)

/-- The condition of the body's `scf.if` 1 (`k0_h2`), from the grid coordinates (the skeleton's scalar
    chain substituted). -/
abbrev cond0_1 (i : grid0.Coords) : Prop := k0_cond2 i = 1#1
/-- It holds at the points whose coordinates have 1 ≤ i0 and i0 ≤ 23 — decided over the grid. -/
theorem hcond0_1 : ∀ t : Fin cfg0.N, cond0_1 (grid0.coords t) ↔ (1 ≤ t.val % 25 ∧ t.val % 25 ≤ 23) :=
  (by decide +kernel : ∀ t : Fin grid0.N, cond0_1 (grid0.coords t) ↔ (1 ≤ t.val % 25 ∧ t.val % 25 ≤ 23))

/-- The condition of the body's `scf.if` 2 (`k0_h3`), from the grid coordinates (the skeleton's scalar
    chain substituted). -/
abbrev cond0_2 (i : grid0.Coords) : Prop := k0_cond3 i = 1#1
/-- It holds at the last point only — by arithmetic of the point. -/
theorem hcond0_2 : ∀ t : Fin cfg0.N, cond0_2 (grid0.coords t) ↔ t.val % 25 = 24 :=
  (fun t => by
    have ht : t.val < 25 := Nat.lt_of_lt_of_eq t.isLt N_0
    have e0 : (grid0.coords t 0).val = t.val / 1 % 25 := Pipeline.Grid.coords_val t 0 (by decide) rfl
    simp only [cond0_2, k0_cond3, e0]
    word_cmp
   : ∀ t : Fin grid0.N, cond0_2 (grid0.coords t) ↔ t.val % 25 = 24)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S256x12288 .i8 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S12288x1792 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1792 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x1536 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x128 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x2x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x128 .i8 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x2x128 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S2x256x12288 .bf16 := Memref.whole cc0_scratch0
abbrev scM0_1 : Memref sig .tc .vmem S2x256x128 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The scratch the kernel carries between points, as views. -/
abbrev VS0_0 : View sig .tc .vmem S2x256x12288 .bf16 := scM0_0.view
abbrev VS0_1 : View sig .tc .vmem S2x256x128 .f32 := scM0_1.view

/-! ## Where the results' windows are idle -/

theorem idleAt0_6_A : ∀ t : Fin cfg0.N, cond0_0 (grid0.coords t) → cfg0.idle 6 (grid0.coords t) = true := by decide +kernel
theorem flushAt0_6_A : ∀ t : Fin cfg0.N, cond0_0 (grid0.coords t) → (cfg0.win 6).flush t = false := by decide +kernel
theorem liveAt0_6_B : ∀ t : Fin cfg0.N, ¬cond0_0 (grid0.coords t) → cfg0.idle 6 (grid0.coords t) = false := by decide +kernel
theorem idleAt0_7_A : ∀ t : Fin cfg0.N, cond0_0 (grid0.coords t) → cfg0.idle 7 (grid0.coords t) = true := by decide +kernel
theorem flushAt0_7_A : ∀ t : Fin cfg0.N, cond0_0 (grid0.coords t) → (cfg0.win 7).flush t = false := by decide +kernel
theorem liveAt0_7_B : ∀ t : Fin cfg0.N, ¬cond0_0 (grid0.coords t) → cfg0.idle 7 (grid0.coords t) = false := by decide +kernel
theorem idleAt0_8_A : ∀ t : Fin cfg0.N, cond0_0 (grid0.coords t) → cfg0.idle 8 (grid0.coords t) = true := by decide +kernel
theorem flushAt0_8_A : ∀ t : Fin cfg0.N, cond0_0 (grid0.coords t) → (cfg0.win 8).flush t = false := by decide +kernel
theorem liveAt0_8_B : ∀ t : Fin cfg0.N, ¬cond0_0 (grid0.coords t) → cfg0.idle 8 (grid0.coords t) = false := by decide +kernel
theorem idleAt0_9_A : ∀ t : Fin cfg0.N, cond0_0 (grid0.coords t) → cfg0.idle 9 (grid0.coords t) = true := by decide +kernel
theorem flushAt0_9_A : ∀ t : Fin cfg0.N, cond0_0 (grid0.coords t) → (cfg0.win 9).flush t = false := by decide +kernel
theorem liveAt0_9_B : ∀ t : Fin cfg0.N, ¬cond0_0 (grid0.coords t) → cfg0.idle 9 (grid0.coords t) = false := by decide +kernel
theorem idleAt0_10_A : ∀ t : Fin cfg0.N, cond0_0 (grid0.coords t) → cfg0.idle 10 (grid0.coords t) = true := by decide +kernel
theorem flushAt0_10_A : ∀ t : Fin cfg0.N, cond0_0 (grid0.coords t) → (cfg0.win 10).flush t = false := by decide +kernel
theorem liveAt0_10_B : ∀ t : Fin cfg0.N, ¬cond0_0 (grid0.coords t) → cfg0.idle 10 (grid0.coords t) = false := by decide +kernel

end Cert.QkvIdeal.Proj

end
-- ==== Proof.Qkv.RunA.lean ====
/- The body's triple at the first point, which only fills its slot. -/
module

public import proofs.«01_k».proof.Proof.Qkv.Cases

@[expose] public section

-- membership in a rectangle of production extents (`View.cover_of_tiled`): the elaborator's structural look
-- recurses once per coordinate of the long axes
set_option maxRecDepth 16384

noncomputable section

namespace Cert.QkvIdeal.Proj

open Cert.QkvIdeal Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE A (`scf.if` 0 taken, `scf.if` 1 not taken, `scf.if` 2 not taken: points 0): on whole staging memrefs — the inputs' at their contents,
    the FORGOTTEN outputs' (6, 7, 8, 9, 10) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
def kernelRun0_A (c : Dev nD) (i : grid0.Coords) (arg1 : Memref sig .tc .vmem S256x12288 .i8) (harg1 : arg1.IsWhole) (arg2 : Memref sig .tc .vmem S256x128 .f32) (harg2 : arg2.IsWhole) (arg3 : Memref sig .tc .vmem S12288x1792 .i8) (harg3 : arg3.IsWhole) (arg4 : Memref sig .tc .vmem S1x1792 .f32) (harg4 : arg4.IsWhole) (arg5 : Memref sig .tc .vmem S256x64 .f32) (harg5 : arg5.IsWhole) (arg6 : Memref sig .tc .vmem S256x64 .f32) (harg6 : arg6.IsWhole) (arg7 : Memref sig .tc .vmem S256x1536 .bf16) (harg7 : arg7.IsWhole) (arg8 : Memref sig .tc .vmem S256x128 .i8) (harg8 : arg8.IsWhole) (arg9 : Memref sig .tc .vmem S1x2x128 .f32) (harg9 : arg9.IsWhole) (arg10 : Memref sig .tc .vmem S256x128 .i8) (harg10 : arg10.IsWhole) (arg11 : Memref sig .tc .vmem S1x2x128 .f32) (harg11 : arg11.IsWhole) (arg12 : Memref sig .tc .vmem S2x256x12288 .bf16) (harg12 : arg12.IsWhole) (arg13 : Memref sig .tc .vmem S2x256x128 .f32) (harg13 : arg13.IsWhole) (hc0 : cond0_0 i) (hc1 : ¬cond0_1 i) (hc2 : ¬cond0_2 i)
    (x0 : Vec F S256x12288 .i8) (x1 : Vec F S256x128 .f32) (x2 : Vec F S12288x1792 .i8) (x3 : Vec F S1x1792 .f32) (x4 : Vec F S256x64 .f32) (x5 : Vec F S256x64 .f32) :
    Σ' (LS0 : List (View.Piece (Elt F) S2x256x12288 .bf16)), { LS1 : List (View.Piece (Elt F) S2x256x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc0_qkv_eq_skeleton]; unfold cc0_qkv_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]; · iexists _; iexact HS0
    iexists _; iexact HS1

end Cert.QkvIdeal.Proj

end
-- ==== Proof.Qkv.Tiles.lean ====
/- What the projection's body computes of one block of rows: the closed forms of its five results and each stored tile as
   the tile of its closed form, whatever the loads are as long as they read the blocks of the codes, the weights, the
   scales and the tables. -/
module

public import proofs.«01_k».proof.Proof.Gen.QkvIdeal.Skeleton
public import Idealize.ShloMosaic.Lib.Pointwise
public import Idealize.ShloMosaic.Lib.Pipeline.Value

@[expose] public section

set_option maxRecDepth 16384

noncomputable section

namespace Cert.QkvIdeal.Proj

open Cert.QkvIdeal Cert.QkvIdeal.Gen
open Idealize.ShloMosaic

theorem sum_fin12 {M : Type} [AddCommMonoid M] (g : Fin 12 → M) :
    ∑ j, g j = g 0 + g 1 + g 2 + g 3 + g 4 + g 5 + g 6 + g 7 + g 8 + g 9 + g 10 + g 11 := by
  simp only [Fin.sum_univ_castSucc, Fin.sum_univ_zero, zero_add]
  rfl

/-- A sum over the contracted axis is the sum of the twelve blocks' sums, in order. -/
theorem sum12 {M : Type} [AddCommMonoid M] (f : Fin 12288 → M) :
    ∑ k, f k = (∑ k : Fin 1024, f ⟨0 + k.val, by omega⟩) + (∑ k : Fin 1024, f ⟨1024 + k.val, by omega⟩)
      + (∑ k : Fin 1024, f ⟨2048 + k.val, by omega⟩) + (∑ k : Fin 1024, f ⟨3072 + k.val, by omega⟩)
      + (∑ k : Fin 1024, f ⟨4096 + k.val, by omega⟩) + (∑ k : Fin 1024, f ⟨5120 + k.val, by omega⟩)
      + (∑ k : Fin 1024, f ⟨6144 + k.val, by omega⟩) + (∑ k : Fin 1024, f ⟨7168 + k.val, by omega⟩)
      + (∑ k : Fin 1024, f ⟨8192 + k.val, by omega⟩) + (∑ k : Fin 1024, f ⟨9216 + k.val, by omega⟩)
      + (∑ k : Fin 1024, f ⟨10240 + k.val, by omega⟩) + (∑ k : Fin 1024, f ⟨11264 + k.val, by omega⟩) := by
  have e : ∑ k, f k = ∑ j : Fin 12, ∑ k : Fin 1024, f ⟨1024 * j.val + k.val, by omega⟩ := by
    rw [← Fintype.sum_prod_type' (f := fun (j : Fin 12) (k : Fin 1024) => f ⟨1024 * j.val + k.val, by omega⟩)]
    refine (Fintype.sum_equiv (finProdFinEquiv (m := 12) (n := 1024)) _ _ fun p => ?_).symm
    have h : finProdFinEquiv p = (⟨1024 * p.1.val + p.2.val, by omega⟩ : Fin 12288) := Fin.ext (Nat.add_comm _ _)
    exact congrArg f h.symm
  rw [e, sum_fin12]
  rfl

/-! ## The closed forms of a block -/

/-- A load of codes reads 1024 columns of the block of rows `X0`, from column `j`, widened. -/
def CB (X0 : Vec Ideal S256x12288 .i8) (j : ℕ) (hj : j + 1024 ≤ 12288) (a : Vec Ideal S1x256x1024 .bf16) : Prop :=
  ∀ (r : Fin 256) (k : Fin 1024), a (ix3 0 r k) = (FloatOps.sitofp .bf16 (X0 (ix2 r ⟨j + k.val, by omega⟩)) : Ideal .bf16)

/-- A load of weights reads 1024 rows from row `j` and 512 columns from column `o`. -/
def WB (x2 : Vec Ideal S12288x1792 .i8) (j o : ℕ) (hj : j + 1024 ≤ 12288) (ho : o + 512 ≤ 1792) (w : Vec Ideal S1024x512 .i8) : Prop :=
  ∀ (k : Fin 1024) (l : Fin 512), w (ix2 k l) = x2 (ix2 ⟨j + k.val, by omega⟩ ⟨o + l.val, by omega⟩)

/-- The same of the last 256 columns. -/
def WB' (x2 : Vec Ideal S12288x1792 .i8) (j o : ℕ) (hj : j + 1024 ≤ 12288) (ho : o + 256 ≤ 1792) (w : Vec Ideal S1024x256 .i8) : Prop :=
  ∀ (k : Fin 1024) (l : Fin 256), w (ix2 k l) = x2 (ix2 ⟨j + k.val, by omega⟩ ⟨o + l.val, by omega⟩)

/-- A product of a row of codes with a column of weights. -/
def accv (X0 : Vec Ideal S256x12288 .i8) (x2 : Vec Ideal S12288x1792 .i8) (r : Fin 256) (o : Fin 1792) : Ideal .f32 :=
  ∑ k : Fin 12288, (FloatOps.sitofp .bf16 (X0 (ix2 r k)) : Ideal .bf16) * (FloatOps.sitofp .bf16 (x2 (ix2 k o)) : Ideal .bf16)

/-- The projection of a row onto the head at column `o`: the product, times the row's scale, times the column's. -/
def projh (X0 : Vec Ideal S256x12288 .i8) (X1 : Vec Ideal S256x128 .f32) (x2 : Vec Ideal S12288x1792 .i8) (x3 : Vec Ideal S1x1792 .f32)
    (o : ℕ) (ho : o + 128 ≤ 1792) (r : Fin 256) (l : Fin 128) : Ideal .f32 :=
  accv X0 x2 r ⟨o + l.val, by omega⟩ * X1 (ix2 r l) * x3 (ix2 0 ⟨o + l.val, by omega⟩)

/-- A table of 64 columns read at each of the two halves of a head. -/
def cosv (c : Vec Ideal S256x64 .f32) (r : Fin 256) (l : Fin 128) : Ideal .f32 :=
  if h : l.val < 64 then c (ix2 r ⟨l.val, h⟩) else c (ix2 r ⟨l.val - 64, by omega⟩)

/-- The same, negated in the first half. -/
def sinv (s : Vec Ideal S256x64 .f32) (r : Fin 256) (l : Fin 128) : Ideal .f32 :=
  if h : l.val < 64 then 0 - s (ix2 r ⟨l.val, h⟩) else s (ix2 r ⟨l.val - 64, by omega⟩)

/-- The column of the other half of a head. -/
abbrev other (l : Fin 128) : Fin 128 := ⟨(l.val + 128 - 64) % 128, Nat.mod_lt _ (by decide)⟩

/-- A head rotated by the tables. -/
def ropeh (X0 : Vec Ideal S256x12288 .i8) (X1 : Vec Ideal S256x128 .f32) (x2 : Vec Ideal S12288x1792 .i8) (x3 : Vec Ideal S1x1792 .f32)
    (x4 x5 : Vec Ideal S256x64 .f32) (o : ℕ) (ho : o + 128 ≤ 1792) (r : Fin 256) (l : Fin 128) : Ideal .f32 :=
  projh X0 X1 x2 x3 o ho r l * cosv x4 r l + projh X0 X1 x2 x3 o ho r (other l) * sinv x5 r l

section
variable (X0 : Vec Ideal S256x12288 .i8) (X1 : Vec Ideal S256x128 .f32) (x2 : Vec Ideal S12288x1792 .i8) (x3 : Vec Ideal S1x1792 .f32)
  (x4 x5 : Vec Ideal S256x64 .f32)

/-- The scale of a head of 128 values: the largest magnitude over 127, or 1 where that is 0. -/
def scaleOf (v : Fin 128 → Ideal .f32) : Ideal .f32 :=
  if Finset.fold max (Ideal.ofBits .f32 0xFF800000#32) (fun x => (FloatOps.absf (v x) : Ideal .f32)) Finset.univ = 0 then 1
  else Ideal.div (Finset.fold max (Ideal.ofBits .f32 0xFF800000#32) (fun x => (FloatOps.absf (v x) : Ideal .f32)) Finset.univ) (Ideal.ofBits .f32 0x42FE0000#32)

/-- The code of one of them. -/
def codeOf (v : Fin 128 → Ideal .f32) (l : Fin 128) : BitVec 8 :=
  FloatOps.fptosi (F := Ideal) (φ := .f32) 8 (min (Ideal.ofBits .f32 0x42FE0000#32) (max (Ideal.ofBits .f32 0xC2FE0000#32)
    (Ideal.liftRound Ideal.roundHalfEven (v l * Ideal.div 1 (scaleOf v)))))

/-- The keys' codes of a block of rows, and the scales (row `128 b + l` of the block at `(b, l)`). -/
def kcv : Vec Ideal S256x128 .i8 := fun y => codeOf (ropeh X0 X1 x2 x3 x4 x5 1536 (by decide) (y 0)) (y 1)
def ksv : Vec Ideal S1x2x128 .f32 := fun y =>
  scaleOf (ropeh X0 X1 x2 x3 x4 x5 1536 (by decide) ⟨128 * (y 1).val + (y 2).val, by have h1 : (y 1).val < 2 := (y 1).isLt; have h2 : (y 2).val < 128 := (y 2).isLt; omega⟩)

/-- The values' codes of a block of rows, and the scales. -/
def vcv : Vec Ideal S256x128 .i8 := fun y => codeOf (projh X0 X1 x2 x3 1664 (by decide) (y 0)) (y 1)
def vsv : Vec Ideal S1x2x128 .f32 := fun y =>
  scaleOf (projh X0 X1 x2 x3 1664 (by decide) ⟨128 * (y 1).val + (y 2).val, by have h1 : (y 1).val < 2 := (y 1).isLt; have h2 : (y 2).val < 128 := (y 2).isLt; omega⟩)

theorem row_index (x : S1x1x128.Idx) : x = ix3 0 0 (x 2) := by
  rw [eq_ix3 x]
  congr 1
  · exact Subsingleton.elim (α := Fin 1) _ _
  · exact Subsingleton.elim (α := Fin 1) _ _

/-- The queries of a block of rows. -/
def qv : Vec Ideal S256x1536 .bf16 := fun y =>
  ropeh X0 X1 x2 x3 x4 x5 ((y 1).val / 128 * 128) (by have : (y 1).val < 1536 := (y 1).isLt; omega) (y 0) ⟨(y 1).val % 128, Nat.mod_lt _ (by decide)⟩

/-- A head of the queries is the rotated head. -/
theorem qv_tile (o : ℕ) (ho : o + 128 ≤ 1536) (hd : o % 128 = 0) (r : Fin 256) (l : Fin 128) :
    qv X0 X1 x2 x3 x4 x5 (ix2 r ⟨o + l.val, by omega⟩) = ropeh X0 X1 x2 x3 x4 x5 o (by omega) r l := by
  have e1 : (o + l.val) / 128 * 128 = o := by have := l.isLt; omega
  have e2 : (⟨(o + l.val) % 128, Nat.mod_lt _ (by decide)⟩ : Fin 128) = l := Fin.ext (by have := l.isLt; simp only; omega)
  show ropeh X0 X1 x2 x3 x4 x5 ((o + l.val) / 128 * 128) _ r ⟨(o + l.val) % 128, _⟩ = _
  rw [e2]
  congr 1

/-- The index a tile of the queries at column `o` names. -/
theorem emb_tile (o : ℕ) (h : ∀ a, (![0, o] : Fin 2 → ℕ) a + (![256, 128] : Fin 2 → ℕ) a ≤ S256x1536.size a) (r : Fin 256) (l : Fin 128) :
    (Rect.unit (s := S256x1536) ![0, o] ![256, 128] h).emb (ix2 r l) = ix2 r ⟨o + l.val, by have := h 1; simp at this; omega⟩ := by
  funext a; fin_cases a
  · apply Fin.ext; simp [Rect.emb, Rect.unit]
  · apply Fin.ext; simp [Rect.emb, Rect.unit]

end

/-- The products of columns 0 … 511, from their twelve blocks' loads. -/
theorem acc0 (X0 : Vec Ideal S256x12288 .i8) (x2 : Vec Ideal S12288x1792 .i8)
    {a0 a1 a2 a3 a4 a5 a6 a7 a8 a9 a10 a11 : Vec Ideal S1x256x1024 .bf16} {w0 w1 w2 w3 w4 w5 w6 w7 w8 w9 w10 w11 : Vec Ideal S1024x512 .i8}
    (ha0 : CB X0 0 (by decide) a0) (ha1 : CB X0 1024 (by decide) a1) (ha2 : CB X0 2048 (by decide) a2) (ha3 : CB X0 3072 (by decide) a3) (ha4 : CB X0 4096 (by decide) a4) (ha5 : CB X0 5120 (by decide) a5) (ha6 : CB X0 6144 (by decide) a6) (ha7 : CB X0 7168 (by decide) a7) (ha8 : CB X0 8192 (by decide) a8) (ha9 : CB X0 9216 (by decide) a9) (ha10 : CB X0 10240 (by decide) a10) (ha11 : CB X0 11264 (by decide) a11)
    (hw0 : WB x2 0 0 (by decide) (by decide) w0) (hw1 : WB x2 1024 0 (by decide) (by decide) w1) (hw2 : WB x2 2048 0 (by decide) (by decide) w2) (hw3 : WB x2 3072 0 (by decide) (by decide) w3) (hw4 : WB x2 4096 0 (by decide) (by decide) w4) (hw5 : WB x2 5120 0 (by decide) (by decide) w5) (hw6 : WB x2 6144 0 (by decide) (by decide) w6) (hw7 : WB x2 7168 0 (by decide) (by decide) w7) (hw8 : WB x2 8192 0 (by decide) (by decide) w8) (hw9 : WB x2 9216 0 (by decide) (by decide) w9) (hw10 : WB x2 10240 0 (by decide) (by decide) w10) (hw11 : WB x2 11264 0 (by decide) (by decide) w11)
    (r : Fin 256) (l : Fin 512) :
    k0_pay10 (k0_pay9 (k0_pay8 a0 w0 a1 w1 a2 w2 a3 w3) a4 w4 a5 w5 a6 w6 a7 w7 a8 w8) a9 w9 a10 w10 a11 w11 (ix2 r l) = accv X0 x2 r ⟨0 + l.val, by omega⟩ := by
  unfold accv
  rw [sum12]
  simp only [← ha0 r, ← ha1 r, ← ha2 r, ← ha3 r, ← ha4 r, ← ha5 r, ← ha6 r, ← ha7 r, ← ha8 r, ← ha9 r, ← ha10 r, ← ha11 r, ← hw0 _ l, ← hw1 _ l, ← hw2 _ l, ← hw3 _ l, ← hw4 _ l, ← hw5 _ l, ← hw6 _ l, ← hw7 _ l, ← hw8 _ l, ← hw9 _ l, ← hw10 _ l, ← hw11 _ l]
  pointwise [k0_pay10, k0_pay9, k0_pay8]

/-- The products of columns 512 … 1023, from their twelve blocks' loads. -/
theorem acc1 (X0 : Vec Ideal S256x12288 .i8) (x2 : Vec Ideal S12288x1792 .i8)
    {a0 a1 a2 a3 a4 a5 a6 a7 a8 a9 a10 a11 : Vec Ideal S1x256x1024 .bf16} {w0 w1 w2 w3 w4 w5 w6 w7 w8 w9 w10 w11 : Vec Ideal S1024x512 .i8}
    (ha0 : CB X0 0 (by decide) a0) (ha1 : CB X0 1024 (by decide) a1) (ha2 : CB X0 2048 (by decide) a2) (ha3 : CB X0 3072 (by decide) a3) (ha4 : CB X0 4096 (by decide) a4) (ha5 : CB X0 5120 (by decide) a5) (ha6 : CB X0 6144 (by decide) a6) (ha7 : CB X0 7168 (by decide) a7) (ha8 : CB X0 8192 (by decide) a8) (ha9 : CB X0 9216 (by decide) a9) (ha10 : CB X0 10240 (by decide) a10) (ha11 : CB X0 11264 (by decide) a11)
    (hw0 : WB x2 0 512 (by decide) (by decide) w0) (hw1 : WB x2 1024 512 (by decide) (by decide) w1) (hw2 : WB x2 2048 512 (by decide) (by decide) w2) (hw3 : WB x2 3072 512 (by decide) (by decide) w3) (hw4 : WB x2 4096 512 (by decide) (by decide) w4) (hw5 : WB x2 5120 512 (by decide) (by decide) w5) (hw6 : WB x2 6144 512 (by decide) (by decide) w6) (hw7 : WB x2 7168 512 (by decide) (by decide) w7) (hw8 : WB x2 8192 512 (by decide) (by decide) w8) (hw9 : WB x2 9216 512 (by decide) (by decide) w9) (hw10 : WB x2 10240 512 (by decide) (by decide) w10) (hw11 : WB x2 11264 512 (by decide) (by decide) w11)
    (r : Fin 256) (l : Fin 512) :
    k0_pay22 (k0_pay19 (k0_pay16 a0 w0 a1 w1 a2 w2 a3 w3) (k0_pay17 a4) (k0_pay18 w4) a5 w5 a6 w6 a7 w7 a8 w8) (k0_pay20 a9) (k0_pay21 w9) a10 w10 a11 w11 (ix2 r l) = accv X0 x2 r ⟨512 + l.val, by omega⟩ := by
  unfold accv
  rw [sum12]
  simp only [← ha0 r, ← ha1 r, ← ha2 r, ← ha3 r, ← ha4 r, ← ha5 r, ← ha6 r, ← ha7 r, ← ha8 r, ← ha9 r, ← ha10 r, ← ha11 r, ← hw0 _ l, ← hw1 _ l, ← hw2 _ l, ← hw3 _ l, ← hw4 _ l, ← hw5 _ l, ← hw6 _ l, ← hw7 _ l, ← hw8 _ l, ← hw9 _ l, ← hw10 _ l, ← hw11 _ l]
  pointwise [k0_pay22, k0_pay21, k0_pay20, k0_pay19, k0_pay18, k0_pay17, k0_pay16]

/-- The products of columns 1024 … 1535, from their twelve blocks' loads. -/
theorem acc2 (X0 : Vec Ideal S256x12288 .i8) (x2 : Vec Ideal S12288x1792 .i8)
    {a0 a1 a2 a3 a4 a5 a6 a7 a8 a9 a10 a11 : Vec Ideal S1x256x1024 .bf16} {w0 w1 w2 w3 w4 w5 w6 w7 w8 w9 w10 w11 : Vec Ideal S1024x512 .i8}
    (ha0 : CB X0 0 (by decide) a0) (ha1 : CB X0 1024 (by decide) a1) (ha2 : CB X0 2048 (by decide) a2) (ha3 : CB X0 3072 (by decide) a3) (ha4 : CB X0 4096 (by decide) a4) (ha5 : CB X0 5120 (by decide) a5) (ha6 : CB X0 6144 (by decide) a6) (ha7 : CB X0 7168 (by decide) a7) (ha8 : CB X0 8192 (by decide) a8) (ha9 : CB X0 9216 (by decide) a9) (ha10 : CB X0 10240 (by decide) a10) (ha11 : CB X0 11264 (by decide) a11)
    (hw0 : WB x2 0 1024 (by decide) (by decide) w0) (hw1 : WB x2 1024 1024 (by decide) (by decide) w1) (hw2 : WB x2 2048 1024 (by decide) (by decide) w2) (hw3 : WB x2 3072 1024 (by decide) (by decide) w3) (hw4 : WB x2 4096 1024 (by decide) (by decide) w4) (hw5 : WB x2 5120 1024 (by decide) (by decide) w5) (hw6 : WB x2 6144 1024 (by decide) (by decide) w6) (hw7 : WB x2 7168 1024 (by decide) (by decide) w7) (hw8 : WB x2 8192 1024 (by decide) (by decide) w8) (hw9 : WB x2 9216 1024 (by decide) (by decide) w9) (hw10 : WB x2 10240 1024 (by decide) (by decide) w10) (hw11 : WB x2 11264 1024 (by decide) (by decide) w11)
    (r : Fin 256) (l : Fin 512) :
    k0_pay34 (k0_pay32 (k0_pay30 (k0_pay29 a0) w0 a1 w1 a2 w2 a3 w3 a4 w4) (k0_pay31 a5) w5 a6 w6 a7 w7 a8 w8 a9 w9) (k0_pay33 a10) w10 a11 w11 (ix2 r l) = accv X0 x2 r ⟨1024 + l.val, by omega⟩ := by
  unfold accv
  rw [sum12]
  simp only [← ha0 r, ← ha1 r, ← ha2 r, ← ha3 r, ← ha4 r, ← ha5 r, ← ha6 r, ← ha7 r, ← ha8 r, ← ha9 r, ← ha10 r, ← ha11 r, ← hw0 _ l, ← hw1 _ l, ← hw2 _ l, ← hw3 _ l, ← hw4 _ l, ← hw5 _ l, ← hw6 _ l, ← hw7 _ l, ← hw8 _ l, ← hw9 _ l, ← hw10 _ l, ← hw11 _ l]
  pointwise [k0_pay34, k0_pay33, k0_pay32, k0_pay31, k0_pay30, k0_pay29]

/-- The products of columns 1536 … 1791, from their twelve blocks' loads. -/
theorem acc3 (X0 : Vec Ideal S256x12288 .i8) (x2 : Vec Ideal S12288x1792 .i8)
    {a0 a1 a2 a3 a4 a5 a6 a7 a8 a9 a10 a11 : Vec Ideal S1x256x1024 .bf16} {w0 w1 w2 w3 w4 w5 w6 w7 w8 w9 w10 w11 : Vec Ideal S1024x256 .i8}
    (ha0 : CB X0 0 (by decide) a0) (ha1 : CB X0 1024 (by decide) a1) (ha2 : CB X0 2048 (by decide) a2) (ha3 : CB X0 3072 (by decide) a3) (ha4 : CB X0 4096 (by decide) a4) (ha5 : CB X0 5120 (by decide) a5) (ha6 : CB X0 6144 (by decide) a6) (ha7 : CB X0 7168 (by decide) a7) (ha8 : CB X0 8192 (by decide) a8) (ha9 : CB X0 9216 (by decide) a9) (ha10 : CB X0 10240 (by decide) a10) (ha11 : CB X0 11264 (by decide) a11)
    (hw0 : WB' x2 0 1536 (by decide) (by decide) w0) (hw1 : WB' x2 1024 1536 (by decide) (by decide) w1) (hw2 : WB' x2 2048 1536 (by decide) (by decide) w2) (hw3 : WB' x2 3072 1536 (by decide) (by decide) w3) (hw4 : WB' x2 4096 1536 (by decide) (by decide) w4) (hw5 : WB' x2 5120 1536 (by decide) (by decide) w5) (hw6 : WB' x2 6144 1536 (by decide) (by decide) w6) (hw7 : WB' x2 7168 1536 (by decide) (by decide) w7) (hw8 : WB' x2 8192 1536 (by decide) (by decide) w8) (hw9 : WB' x2 9216 1536 (by decide) (by decide) w9) (hw10 : WB' x2 10240 1536 (by decide) (by decide) w10) (hw11 : WB' x2 11264 1536 (by decide) (by decide) w11)
    (r : Fin 256) (l : Fin 256) :
    k0_pay42 (k0_pay41 (k0_pay40 (k0_pay39 a0 w0) a1 w1 a2 w2 a3 w3 a4 w4 a5 w5) a6 w6 a7 w7 a8 w8 a9 w9 a10 w10) a11 w11 (ix2 r l) = accv X0 x2 r ⟨1536 + l.val, by omega⟩ := by
  unfold accv
  rw [sum12]
  simp only [← ha0 r, ← ha1 r, ← ha2 r, ← ha3 r, ← ha4 r, ← ha5 r, ← ha6 r, ← ha7 r, ← ha8 r, ← ha9 r, ← ha10 r, ← ha11 r, ← hw0 _ l, ← hw1 _ l, ← hw2 _ l, ← hw3 _ l, ← hw4 _ l, ← hw5 _ l, ← hw6 _ l, ← hw7 _ l, ← hw8 _ l, ← hw9 _ l, ← hw10 _ l, ← hw11 _ l]
  pointwise [k0_pay42, k0_pay41, k0_pay40, k0_pay39]

section
variable (X0 : Vec Ideal S256x12288 .i8) (X1 : Vec Ideal S256x128 .f32) (x2 : Vec Ideal S12288x1792 .i8) (x3 : Vec Ideal S1x1792 .f32)
  (x4 x5 : Vec Ideal S256x64 .f32)

theorem piece00 (p : FVec Ideal S256x512 .f32) (a9 : Vec Ideal S1x256x1024 .bf16) (w9 : Vec Ideal S1024x512 .i8) (a10 : Vec Ideal S1x256x1024 .bf16) (w10 : Vec Ideal S1024x512 .i8) (a11 : Vec Ideal S1x256x1024 .bf16) (w11 : Vec Ideal S1024x512 .i8)
    (sc : Vec Ideal S1x256x128 .f32) (sw : Vec Ideal S1x128 .f32) (c s : Vec Ideal S256x64 .f32)
    (hsc : ∀ r l, sc (ix3 0 r l) = X1 (ix2 r l)) (hsw : ∀ k : Fin 128, sw (ix2 0 k) = x3 (ix2 0 ⟨0 + k.val, by omega⟩))
    (hc : ∀ r l, c (ix2 r l) = x4 (ix2 r l)) (hs : ∀ r l, s (ix2 r l) = x5 (ix2 r l))
    (hA : ∀ (r : Fin 256) (l : Fin 512), k0_pay10 p a9 w9 a10 w10 a11 w11 (ix2 r l) = accv X0 x2 r ⟨0 + l.val, by omega⟩)
    (hX : ∀ a, (![0, 0] : Fin 2 → ℕ) a + (![256, 128] : Fin 2 → ℕ) a ≤ S256x1536.size a)
    (x : (Rect.unit (s := S256x1536) ![0, 0] ![256, 128] hX).shape.Idx) :
    k0_pay11 (k0_pay6 c) (k0_pay7 s) p a9 w9 a10 w10 a11 w11 sc sw x = qv X0 X1 x2 x3 x4 x5 ((Rect.unit (s := S256x1536) ![0, 0] ![256, 128] hX).emb x) := by
  obtain ⟨r, l, rfl⟩ : ∃ (r : Fin 256) (l : Fin 128), x = ix2 r l := ⟨x 0, x 1, eq_ix2 x⟩
  rw [emb_tile, qv_tile X0 X1 x2 x3 x4 x5 0 (by decide) (by decide)]
  pointwise [k0_pay11, k0_pay6, k0_pay7]
  simp only [hA, hsc, hsw, hc, hs, ropeh, projh, cosv, sinv, other, ← Nat.add_assoc, Nat.reduceAdd, Nat.zero_add]

theorem piece01 (p : FVec Ideal S256x512 .f32) (a9 : Vec Ideal S1x256x1024 .bf16) (w9 : Vec Ideal S1024x512 .i8) (a10 : Vec Ideal S1x256x1024 .bf16) (w10 : Vec Ideal S1024x512 .i8) (a11 : Vec Ideal S1x256x1024 .bf16) (w11 : Vec Ideal S1024x512 .i8)
    (sc : Vec Ideal S1x256x128 .f32) (sw : Vec Ideal S1x128 .f32) (c s : Vec Ideal S256x64 .f32)
    (hsc : ∀ r l, sc (ix3 0 r l) = X1 (ix2 r l)) (hsw : ∀ k : Fin 128, sw (ix2 0 k) = x3 (ix2 0 ⟨128 + k.val, by omega⟩))
    (hc : ∀ r l, c (ix2 r l) = x4 (ix2 r l)) (hs : ∀ r l, s (ix2 r l) = x5 (ix2 r l))
    (hA : ∀ (r : Fin 256) (l : Fin 512), k0_pay10 p a9 w9 a10 w10 a11 w11 (ix2 r l) = accv X0 x2 r ⟨0 + l.val, by omega⟩)
    (hX : ∀ a, (![0, 128] : Fin 2 → ℕ) a + (![256, 128] : Fin 2 → ℕ) a ≤ S256x1536.size a)
    (x : (Rect.unit (s := S256x1536) ![0, 128] ![256, 128] hX).shape.Idx) :
    k0_pay13 (k0_pay6 c) (k0_pay7 s) (k0_pay12 p a9 w9 a10 w10 a11 w11) sc sw x = qv X0 X1 x2 x3 x4 x5 ((Rect.unit (s := S256x1536) ![0, 128] ![256, 128] hX).emb x) := by
  obtain ⟨r, l, rfl⟩ : ∃ (r : Fin 256) (l : Fin 128), x = ix2 r l := ⟨x 0, x 1, eq_ix2 x⟩
  rw [emb_tile, qv_tile X0 X1 x2 x3 x4 x5 128 (by decide) (by decide)]
  pointwise [k0_pay13, k0_pay12, k0_pay6, k0_pay7]
  simp only [hA, hsc, hsw, hc, hs, ropeh, projh, cosv, sinv, other, ← Nat.add_assoc, Nat.reduceAdd, Nat.zero_add]

theorem piece02 (p : FVec Ideal S256x512 .f32) (a9 : Vec Ideal S1x256x1024 .bf16) (w9 : Vec Ideal S1024x512 .i8) (a10 : Vec Ideal S1x256x1024 .bf16) (w10 : Vec Ideal S1024x512 .i8) (a11 : Vec Ideal S1x256x1024 .bf16) (w11 : Vec Ideal S1024x512 .i8)
    (sc : Vec Ideal S1x256x128 .f32) (sw : Vec Ideal S1x128 .f32) (c s : Vec Ideal S256x64 .f32)
    (hsc : ∀ r l, sc (ix3 0 r l) = X1 (ix2 r l)) (hsw : ∀ k : Fin 128, sw (ix2 0 k) = x3 (ix2 0 ⟨256 + k.val, by omega⟩))
    (hc : ∀ r l, c (ix2 r l) = x4 (ix2 r l)) (hs : ∀ r l, s (ix2 r l) = x5 (ix2 r l))
    (hA : ∀ (r : Fin 256) (l : Fin 512), k0_pay10 p a9 w9 a10 w10 a11 w11 (ix2 r l) = accv X0 x2 r ⟨0 + l.val, by omega⟩)
    (hX : ∀ a, (![0, 256] : Fin 2 → ℕ) a + (![256, 128] : Fin 2 → ℕ) a ≤ S256x1536.size a)
    (x : (Rect.unit (s := S256x1536) ![0, 256] ![256, 128] hX).shape.Idx) :
    k0_pay14 (k0_pay6 c) (k0_pay7 s) (k0_pay10 p a9 w9 a10 w10 a11 w11) sc sw x = qv X0 X1 x2 x3 x4 x5 ((Rect.unit (s := S256x1536) ![0, 256] ![256, 128] hX).emb x) := by
  obtain ⟨r, l, rfl⟩ : ∃ (r : Fin 256) (l : Fin 128), x = ix2 r l := ⟨x 0, x 1, eq_ix2 x⟩
  rw [emb_tile, qv_tile X0 X1 x2 x3 x4 x5 256 (by decide) (by decide)]
  pointwise [k0_pay14, k0_pay6, k0_pay7]
  simp only [hA, hsc, hsw, hc, hs, ropeh, projh, cosv, sinv, other, ← Nat.add_assoc, Nat.reduceAdd, Nat.zero_add]

theorem piece03 (p : FVec Ideal S256x512 .f32) (a9 : Vec Ideal S1x256x1024 .bf16) (w9 : Vec Ideal S1024x512 .i8) (a10 : Vec Ideal S1x256x1024 .bf16) (w10 : Vec Ideal S1024x512 .i8) (a11 : Vec Ideal S1x256x1024 .bf16) (w11 : Vec Ideal S1024x512 .i8)
    (sc : Vec Ideal S1x256x128 .f32) (sw : Vec Ideal S1x128 .f32) (c s : Vec Ideal S256x64 .f32)
    (hsc : ∀ r l, sc (ix3 0 r l) = X1 (ix2 r l)) (hsw : ∀ k : Fin 128, sw (ix2 0 k) = x3 (ix2 0 ⟨384 + k.val, by omega⟩))
    (hc : ∀ r l, c (ix2 r l) = x4 (ix2 r l)) (hs : ∀ r l, s (ix2 r l) = x5 (ix2 r l))
    (hA : ∀ (r : Fin 256) (l : Fin 512), k0_pay10 p a9 w9 a10 w10 a11 w11 (ix2 r l) = accv X0 x2 r ⟨0 + l.val, by omega⟩)
    (hX : ∀ a, (![0, 384] : Fin 2 → ℕ) a + (![256, 128] : Fin 2 → ℕ) a ≤ S256x1536.size a)
    (x : (Rect.unit (s := S256x1536) ![0, 384] ![256, 128] hX).shape.Idx) :
    k0_pay15 (k0_pay6 c) (k0_pay7 s) (k0_pay10 p a9 w9 a10 w10 a11 w11) sc sw x = qv X0 X1 x2 x3 x4 x5 ((Rect.unit (s := S256x1536) ![0, 384] ![256, 128] hX).emb x) := by
  obtain ⟨r, l, rfl⟩ : ∃ (r : Fin 256) (l : Fin 128), x = ix2 r l := ⟨x 0, x 1, eq_ix2 x⟩
  rw [emb_tile, qv_tile X0 X1 x2 x3 x4 x5 384 (by decide) (by decide)]
  pointwise [k0_pay15, k0_pay6, k0_pay7]
  simp only [hA, hsc, hsw, hc, hs, ropeh, projh, cosv, sinv, other, ← Nat.add_assoc, Nat.reduceAdd, Nat.zero_add]

theorem piece10 (p : FVec Ideal S256x512 .f32) (p1 : FVec Ideal S256x1024 .bf16) (p2 : FVec Ideal S1024x512 .bf16) (a10 : Vec Ideal S1x256x1024 .bf16) (w10 : Vec Ideal S1024x512 .i8) (a11 : Vec Ideal S1x256x1024 .bf16) (w11 : Vec Ideal S1024x512 .i8)
    (sc : Vec Ideal S1x256x128 .f32) (sw : Vec Ideal S1x128 .f32) (c s : Vec Ideal S256x64 .f32)
    (hsc : ∀ r l, sc (ix3 0 r l) = X1 (ix2 r l)) (hsw : ∀ k : Fin 128, sw (ix2 0 k) = x3 (ix2 0 ⟨512 + k.val, by omega⟩))
    (hc : ∀ r l, c (ix2 r l) = x4 (ix2 r l)) (hs : ∀ r l, s (ix2 r l) = x5 (ix2 r l))
    (hA : ∀ (r : Fin 256) (l : Fin 512), k0_pay22 p p1 p2 a10 w10 a11 w11 (ix2 r l) = accv X0 x2 r ⟨512 + l.val, by omega⟩)
    (hX : ∀ a, (![0, 512] : Fin 2 → ℕ) a + (![256, 128] : Fin 2 → ℕ) a ≤ S256x1536.size a)
    (x : (Rect.unit (s := S256x1536) ![0, 512] ![256, 128] hX).shape.Idx) :
    k0_pay23 (k0_pay6 c) (k0_pay7 s) p p1 p2 a10 w10 a11 w11 sc sw x = qv X0 X1 x2 x3 x4 x5 ((Rect.unit (s := S256x1536) ![0, 512] ![256, 128] hX).emb x) := by
  obtain ⟨r, l, rfl⟩ : ∃ (r : Fin 256) (l : Fin 128), x = ix2 r l := ⟨x 0, x 1, eq_ix2 x⟩
  rw [emb_tile, qv_tile X0 X1 x2 x3 x4 x5 512 (by decide) (by decide)]
  pointwise [k0_pay23, k0_pay6, k0_pay7]
  simp only [hA, hsc, hsw, hc, hs, ropeh, projh, cosv, sinv, other, ← Nat.add_assoc, Nat.reduceAdd, Nat.zero_add]

theorem piece11 (p : FVec Ideal S256x512 .f32) (p1 : FVec Ideal S256x1024 .bf16) (p2 : FVec Ideal S1024x512 .bf16) (a10 : Vec Ideal S1x256x1024 .bf16) (w10 : Vec Ideal S1024x512 .i8) (a11 : Vec Ideal S1x256x1024 .bf16) (w11 : Vec Ideal S1024x512 .i8)
    (sc : Vec Ideal S1x256x128 .f32) (sw : Vec Ideal S1x128 .f32) (c s : Vec Ideal S256x64 .f32)
    (hsc : ∀ r l, sc (ix3 0 r l) = X1 (ix2 r l)) (hsw : ∀ k : Fin 128, sw (ix2 0 k) = x3 (ix2 0 ⟨640 + k.val, by omega⟩))
    (hc : ∀ r l, c (ix2 r l) = x4 (ix2 r l)) (hs : ∀ r l, s (ix2 r l) = x5 (ix2 r l))
    (hA : ∀ (r : Fin 256) (l : Fin 512), k0_pay22 p p1 p2 a10 w10 a11 w11 (ix2 r l) = accv X0 x2 r ⟨512 + l.val, by omega⟩)
    (hX : ∀ a, (![0, 640] : Fin 2 → ℕ) a + (![256, 128] : Fin 2 → ℕ) a ≤ S256x1536.size a)
    (x : (Rect.unit (s := S256x1536) ![0, 640] ![256, 128] hX).shape.Idx) :
    k0_pay26 (k0_pay6 c) (k0_pay7 s) (k0_pay24 p p1 p2 a10 w10 a11 w11 sc) (k0_pay25 sw) x = qv X0 X1 x2 x3 x4 x5 ((Rect.unit (s := S256x1536) ![0, 640] ![256, 128] hX).emb x) := by
  obtain ⟨r, l, rfl⟩ : ∃ (r : Fin 256) (l : Fin 128), x = ix2 r l := ⟨x 0, x 1, eq_ix2 x⟩
  rw [emb_tile, qv_tile X0 X1 x2 x3 x4 x5 640 (by decide) (by decide)]
  pointwise [k0_pay26, k0_pay25, k0_pay24, k0_pay6, k0_pay7]
  simp only [hA, hsc, hsw, hc, hs, ropeh, projh, cosv, sinv, other, ← Nat.add_assoc, Nat.reduceAdd, Nat.zero_add]

theorem piece12 (p : FVec Ideal S256x512 .f32) (p1 : FVec Ideal S256x1024 .bf16) (p2 : FVec Ideal S1024x512 .bf16) (a10 : Vec Ideal S1x256x1024 .bf16) (w10 : Vec Ideal S1024x512 .i8) (a11 : Vec Ideal S1x256x1024 .bf16) (w11 : Vec Ideal S1024x512 .i8)
    (sc : Vec Ideal S1x256x128 .f32) (sw : Vec Ideal S1x128 .f32) (c s : Vec Ideal S256x64 .f32)
    (hsc : ∀ r l, sc (ix3 0 r l) = X1 (ix2 r l)) (hsw : ∀ k : Fin 128, sw (ix2 0 k) = x3 (ix2 0 ⟨768 + k.val, by omega⟩))
    (hc : ∀ r l, c (ix2 r l) = x4 (ix2 r l)) (hs : ∀ r l, s (ix2 r l) = x5 (ix2 r l))
    (hA : ∀ (r : Fin 256) (l : Fin 512), k0_pay22 p p1 p2 a10 w10 a11 w11 (ix2 r l) = accv X0 x2 r ⟨512 + l.val, by omega⟩)
    (hX : ∀ a, (![0, 768] : Fin 2 → ℕ) a + (![256, 128] : Fin 2 → ℕ) a ≤ S256x1536.size a)
    (x : (Rect.unit (s := S256x1536) ![0, 768] ![256, 128] hX).shape.Idx) :
    k0_pay27 (k0_pay6 c) (k0_pay7 s) (k0_pay22 p p1 p2 a10 w10 a11 w11) sc sw x = qv X0 X1 x2 x3 x4 x5 ((Rect.unit (s := S256x1536) ![0, 768] ![256, 128] hX).emb x) := by
  obtain ⟨r, l, rfl⟩ : ∃ (r : Fin 256) (l : Fin 128), x = ix2 r l := ⟨x 0, x 1, eq_ix2 x⟩
  rw [emb_tile, qv_tile X0 X1 x2 x3 x4 x5 768 (by decide) (by decide)]
  pointwise [k0_pay27, k0_pay6, k0_pay7]
  simp only [hA, hsc, hsw, hc, hs, ropeh, projh, cosv, sinv, other, ← Nat.add_assoc, Nat.reduceAdd, Nat.zero_add]

theorem piece13 (p : FVec Ideal S256x512 .f32) (p1 : FVec Ideal S256x1024 .bf16) (p2 : FVec Ideal S1024x512 .bf16) (a10 : Vec Ideal S1x256x1024 .bf16) (w10 : Vec Ideal S1024x512 .i8) (a11 : Vec Ideal S1x256x1024 .bf16) (w11 : Vec Ideal S1024x512 .i8)
    (sc : Vec Ideal S1x256x128 .f32) (sw : Vec Ideal S1x128 .f32) (c s : Vec Ideal S256x64 .f32)
    (hsc : ∀ r l, sc (ix3 0 r l) = X1 (ix2 r l)) (hsw : ∀ k : Fin 128, sw (ix2 0 k) = x3 (ix2 0 ⟨896 + k.val, by omega⟩))
    (hc : ∀ r l, c (ix2 r l) = x4 (ix2 r l)) (hs : ∀ r l, s (ix2 r l) = x5 (ix2 r l))
    (hA : ∀ (r : Fin 256) (l : Fin 512), k0_pay22 p p1 p2 a10 w10 a11 w11 (ix2 r l) = accv X0 x2 r ⟨512 + l.val, by omega⟩)
    (hX : ∀ a, (![0, 896] : Fin 2 → ℕ) a + (![256, 128] : Fin 2 → ℕ) a ≤ S256x1536.size a)
    (x : (Rect.unit (s := S256x1536) ![0, 896] ![256, 128] hX).shape.Idx) :
    k0_pay28 (k0_pay6 c) (k0_pay7 s) (k0_pay22 p p1 p2 a10 w10 a11 w11) sc sw x = qv X0 X1 x2 x3 x4 x5 ((Rect.unit (s := S256x1536) ![0, 896] ![256, 128] hX).emb x) := by
  obtain ⟨r, l, rfl⟩ : ∃ (r : Fin 256) (l : Fin 128), x = ix2 r l := ⟨x 0, x 1, eq_ix2 x⟩
  rw [emb_tile, qv_tile X0 X1 x2 x3 x4 x5 896 (by decide) (by decide)]
  pointwise [k0_pay28, k0_pay6, k0_pay7]
  simp only [hA, hsc, hsw, hc, hs, ropeh, projh, cosv, sinv, other, ← Nat.add_assoc, Nat.reduceAdd, Nat.zero_add]

theorem piece20 (p : FVec Ideal S256x512 .f32) (p1 : FVec Ideal S256x1024 .bf16) (w10 : Vec Ideal S1024x512 .i8) (a11 : Vec Ideal S1x256x1024 .bf16) (w11 : Vec Ideal S1024x512 .i8)
    (sc : Vec Ideal S1x256x128 .f32) (sw : Vec Ideal S1x128 .f32) (c s : Vec Ideal S256x64 .f32)
    (hsc : ∀ r l, sc (ix3 0 r l) = X1 (ix2 r l)) (hsw : ∀ k : Fin 128, sw (ix2 0 k) = x3 (ix2 0 ⟨1024 + k.val, by omega⟩))
    (hc : ∀ r l, c (ix2 r l) = x4 (ix2 r l)) (hs : ∀ r l, s (ix2 r l) = x5 (ix2 r l))
    (hA : ∀ (r : Fin 256) (l : Fin 512), k0_pay34 p p1 w10 a11 w11 (ix2 r l) = accv X0 x2 r ⟨1024 + l.val, by omega⟩)
    (hX : ∀ a, (![0, 1024] : Fin 2 → ℕ) a + (![256, 128] : Fin 2 → ℕ) a ≤ S256x1536.size a)
    (x : (Rect.unit (s := S256x1536) ![0, 1024] ![256, 128] hX).shape.Idx) :
    k0_pay35 (k0_pay6 c) (k0_pay7 s) p p1 w10 a11 w11 sc sw x = qv X0 X1 x2 x3 x4 x5 ((Rect.unit (s := S256x1536) ![0, 1024] ![256, 128] hX).emb x) := by
  obtain ⟨r, l, rfl⟩ : ∃ (r : Fin 256) (l : Fin 128), x = ix2 r l := ⟨x 0, x 1, eq_ix2 x⟩
  rw [emb_tile, qv_tile X0 X1 x2 x3 x4 x5 1024 (by decide) (by decide)]
  pointwise [k0_pay35, k0_pay6, k0_pay7]
  simp only [hA, hsc, hsw, hc, hs, ropeh, projh, cosv, sinv, other, ← Nat.add_assoc, Nat.reduceAdd, Nat.zero_add]

theorem piece21 (p : FVec Ideal S256x512 .f32) (p1 : FVec Ideal S256x1024 .bf16) (w10 : Vec Ideal S1024x512 .i8) (a11 : Vec Ideal S1x256x1024 .bf16) (w11 : Vec Ideal S1024x512 .i8)
    (sc : Vec Ideal S1x256x128 .f32) (sw : Vec Ideal S1x128 .f32) (c s : Vec Ideal S256x64 .f32)
    (hsc : ∀ r l, sc (ix3 0 r l) = X1 (ix2 r l)) (hsw : ∀ k : Fin 128, sw (ix2 0 k) = x3 (ix2 0 ⟨1152 + k.val, by omega⟩))
    (hc : ∀ r l, c (ix2 r l) = x4 (ix2 r l)) (hs : ∀ r l, s (ix2 r l) = x5 (ix2 r l))
    (hA : ∀ (r : Fin 256) (l : Fin 512), k0_pay34 p p1 w10 a11 w11 (ix2 r l) = accv X0 x2 r ⟨1024 + l.val, by omega⟩)
    (hX : ∀ a, (![0, 1152] : Fin 2 → ℕ) a + (![256, 128] : Fin 2 → ℕ) a ≤ S256x1536.size a)
    (x : (Rect.unit (s := S256x1536) ![0, 1152] ![256, 128] hX).shape.Idx) :
    k0_pay36 (k0_pay6 c) (k0_pay7 s) p p1 w10 a11 w11 sc sw x = qv X0 X1 x2 x3 x4 x5 ((Rect.unit (s := S256x1536) ![0, 1152] ![256, 128] hX).emb x) := by
  obtain ⟨r, l, rfl⟩ : ∃ (r : Fin 256) (l : Fin 128), x = ix2 r l := ⟨x 0, x 1, eq_ix2 x⟩
  rw [emb_tile, qv_tile X0 X1 x2 x3 x4 x5 1152 (by decide) (by decide)]
  pointwise [k0_pay36, k0_pay6, k0_pay7]
  simp only [hA, hsc, hsw, hc, hs, ropeh, projh, cosv, sinv, other, ← Nat.add_assoc, Nat.reduceAdd, Nat.zero_add]

theorem piece22 (p : FVec Ideal S256x512 .f32) (p1 : FVec Ideal S256x1024 .bf16) (w10 : Vec Ideal S1024x512 .i8) (a11 : Vec Ideal S1x256x1024 .bf16) (w11 : Vec Ideal S1024x512 .i8)
    (sc : Vec Ideal S1x256x128 .f32) (sw : Vec Ideal S1x128 .f32) (c s : Vec Ideal S256x64 .f32)
    (hsc : ∀ r l, sc (ix3 0 r l) = X1 (ix2 r l)) (hsw : ∀ k : Fin 128, sw (ix2 0 k) = x3 (ix2 0 ⟨1280 + k.val, by omega⟩))
    (hc : ∀ r l, c (ix2 r l) = x4 (ix2 r l)) (hs : ∀ r l, s (ix2 r l) = x5 (ix2 r l))
    (hA : ∀ (r : Fin 256) (l : Fin 512), k0_pay34 p p1 w10 a11 w11 (ix2 r l) = accv X0 x2 r ⟨1024 + l.val, by omega⟩)
    (hX : ∀ a, (![0, 1280] : Fin 2 → ℕ) a + (![256, 128] : Fin 2 → ℕ) a ≤ S256x1536.size a)
    (x : (Rect.unit (s := S256x1536) ![0, 1280] ![256, 128] hX).shape.Idx) :
    k0_pay37 (k0_pay6 c) (k0_pay7 s) (k0_pay34 p p1 w10 a11 w11) sc sw x = qv X0 X1 x2 x3 x4 x5 ((Rect.unit (s := S256x1536) ![0, 1280] ![256, 128] hX).emb x) := by
  obtain ⟨r, l, rfl⟩ : ∃ (r : Fin 256) (l : Fin 128), x = ix2 r l := ⟨x 0, x 1, eq_ix2 x⟩
  rw [emb_tile, qv_tile X0 X1 x2 x3 x4 x5 1280 (by decide) (by decide)]
  pointwise [k0_pay37, k0_pay6, k0_pay7]
  simp only [hA, hsc, hsw, hc, hs, ropeh, projh, cosv, sinv, other, ← Nat.add_assoc, Nat.reduceAdd, Nat.zero_add]

theorem piece23 (p : FVec Ideal S256x512 .f32) (p1 : FVec Ideal S256x1024 .bf16) (w10 : Vec Ideal S1024x512 .i8) (a11 : Vec Ideal S1x256x1024 .bf16) (w11 : Vec Ideal S1024x512 .i8)
    (sc : Vec Ideal S1x256x128 .f32) (sw : Vec Ideal S1x128 .f32) (c s : Vec Ideal S256x64 .f32)
    (hsc : ∀ r l, sc (ix3 0 r l) = X1 (ix2 r l)) (hsw : ∀ k : Fin 128, sw (ix2 0 k) = x3 (ix2 0 ⟨1408 + k.val, by omega⟩))
    (hc : ∀ r l, c (ix2 r l) = x4 (ix2 r l)) (hs : ∀ r l, s (ix2 r l) = x5 (ix2 r l))
    (hA : ∀ (r : Fin 256) (l : Fin 512), k0_pay34 p p1 w10 a11 w11 (ix2 r l) = accv X0 x2 r ⟨1024 + l.val, by omega⟩)
    (hX : ∀ a, (![0, 1408] : Fin 2 → ℕ) a + (![256, 128] : Fin 2 → ℕ) a ≤ S256x1536.size a)
    (x : (Rect.unit (s := S256x1536) ![0, 1408] ![256, 128] hX).shape.Idx) :
    k0_pay38 (k0_pay6 c) (k0_pay7 s) (k0_pay34 p p1 w10 a11 w11) sc sw x = qv X0 X1 x2 x3 x4 x5 ((Rect.unit (s := S256x1536) ![0, 1408] ![256, 128] hX).emb x) := by
  obtain ⟨r, l, rfl⟩ : ∃ (r : Fin 256) (l : Fin 128), x = ix2 r l := ⟨x 0, x 1, eq_ix2 x⟩
  rw [emb_tile, qv_tile X0 X1 x2 x3 x4 x5 1408 (by decide) (by decide)]
  pointwise [k0_pay38, k0_pay6, k0_pay7]
  simp only [hA, hsc, hsw, hc, hs, ropeh, projh, cosv, sinv, other, ← Nat.add_assoc, Nat.reduceAdd, Nat.zero_add]

/-- The index a whole block of codes names. -/
theorem emb_whole (h : ∀ a, (![0, 0] : Fin 2 → ℕ) a + (![256, 128] : Fin 2 → ℕ) a ≤ S256x128.size a) (r : Fin 256) (l : Fin 128) :
    (Rect.unit (s := S256x128) ![0, 0] ![256, 128] h).emb (ix2 r l) = ix2 r l := by
  funext a; fin_cases a
  · apply Fin.ext; simp [Rect.emb, Rect.unit]
  · apply Fin.ext; simp [Rect.emb, Rect.unit]

/-- The index a row of scales names. -/
theorem emb_row0 (h : ∀ a, (![0, 0, 0] : Fin 3 → ℕ) a + (![1, 1, 128] : Fin 3 → ℕ) a ≤ S1x2x128.size a) (l : Fin 128) :
    (Rect.unit (s := S1x2x128) ![0, 0, 0] ![1, 1, 128] h).emb (ix3 0 0 l) = ix3 0 0 l := by
  funext a; fin_cases a
  · apply Fin.ext; simp [Rect.emb, Rect.unit]
  · apply Fin.ext; simp [Rect.emb, Rect.unit]
  · apply Fin.ext; simp [Rect.emb, Rect.unit]

/-- The index a row of scales names. -/
theorem emb_row1 (h : ∀ a, (![0, 1, 0] : Fin 3 → ℕ) a + (![1, 1, 128] : Fin 3 → ℕ) a ≤ S1x2x128.size a) (l : Fin 128) :
    (Rect.unit (s := S1x2x128) ![0, 1, 0] ![1, 1, 128] h).emb (ix3 0 0 l) = ix3 0 1 l := by
  funext a; fin_cases a
  · apply Fin.ext; simp [Rect.emb, Rect.unit]
  · apply Fin.ext; simp [Rect.emb, Rect.unit]
  · apply Fin.ext; simp [Rect.emb, Rect.unit]

theorem head_k (p : FVec Ideal S256x256 .f32) (a11 : Vec Ideal S1x256x1024 .bf16) (w11 : Vec Ideal S1024x256 .i8)
    (sc : Vec Ideal S1x256x128 .f32) (sw : Vec Ideal S1x128 .f32) (c s : Vec Ideal S256x64 .f32)
    (hsc : ∀ r l, sc (ix3 0 r l) = X1 (ix2 r l)) (hsw : ∀ k : Fin 128, sw (ix2 0 k) = x3 (ix2 0 ⟨1536 + k.val, by omega⟩))
    (hc : ∀ r l, c (ix2 r l) = x4 (ix2 r l)) (hs : ∀ r l, s (ix2 r l) = x5 (ix2 r l))
    (hA : ∀ (r : Fin 256) (l : Fin 256), k0_pay42 p a11 w11 (ix2 r l) = accv X0 x2 r ⟨1536 + l.val, by omega⟩) (r : Fin 256) (l : Fin 128) :
    k0_pay43 (k0_pay6 c) (k0_pay7 s) p a11 w11 sc sw (ix2 r l) = ropeh X0 X1 x2 x3 x4 x5 1536 (by decide) r l := by
  pointwise [k0_pay43, k0_pay6, k0_pay7]
  simp only [hA, hsc, hsw, hc, hs, ropeh, projh, cosv, sinv, other, ← Nat.add_assoc, Nat.reduceAdd, Nat.zero_add]

theorem piece_kc (p : FVec Ideal S256x256 .f32) (a11 : Vec Ideal S1x256x1024 .bf16) (w11 : Vec Ideal S1024x256 .i8)
    (sc : Vec Ideal S1x256x128 .f32) (sw : Vec Ideal S1x128 .f32) (c s : Vec Ideal S256x64 .f32)
    (hsc : ∀ r l, sc (ix3 0 r l) = X1 (ix2 r l)) (hsw : ∀ k : Fin 128, sw (ix2 0 k) = x3 (ix2 0 ⟨1536 + k.val, by omega⟩))
    (hc : ∀ r l, c (ix2 r l) = x4 (ix2 r l)) (hs : ∀ r l, s (ix2 r l) = x5 (ix2 r l))
    (hA : ∀ (r : Fin 256) (l : Fin 256), k0_pay42 p a11 w11 (ix2 r l) = accv X0 x2 r ⟨1536 + l.val, by omega⟩)
    (hX : ∀ a, (![0, 0] : Fin 2 → ℕ) a + (![256, 128] : Fin 2 → ℕ) a ≤ S256x128.size a)
    (x : (Rect.unit (s := S256x128) ![0, 0] ![256, 128] hX).shape.Idx) :
    k0_pay45 (k0_pay6 c) (k0_pay7 s) p a11 w11 sc sw x = kcv X0 X1 x2 x3 x4 x5 ((Rect.unit (s := S256x128) ![0, 0] ![256, 128] hX).emb x) := by
  obtain ⟨r, l, rfl⟩ : ∃ (r : Fin 256) (l : Fin 128), x = ix2 r l := ⟨x 0, x 1, eq_ix2 x⟩
  rw [emb_whole]
  have hk := head_k X0 X1 x2 x3 x4 x5 p a11 w11 sc sw c s hsc hsw hc hs hA
  pointwise [k0_pay45, k0_pay44, kcv, codeOf, scaleOf]
  simp only [hk]

theorem piece_vc (p : FVec Ideal S256x256 .f32) (a11 : Vec Ideal S1x256x1024 .bf16) (w11 : Vec Ideal S1024x256 .i8)
    (sc : Vec Ideal S1x256x128 .f32) (sw : Vec Ideal S1x128 .f32)
    (hsc : ∀ r l, sc (ix3 0 r l) = X1 (ix2 r l)) (hsw : ∀ k : Fin 128, sw (ix2 0 k) = x3 (ix2 0 ⟨1664 + k.val, by omega⟩))
    (hA : ∀ (r : Fin 256) (l : Fin 256), k0_pay42 p a11 w11 (ix2 r l) = accv X0 x2 r ⟨1536 + l.val, by omega⟩)
    (hX : ∀ a, (![0, 0] : Fin 2 → ℕ) a + (![256, 128] : Fin 2 → ℕ) a ≤ S256x128.size a)
    (x : (Rect.unit (s := S256x128) ![0, 0] ![256, 128] hX).shape.Idx) :
    k0_pay52 (k0_pay42 p a11 w11) sc sw x = vcv X0 X1 x2 x3 ((Rect.unit (s := S256x128) ![0, 0] ![256, 128] hX).emb x) := by
  obtain ⟨r, l, rfl⟩ : ∃ (r : Fin 256) (l : Fin 128), x = ix2 r l := ⟨x 0, x 1, eq_ix2 x⟩
  rw [emb_whole]
  pointwise [k0_pay52, k0_pay51, k0_pay50, vcv, codeOf, scaleOf, projh]
  simp only [hA, hsc, hsw, ← Nat.add_assoc, Nat.reduceAdd, Nat.zero_add]

theorem piece_ks0 (p : FVec Ideal S256x256 .f32) (a11 : Vec Ideal S1x256x1024 .bf16) (w11 : Vec Ideal S1024x256 .i8)
    (sc : Vec Ideal S1x256x128 .f32) (sw : Vec Ideal S1x128 .f32) (c s : Vec Ideal S256x64 .f32)
    (hsc : ∀ r l, sc (ix3 0 r l) = X1 (ix2 r l)) (hsw : ∀ k : Fin 128, sw (ix2 0 k) = x3 (ix2 0 ⟨1536 + k.val, by omega⟩))
    (hc : ∀ r l, c (ix2 r l) = x4 (ix2 r l)) (hs : ∀ r l, s (ix2 r l) = x5 (ix2 r l))
    (hA : ∀ (r : Fin 256) (l : Fin 256), k0_pay42 p a11 w11 (ix2 r l) = accv X0 x2 r ⟨1536 + l.val, by omega⟩)
    (hX : ∀ a, (![0, 0, 0] : Fin 3 → ℕ) a + (![1, 1, 128] : Fin 3 → ℕ) a ≤ S1x2x128.size a)
    (x : (Rect.unit (s := S1x2x128) ![0, 0, 0] ![1, 1, 128] hX).shape.Idx) :
    k0_pay48 (k0_pay47 (k0_pay6 c) (k0_pay7 s) p a11 w11 sc sw) x = ksv X0 X1 x2 x3 x4 x5 ((Rect.unit (s := S1x2x128) ![0, 0, 0] ![1, 1, 128] hX).emb x) := by
  obtain ⟨l, rfl⟩ : ∃ (l : Fin 128), x = ix3 0 0 l := ⟨x 2, row_index x⟩
  rw [emb_row0]
  have hk := head_k X0 X1 x2 x3 x4 x5 p a11 w11 sc sw c s hsc hsw hc hs hA
  pointwise [k0_pay48, k0_pay47, k0_pay46, k0_pay44, ksv, scaleOf]
  simp only [hk, Nat.zero_add, Nat.mul_zero, Nat.mul_one, Fin.isValue, Fin.val_zero, Fin.val_one]

theorem piece_vs0 (p : FVec Ideal S256x256 .f32) (a11 : Vec Ideal S1x256x1024 .bf16) (w11 : Vec Ideal S1024x256 .i8)
    (sc : Vec Ideal S1x256x128 .f32) (sw : Vec Ideal S1x128 .f32)
    (hsc : ∀ r l, sc (ix3 0 r l) = X1 (ix2 r l)) (hsw : ∀ k : Fin 128, sw (ix2 0 k) = x3 (ix2 0 ⟨1664 + k.val, by omega⟩))
    (hA : ∀ (r : Fin 256) (l : Fin 256), k0_pay42 p a11 w11 (ix2 r l) = accv X0 x2 r ⟨1536 + l.val, by omega⟩)
    (hX : ∀ a, (![0, 0, 0] : Fin 3 → ℕ) a + (![1, 1, 128] : Fin 3 → ℕ) a ≤ S1x2x128.size a)
    (x : (Rect.unit (s := S1x2x128) ![0, 0, 0] ![1, 1, 128] hX).shape.Idx) :
    k0_pay54 (k0_pay51 (k0_pay42 p a11 w11) sc sw) x = vsv X0 X1 x2 x3 ((Rect.unit (s := S1x2x128) ![0, 0, 0] ![1, 1, 128] hX).emb x) := by
  obtain ⟨l, rfl⟩ : ∃ (l : Fin 128), x = ix3 0 0 l := ⟨x 2, row_index x⟩
  rw [emb_row0]
  pointwise [k0_pay54, k0_pay53, k0_pay51, k0_pay50, vsv, scaleOf, projh]
  simp only [hA, hsc, hsw, ← Nat.add_assoc, Nat.reduceAdd, Nat.zero_add, Nat.mul_zero, Nat.mul_one, Fin.isValue, Fin.val_zero, Fin.val_one]

theorem piece_ks1 (p : FVec Ideal S256x256 .f32) (a11 : Vec Ideal S1x256x1024 .bf16) (w11 : Vec Ideal S1024x256 .i8)
    (sc : Vec Ideal S1x256x128 .f32) (sw : Vec Ideal S1x128 .f32) (c s : Vec Ideal S256x64 .f32)
    (hsc : ∀ r l, sc (ix3 0 r l) = X1 (ix2 r l)) (hsw : ∀ k : Fin 128, sw (ix2 0 k) = x3 (ix2 0 ⟨1536 + k.val, by omega⟩))
    (hc : ∀ r l, c (ix2 r l) = x4 (ix2 r l)) (hs : ∀ r l, s (ix2 r l) = x5 (ix2 r l))
    (hA : ∀ (r : Fin 256) (l : Fin 256), k0_pay42 p a11 w11 (ix2 r l) = accv X0 x2 r ⟨1536 + l.val, by omega⟩)
    (hX : ∀ a, (![0, 1, 0] : Fin 3 → ℕ) a + (![1, 1, 128] : Fin 3 → ℕ) a ≤ S1x2x128.size a)
    (x : (Rect.unit (s := S1x2x128) ![0, 1, 0] ![1, 1, 128] hX).shape.Idx) :
    k0_pay49 (k0_pay46 (k0_pay6 c) (k0_pay7 s) p a11 w11 sc sw) x = ksv X0 X1 x2 x3 x4 x5 ((Rect.unit (s := S1x2x128) ![0, 1, 0] ![1, 1, 128] hX).emb x) := by
  obtain ⟨l, rfl⟩ : ∃ (l : Fin 128), x = ix3 0 0 l := ⟨x 2, row_index x⟩
  rw [emb_row1]
  have hk := head_k X0 X1 x2 x3 x4 x5 p a11 w11 sc sw c s hsc hsw hc hs hA
  pointwise [k0_pay49, k0_pay46, k0_pay44, ksv, scaleOf]
  simp only [hk, Nat.zero_add, Nat.mul_zero, Nat.mul_one, Fin.isValue, Fin.val_zero, Fin.val_one]

theorem piece_vs1 (p : FVec Ideal S256x256 .f32) (a11 : Vec Ideal S1x256x1024 .bf16) (w11 : Vec Ideal S1024x256 .i8)
    (sc : Vec Ideal S1x256x128 .f32) (sw : Vec Ideal S1x128 .f32)
    (hsc : ∀ r l, sc (ix3 0 r l) = X1 (ix2 r l)) (hsw : ∀ k : Fin 128, sw (ix2 0 k) = x3 (ix2 0 ⟨1664 + k.val, by omega⟩))
    (hA : ∀ (r : Fin 256) (l : Fin 256), k0_pay42 p a11 w11 (ix2 r l) = accv X0 x2 r ⟨1536 + l.val, by omega⟩)
    (hX : ∀ a, (![0, 1, 0] : Fin 3 → ℕ) a + (![1, 1, 128] : Fin 3 → ℕ) a ≤ S1x2x128.size a)
    (x : (Rect.unit (s := S1x2x128) ![0, 1, 0] ![1, 1, 128] hX).shape.Idx) :
    k0_pay55 (k0_pay51 (k0_pay42 p a11 w11) sc sw) x = vsv X0 X1 x2 x3 ((Rect.unit (s := S1x2x128) ![0, 1, 0] ![1, 1, 128] hX).emb x) := by
  obtain ⟨l, rfl⟩ : ∃ (l : Fin 128), x = ix3 0 0 l := ⟨x 2, row_index x⟩
  rw [emb_row1]
  pointwise [k0_pay55, k0_pay53, k0_pay51, k0_pay50, vsv, scaleOf, projh]
  simp only [hA, hsc, hsw, ← Nat.add_assoc, Nat.reduceAdd, Nat.zero_add, Nat.mul_zero, Nat.mul_one, Fin.isValue, Fin.val_zero, Fin.val_one]

end

end Cert.QkvIdeal.Proj

end
-- ==== Proof.Qkv.Loads.lean ====
/- What the projection's loads read of its blocks and of its scratch, and what its fills leave in the scratch. -/
module

public import proofs.«01_k».proof.Proof.Qkv.Tiles
public import Idealize.ShloMosaic.Lib.WritesUnit

@[expose] public section

set_option maxRecDepth 16384

noncomputable section

namespace Cert.QkvIdeal.Proj

open Cert.QkvIdeal Cert.QkvIdeal.Gen
open Idealize.ShloMosaic

/-! The last point computes as the ones before it do. -/
theorem same58 : k0_pay58 (F := Ideal) = k0_pay6 (F := Ideal) := rfl
theorem same59 : k0_pay59 (F := Ideal) = k0_pay7 (F := Ideal) := rfl
theorem same60 : k0_pay60 (F := Ideal) = k0_pay8 (F := Ideal) := rfl
theorem same61 : k0_pay61 (F := Ideal) = k0_pay9 (F := Ideal) := rfl
theorem same62 : k0_pay62 (F := Ideal) = k0_pay10 (F := Ideal) := rfl
theorem same63 : k0_pay63 (F := Ideal) = k0_pay11 (F := Ideal) := rfl
theorem same64 : k0_pay64 (F := Ideal) = k0_pay12 (F := Ideal) := rfl
theorem same65 : k0_pay65 (F := Ideal) = k0_pay13 (F := Ideal) := rfl
theorem same66 : k0_pay66 (F := Ideal) = k0_pay14 (F := Ideal) := rfl
theorem same67 : k0_pay67 (F := Ideal) = k0_pay15 (F := Ideal) := rfl
theorem same68 : k0_pay68 (F := Ideal) = k0_pay16 (F := Ideal) := rfl
theorem same69 : k0_pay69 (F := Ideal) = k0_pay17 (F := Ideal) := rfl
theorem same70 : k0_pay70 (F := Ideal) = k0_pay18 (F := Ideal) := rfl
theorem same71 : k0_pay71 (F := Ideal) = k0_pay19 (F := Ideal) := rfl
theorem same72 : k0_pay72 (F := Ideal) = k0_pay20 (F := Ideal) := rfl
theorem same73 : k0_pay73 (F := Ideal) = k0_pay21 (F := Ideal) := rfl
theorem same74 : k0_pay74 (F := Ideal) = k0_pay22 (F := Ideal) := rfl
theorem same75 : k0_pay75 (F := Ideal) = k0_pay23 (F := Ideal) := rfl
theorem same76 : k0_pay76 (F := Ideal) = k0_pay24 (F := Ideal) := rfl
theorem same77 : k0_pay77 (F := Ideal) = k0_pay25 (F := Ideal) := rfl
theorem same78 : k0_pay78 (F := Ideal) = k0_pay26 (F := Ideal) := rfl
theorem same79 : k0_pay79 (F := Ideal) = k0_pay27 (F := Ideal) := rfl
theorem same80 : k0_pay80 (F := Ideal) = k0_pay28 (F := Ideal) := rfl
theorem same81 : k0_pay81 (F := Ideal) = k0_pay29 (F := Ideal) := rfl
theorem same82 : k0_pay82 (F := Ideal) = k0_pay30 (F := Ideal) := rfl
theorem same83 : k0_pay83 (F := Ideal) = k0_pay31 (F := Ideal) := rfl
theorem same84 : k0_pay84 (F := Ideal) = k0_pay32 (F := Ideal) := rfl
theorem same85 : k0_pay85 (F := Ideal) = k0_pay33 (F := Ideal) := rfl
theorem same86 : k0_pay86 (F := Ideal) = k0_pay34 (F := Ideal) := rfl
theorem same87 : k0_pay87 (F := Ideal) = k0_pay35 (F := Ideal) := rfl
theorem same88 : k0_pay88 (F := Ideal) = k0_pay36 (F := Ideal) := rfl
theorem same89 : k0_pay89 (F := Ideal) = k0_pay37 (F := Ideal) := rfl
theorem same90 : k0_pay90 (F := Ideal) = k0_pay38 (F := Ideal) := rfl
theorem same91 : k0_pay91 (F := Ideal) = k0_pay39 (F := Ideal) := rfl
theorem same92 : k0_pay92 (F := Ideal) = k0_pay40 (F := Ideal) := rfl
theorem same93 : k0_pay93 (F := Ideal) = k0_pay41 (F := Ideal) := rfl
theorem same94 : k0_pay94 (F := Ideal) = k0_pay42 (F := Ideal) := rfl
theorem same95 : k0_pay95 (F := Ideal) = k0_pay43 (F := Ideal) := rfl
theorem same96 : k0_pay96 (F := Ideal) = k0_pay44 (F := Ideal) := rfl
theorem same97 : k0_pay97 (F := Ideal) = k0_pay45 (F := Ideal) := rfl
theorem same98 : k0_pay98 (F := Ideal) = k0_pay46 (F := Ideal) := rfl
theorem same99 : k0_pay99 (F := Ideal) = k0_pay47 (F := Ideal) := rfl
theorem same100 : k0_pay100 (F := Ideal) = k0_pay48 (F := Ideal) := rfl
theorem same101 : k0_pay101 (F := Ideal) = k0_pay49 (F := Ideal) := rfl
theorem same102 : k0_pay102 (F := Ideal) = k0_pay50 (F := Ideal) := rfl
theorem same103 : k0_pay103 (F := Ideal) = k0_pay51 (F := Ideal) := rfl
theorem same104 : k0_pay104 (F := Ideal) = k0_pay52 (F := Ideal) := rfl
theorem same3 : k0_pay3 (F := Ideal) = k0_pay53 (F := Ideal) := rfl
theorem same4 : k0_pay4 (F := Ideal) = k0_pay54 (F := Ideal) := rfl
theorem same5 : k0_pay5 (F := Ideal) = k0_pay55 (F := Ideal) := rfl
theorem same56 : k0_pay56 (F := Ideal) = k0_pay1 (F := Ideal) := rfl
theorem same57 : k0_pay57 (F := Ideal) = k0_pay2 (F := Ideal) := rfl

/-- The slot of the scratch a point fills, and the slot it reads, as the body computes them. -/
abbrev slotF (i : grid0.Coords) : ℕ := BitVec.toNat (Scalar.indexCast (Scalar.remsi (BitVec.ofNat 32 (i 0).val) 2#32))
abbrev slotR (i : grid0.Coords) : ℕ := BitVec.toNat (Scalar.indexCast (Scalar.subi 1#32 (Scalar.remsi (BitVec.ofNat 32 (i 0).val) 2#32)))

/-- Slot `n` of the codes' scratch holds the block `X0`, widened. -/
def SlotC (X0 : Vec Ideal S256x12288 .i8) (n : ℕ) (xs : Vec Ideal S2x256x12288 .bf16) : Prop :=
  ∀ (b : Fin 2), b.val = n → ∀ (r : Fin 256) (k : Fin 12288), xs (ix3 b r k) = (FloatOps.sitofp .bf16 (X0 (ix2 r k)) : Ideal .bf16)

/-- Slot `n` of the scales' scratch holds the block `X1`. -/
def SlotS (X1 : Vec Ideal S256x128 .f32) (n : ℕ) (xs : Vec Ideal S2x256x128 .f32) : Prop :=
  ∀ (b : Fin 2), b.val = n → ∀ (r : Fin 256) (l : Fin 128), xs (ix3 b r l) = X1 (ix2 r l)

theorem cb {X0 : Vec Ideal S256x12288 .i8} {n j : ℕ} {hj : j + 1024 ≤ 12288} {xs : Vec Ideal S2x256x12288 .bf16} (hS : SlotC X0 n xs)
    (h : ∀ a, (![n, 0, j] : Fin 3 → ℕ) a + (![1, 256, 1024] : Fin 3 → ℕ) a ≤ S2x256x12288.size a) :
    CB X0 j hj (View.ld xs (Rect.unit (s := S2x256x12288) ![n, 0, j] ![1, 256, 1024] h)) := by
  intro r k
  have hn : n < 2 := by have := h 0; simp at this; omega
  rw [← hS ⟨n, hn⟩ rfl]
  refine congrArg xs (funext fun a => ?_)
  fin_cases a
  · apply Fin.ext; simp [Rect.emb, Rect.unit]
  · apply Fin.ext; simp [Rect.emb, Rect.unit]
  · apply Fin.ext; simp [Rect.emb, Rect.unit]

theorem sb {X1 : Vec Ideal S256x128 .f32} {n : ℕ} {xs : Vec Ideal S2x256x128 .f32} (hS : SlotS X1 n xs)
    (h : ∀ a, (![n, 0, 0] : Fin 3 → ℕ) a + (![1, 256, 128] : Fin 3 → ℕ) a ≤ S2x256x128.size a) (r : Fin 256) (l : Fin 128) :
    View.ld xs (Rect.unit (s := S2x256x128) ![n, 0, 0] ![1, 256, 128] h) (ix3 0 r l) = X1 (ix2 r l) := by
  have hn : n < 2 := by have := h 0; simp at this; omega
  rw [← hS ⟨n, hn⟩ rfl]
  refine congrArg xs (funext fun a => ?_)
  fin_cases a
  · apply Fin.ext; simp [Rect.emb, Rect.unit]
  · apply Fin.ext; simp [Rect.emb, Rect.unit]
  · apply Fin.ext; simp [Rect.emb, Rect.unit]

theorem wb {x2 : Vec Ideal S12288x1792 .i8} {j o : ℕ} {hj : j + 1024 ≤ 12288} {ho : o + 512 ≤ 1792}
    (h : ∀ a, (![j, o] : Fin 2 → ℕ) a + (![1024, 512] : Fin 2 → ℕ) a ≤ S12288x1792.size a) :
    WB x2 j o hj ho (View.ld x2 (Rect.unit (s := S12288x1792) ![j, o] ![1024, 512] h)) := by
  intro k l
  refine congrArg x2 (funext fun a => ?_)
  fin_cases a
  · apply Fin.ext; simp [Rect.emb, Rect.unit]
  · apply Fin.ext; simp [Rect.emb, Rect.unit]

theorem wb' {x2 : Vec Ideal S12288x1792 .i8} {j o : ℕ} {hj : j + 1024 ≤ 12288} {ho : o + 256 ≤ 1792}
    (h : ∀ a, (![j, o] : Fin 2 → ℕ) a + (![1024, 256] : Fin 2 → ℕ) a ≤ S12288x1792.size a) :
    WB' x2 j o hj ho (View.ld x2 (Rect.unit (s := S12288x1792) ![j, o] ![1024, 256] h)) := by
  intro k l
  refine congrArg x2 (funext fun a => ?_)
  fin_cases a
  · apply Fin.ext; simp [Rect.emb, Rect.unit]
  · apply Fin.ext; simp [Rect.emb, Rect.unit]

theorem tb {x : Vec Ideal S256x64 .f32} (h : ∀ a, (![0, 0] : Fin 2 → ℕ) a + (![256, 64] : Fin 2 → ℕ) a ≤ S256x64.size a) (r : Fin 256) (l : Fin 64) :
    View.ld x (Rect.unit (s := S256x64) ![0, 0] ![256, 64] h) (ix2 r l) = x (ix2 r l) := by
  refine congrArg x (funext fun a => ?_)
  fin_cases a
  · apply Fin.ext; simp [Rect.emb, Rect.unit]
  · apply Fin.ext; simp [Rect.emb, Rect.unit]

theorem swb {x3 : Vec Ideal S1x1792 .f32} {o : ℕ} (h : ∀ a, (![0, o] : Fin 2 → ℕ) a + (![1, 128] : Fin 2 → ℕ) a ≤ S1x1792.size a) (k : Fin 128) :
    View.ld x3 (Rect.unit (s := S1x1792) ![0, o] ![1, 128] h) (ix2 0 k) = x3 (ix2 0 ⟨o + k.val, by have := h 1; simp at this; omega⟩) := by
  refine congrArg x3 (funext fun a => ?_)
  fin_cases a
  · apply Fin.ext; simp [Rect.emb, Rect.unit]
  · apply Fin.ext; simp [Rect.emb, Rect.unit]

/-- A fill of slot `n` with codes leaves them in it, whatever the scratch held, -/
theorem fillC {X0 : Vec Ideal S256x12288 .i8} {n : ℕ} (v : View sig .tc .vmem S2x256x12288 .bf16) (f : v.ty.Contents (Elt Ideal))
    (h : ∀ a, (![n, 0, 0] : Fin 3 → ℕ) a + (![1, 256, 12288] : Fin 3 → ℕ) a ≤ S2x256x12288.size a)
    (h0 : ∀ a, (![0, 0] : Fin 2 → ℕ) a + (![256, 12288] : Fin 2 → ℕ) a ≤ S256x12288.size a) :
    SlotC X0 n (v.read (Elt Ideal) (v.writes (Elt Ideal) f [⟨Rect.unit (s := S2x256x12288) ![n, 0, 0] ![1, 256, 12288] h,
      k0_pay1 (View.ld X0 (Rect.unit (s := S256x12288) ![0, 0] ![256, 12288] h0))⟩])) := by
  intro b hb r k
  refine (View.read_writes_cons_unit_of_mem v f h _ [] (ix3 b r k) (ix3 0 r k) rfl (fun a => ?_)).trans ?_
  · fin_cases a
    · simp [hb]
    · simp
    · simp
  · pointwise [k0_pay1]

/-- and so do the scales. -/
theorem fillS {X1 : Vec Ideal S256x128 .f32} {n : ℕ} (v : View sig .tc .vmem S2x256x128 .f32) (f : v.ty.Contents (Elt Ideal))
    (h : ∀ a, (![n, 0, 0] : Fin 3 → ℕ) a + (![1, 256, 128] : Fin 3 → ℕ) a ≤ S2x256x128.size a)
    (h0 : ∀ a, (![0, 0] : Fin 2 → ℕ) a + (![256, 128] : Fin 2 → ℕ) a ≤ S256x128.size a) :
    SlotS X1 n (v.read (Elt Ideal) (v.writes (Elt Ideal) f [⟨Rect.unit (s := S2x256x128) ![n, 0, 0] ![1, 256, 128] h,
      k0_pay2 (View.ld X1 (Rect.unit (s := S256x128) ![0, 0] ![256, 128] h0))⟩])) := by
  intro b hb r k
  refine (View.read_writes_cons_unit_of_mem v f h _ [] (ix3 b r k) (ix3 0 r k) rfl (fun a => ?_)).trans ?_
  · fin_cases a
    · simp [hb]
    · simp
    · simp
  · pointwise [k0_pay2]

end Cert.QkvIdeal.Proj

end
-- ==== Proof.Qkv.OutA.lean ====
/- The projection's first point: what its fill leaves in the scratch. -/
module

public import proofs.«01_k».proof.Proof.Qkv.RunA
public import proofs.«01_k».proof.Proof.Qkv.Loads

@[expose] public section

set_option maxRecDepth 16384

noncomputable section

namespace Cert.QkvIdeal.Proj

open Cert.QkvIdeal Cert.QkvIdeal.Gen
open Idealize.ShloMosaic Idealize.ShloMosaic.TcCoe Idealize.ShloMosaic.Tactic Idealize.SL.Sem

section
variable (c : Dev nD) (i : grid0.Coords) (arg1 : Memref sig .tc .vmem S256x12288 .i8) (harg1 : arg1.IsWhole) (arg2 : Memref sig .tc .vmem S256x128 .f32) (harg2 : arg2.IsWhole) (arg3 : Memref sig .tc .vmem S12288x1792 .i8) (harg3 : arg3.IsWhole) (arg4 : Memref sig .tc .vmem S1x1792 .f32) (harg4 : arg4.IsWhole) (arg5 : Memref sig .tc .vmem S256x64 .f32) (harg5 : arg5.IsWhole) (arg6 : Memref sig .tc .vmem S256x64 .f32) (harg6 : arg6.IsWhole) (arg7 : Memref sig .tc .vmem S256x1536 .bf16) (harg7 : arg7.IsWhole) (arg8 : Memref sig .tc .vmem S256x128 .i8) (harg8 : arg8.IsWhole) (arg9 : Memref sig .tc .vmem S1x2x128 .f32) (harg9 : arg9.IsWhole) (arg10 : Memref sig .tc .vmem S256x128 .i8) (harg10 : arg10.IsWhole) (arg11 : Memref sig .tc .vmem S1x2x128 .f32) (harg11 : arg11.IsWhole) (arg12 : Memref sig .tc .vmem S2x256x12288 .bf16) (harg12 : arg12.IsWhole) (arg13 : Memref sig .tc .vmem S2x256x128 .f32) (harg13 : arg13.IsWhole) (hc0 : cond0_0 i) (hc1 : ¬cond0_1 i) (hc2 : ¬cond0_2 i)
    (x0 : Vec Ideal S256x12288 .i8) (x1 : Vec Ideal S256x128 .f32) (x2 : Vec Ideal S12288x1792 .i8) (x3 : Vec Ideal S1x1792 .f32) (x4 : Vec Ideal S256x64 .f32) (x5 : Vec Ideal S256x64 .f32)

/-- The fill leaves the point's block in its slot of the codes' scratch. -/
theorem slotA0 (v : View sig .tc .vmem S2x256x12288 .bf16) (f : v.ty.Contents (Elt Ideal)) :
    SlotC x0 (slotF i) (v.read (Elt Ideal) (v.writes (Elt Ideal) f (kernelRun0_A (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5).1)) := by
  unfold kernelRun0_A
  dsimp only
  sl_unfold_words
  simp only [View.readAt_eq_ld, harg1.read_unread, harg2.read_unread]
  exact fillC v f _ _

/-- The fill leaves the point's block in its slot of the scales' scratch. -/
theorem slotA1 (v : View sig .tc .vmem S2x256x128 .f32) (f : v.ty.Contents (Elt Ideal)) :
    SlotS x1 (slotF i) (v.read (Elt Ideal) (v.writes (Elt Ideal) f (kernelRun0_A (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5).2.1)) := by
  unfold kernelRun0_A
  dsimp only
  sl_unfold_words
  simp only [View.readAt_eq_ld, harg1.read_unread, harg2.read_unread]
  exact fillS v f _ _

end

end Cert.QkvIdeal.Proj

end
-- ==== Proof.Qkv.RunB.lean ====
/- The body's triple at a point that projects and fills, with the pieces it stores. -/
module

public import proofs.«01_k».proof.Proof.Qkv.Cases

@[expose] public section

-- membership in a rectangle of production extents (`View.cover_of_tiled`): the elaborator's structural look
-- recurses once per coordinate of the long axes
set_option maxRecDepth 16384

noncomputable section

namespace Cert.QkvIdeal.Proj

open Cert.QkvIdeal Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1180000 in
/-- The body's triple IN CASE B (`scf.if` 0 not taken, `scf.if` 1 taken, `scf.if` 2 not taken: points 1, 2, … 23: 23 of 25): on whole staging memrefs — the inputs' at their contents,
    the FORGOTTEN outputs' (6, 7, 8, 9, 10) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
def kernelRun0_B (c : Dev nD) (i : grid0.Coords) (arg1 : Memref sig .tc .vmem S256x12288 .i8) (harg1 : arg1.IsWhole) (arg2 : Memref sig .tc .vmem S256x128 .f32) (harg2 : arg2.IsWhole) (arg3 : Memref sig .tc .vmem S12288x1792 .i8) (harg3 : arg3.IsWhole) (arg4 : Memref sig .tc .vmem S1x1792 .f32) (harg4 : arg4.IsWhole) (arg5 : Memref sig .tc .vmem S256x64 .f32) (harg5 : arg5.IsWhole) (arg6 : Memref sig .tc .vmem S256x64 .f32) (harg6 : arg6.IsWhole) (arg7 : Memref sig .tc .vmem S256x1536 .bf16) (harg7 : arg7.IsWhole) (arg8 : Memref sig .tc .vmem S256x128 .i8) (harg8 : arg8.IsWhole) (arg9 : Memref sig .tc .vmem S1x2x128 .f32) (harg9 : arg9.IsWhole) (arg10 : Memref sig .tc .vmem S256x128 .i8) (harg10 : arg10.IsWhole) (arg11 : Memref sig .tc .vmem S1x2x128 .f32) (harg11 : arg11.IsWhole) (arg12 : Memref sig .tc .vmem S2x256x12288 .bf16) (harg12 : arg12.IsWhole) (arg13 : Memref sig .tc .vmem S2x256x128 .f32) (harg13 : arg13.IsWhole) (hc0 : ¬cond0_0 i) (hc1 : cond0_1 i) (hc2 : ¬cond0_2 i)
    (x0 : Vec F S256x12288 .i8) (x1 : Vec F S256x128 .f32) (x2 : Vec F S12288x1792 .i8) (x3 : Vec F S1x1792 .f32) (x4 : Vec F S256x64 .f32) (x5 : Vec F S256x64 .f32) (xs0 : Vec F S2x256x12288 .bf16) (xs1 : Vec F S2x256x128 .f32) :
    Σ' (L6 : List (View.Piece (Elt F) S256x1536 .bf16)), Σ' (L7 : List (View.Piece (Elt F) S256x128 .i8)), Σ' (L8 : List (View.Piece (Elt F) S1x2x128 .f32)), Σ' (L9 : List (View.Piece (Elt F) S256x128 .i8)), Σ' (L10 : List (View.Piece (Elt F) S1x2x128 .f32)), Σ' (LS0 : List (View.Piece (Elt F) S2x256x12288 .bf16)), { LS1 : List (View.Piece (Elt F) S2x256x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0 ∗ owns (c : Thread nD τ) arg13 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, ?_, fun E K => ?run⟩
  case run =>
    simp only [cc0_qkv_eq_skeleton]; unfold cc0_qkv_skel
    simp only [k0_part17_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg12.eq_unread hfs0; obtain rfl := harg13.eq_unread hfs1
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [H9]; · iexists _; iexact H9
    isplitl [H10]; · iexists _; iexact H10
    isplitl [HS0]; · iexists _; iexact HS0
    iexists _; iexact HS1

end Cert.QkvIdeal.Proj

end
-- ==== Proof.Qkv.OutB.lean ====
/- A point that projects a block and fills the next: what it leaves in the results' buffers and in the scratch. -/
module

public import proofs.«01_k».proof.Proof.Qkv.RunB
public import proofs.«01_k».proof.Proof.Qkv.Loads

@[expose] public section

set_option maxRecDepth 16384

noncomputable section

namespace Cert.QkvIdeal.Proj

open Cert.QkvIdeal Cert.QkvIdeal.Gen
open Idealize.ShloMosaic Idealize.ShloMosaic.TcCoe Idealize.ShloMosaic.Tactic Idealize.SL.Sem

section
variable (c : Dev nD) (i : grid0.Coords) (arg1 : Memref sig .tc .vmem S256x12288 .i8) (harg1 : arg1.IsWhole) (arg2 : Memref sig .tc .vmem S256x128 .f32) (harg2 : arg2.IsWhole) (arg3 : Memref sig .tc .vmem S12288x1792 .i8) (harg3 : arg3.IsWhole) (arg4 : Memref sig .tc .vmem S1x1792 .f32) (harg4 : arg4.IsWhole) (arg5 : Memref sig .tc .vmem S256x64 .f32) (harg5 : arg5.IsWhole) (arg6 : Memref sig .tc .vmem S256x64 .f32) (harg6 : arg6.IsWhole) (arg7 : Memref sig .tc .vmem S256x1536 .bf16) (harg7 : arg7.IsWhole) (arg8 : Memref sig .tc .vmem S256x128 .i8) (harg8 : arg8.IsWhole) (arg9 : Memref sig .tc .vmem S1x2x128 .f32) (harg9 : arg9.IsWhole) (arg10 : Memref sig .tc .vmem S256x128 .i8) (harg10 : arg10.IsWhole) (arg11 : Memref sig .tc .vmem S1x2x128 .f32) (harg11 : arg11.IsWhole) (arg12 : Memref sig .tc .vmem S2x256x12288 .bf16) (harg12 : arg12.IsWhole) (arg13 : Memref sig .tc .vmem S2x256x128 .f32) (harg13 : arg13.IsWhole) (hc0 : ¬cond0_0 i) (hc1 : cond0_1 i) (hc2 : ¬cond0_2 i)
    (x0 : Vec Ideal S256x12288 .i8) (x1 : Vec Ideal S256x128 .f32) (x2 : Vec Ideal S12288x1792 .i8) (x3 : Vec Ideal S1x1792 .f32) (x4 : Vec Ideal S256x64 .f32) (x5 : Vec Ideal S256x64 .f32) (xs0 : Vec Ideal S2x256x12288 .bf16) (xs1 : Vec Ideal S2x256x128 .f32)

/-- The stores of the queries cover the block; -/
theorem coverB6 (y : S256x1536.Idx) : ∃ pc ∈ (kernelRun0_B (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1).1, y ∈ pc.1.set :=
  View.cover_of_tiledL (kernelRun0_B (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1).1 S256x128.size (by sl_kernel_rfl) y

set_option maxHeartbeats 3200000 in
/-- each stores its part of the closed form. -/
theorem piecesB6 (X0 : Vec Ideal S256x12288 .i8) (X1 : Vec Ideal S256x128 .f32) (hC : SlotC X0 (slotR i) xs0) (hS : SlotS X1 (slotR i) xs1) :
    ∀ p ∈ (kernelRun0_B (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1).1, ∀ x : p.1.shape.Idx, p.2 x = qv X0 X1 x2 x3 x4 x5 (p.1.emb x) := by
  unfold kernelRun0_B
  dsimp only
  sl_unfold_words
  simp only [View.readAt_eq_ld, harg1.read_unread, harg2.read_unread, harg3.read_unread, harg4.read_unread, harg5.read_unread, harg6.read_unread, harg12.read_unread, harg13.read_unread]
  try simp only [same58, same59, same60, same61, same62, same63, same64, same65, same66, same67, same68, same69, same70, same71, same72, same73, same74, same75, same76, same77, same78, same79, same80, same81, same82, same83, same84, same85, same86, same87, same88, same89, same90, same91, same92, same93, same94, same95, same96, same97, same98, same99, same100, same101, same102, same103, same104, same3, same4, same5]
  refine List.forall_mem_cons.mpr ⟨fun x => piece23 X0 X1 x2 x3 x4 x5 _ _ _ _ _ _ _ _ _ (sb hS _) (swb _) (tb _) (tb _) (fun r l => acc2 X0 x2 (cb hC _) (cb hC _) (cb hC _) (cb hC _) (cb hC _) (cb hC _) (cb hC _) (cb hC _) (cb hC _) (cb hC _) (cb hC _) (cb hC _) (wb _) (wb _) (wb _) (wb _) (wb _) (wb _) (wb _) (wb _) (wb _) (wb _) (wb _) (wb _) r l) inb_S256x1536_S256x128_0_1408 x, ?_⟩
  refine List.forall_mem_cons.mpr ⟨fun x => piece22 X0 X1 x2 x3 x4 x5 _ _ _ _ _ _ _ _ _ (sb hS _) (swb _) (tb _) (tb _) (fun r l => acc2 X0 x2 (cb hC _) (cb hC _) (cb hC _) (cb hC _) (cb hC _) (cb hC _) (cb hC _) (cb hC _) (cb hC _) (cb hC _) (cb hC _) (cb hC _) (wb _) (wb _) (wb _) (wb _) (wb _) (wb _) (wb _) (wb _) (wb _) (wb _) (wb _) (wb _) r l) inb_S256x1536_S256x128_0_1280 x, ?_⟩
  refine List.forall_mem_cons.mpr ⟨fun x => piece21 X0 X1 x2 x3 x4 x5 _ _ _ _ _ _ _ _ _ (sb hS _) (swb _) (tb _) (tb _) (fun r l => acc2 X0 x2 (cb hC _) (cb hC _) (cb hC _) (cb hC _) (cb hC _) (cb hC _) (cb hC _) (cb hC _) (cb hC _) (cb hC _) (cb hC _) (cb hC _) (wb _) (wb _) (wb _) (wb _) (wb _) (wb _) (wb _) (wb _) (wb _) (wb _) (wb _) (wb _) r l) inb_S256x1536_S256x128_0_1152 x, ?_⟩
  refine List.forall_mem_cons.mpr ⟨fun x => piece20 X0 X1 x2 x3 x4 x5 _ _ _ _ _ _ _ _ _ (sb hS _) (swb _) (tb _) (tb _) (fun r l => acc2 X0 x2 (cb hC _) (cb hC _) (cb hC _) (cb hC _) (cb hC _) (cb hC _) (cb hC _) (cb hC _) (cb hC _) (cb hC _) (cb hC _) (cb hC _) (wb _) (wb _) (wb _) (wb _) (wb _) (wb _) (wb _) (wb _) (wb _) (wb _) (wb _) (wb _) r l) inb_S256x1536_S256x128_0_1024 x, ?_⟩
  refine List.forall_mem_cons.mpr ⟨fun x => piece13 X0 X1 x2 x3 x4 x5 _ _ _ _ _ _ _ _ _ _ _ (sb hS _) (swb _) (tb _) (tb _) (fun r l => acc1 X0 x2 (cb hC _) (cb hC _) (cb hC _) (cb hC _) (cb hC _) (cb hC _) (cb hC _) (cb hC _) (cb hC _) (cb hC _) (cb hC _) (cb hC _) (wb _) (wb _) (wb _) (wb _) (wb _) (wb _) (wb _) (wb _) (wb _) (wb _) (wb _) (wb _) r l) inb_S256x1536_S256x128_0_896 x, ?_⟩
  refine List.forall_mem_cons.mpr ⟨fun x => piece12 X0 X1 x2 x3 x4 x5 _ _ _ _ _ _ _ _ _ _ _ (sb hS _) (swb _) (tb _) (tb _) (fun r l => acc1 X0 x2 (cb hC _) (cb hC _) (cb hC _) (cb hC _) (cb hC _) (cb hC _) (cb hC _) (cb hC _) (cb hC _) (cb hC _) (cb hC _) (cb hC _) (wb _) (wb _) (wb _) (wb _) (wb _) (wb _) (wb _) (wb _) (wb _) (wb _) (wb _) (wb _) r l) inb_S256x1536_S256x128_0_768 x, ?_⟩
  refine List.forall_mem_cons.mpr ⟨fun x => piece11 X0 X1 x2 x3 x4 x5 _ _ _ _ _ _ _ _ _ _ _ (sb hS _) (swb _) (tb _) (tb _) (fun r l => acc1 X0 x2 (cb hC _) (cb hC _) (cb hC _) (cb hC _) (cb hC _) (cb hC _) (cb hC _) (cb hC _) (cb hC _) (cb hC _) (cb hC _) (cb hC _) (wb _) (wb _) (wb _) (wb _) (wb _) (wb _) (wb _) (wb _) (wb _) (wb _) (wb _) (wb _) r l) inb_S256x1536_S256x128_0_640 x, ?_⟩
  refine List.forall_mem_cons.mpr ⟨fun x => piece10 X0 X1 x2 x3 x4 x5 _ _ _ _ _ _ _ _ _ _ _ (sb hS _) (swb _) (tb _) (tb _) (fun r l => acc1 X0 x2 (cb hC _) (cb hC _) (cb hC _) (cb hC _) (cb hC _) (cb hC _) (cb hC _) (cb hC _) (cb hC _) (cb hC _) (cb hC _) (cb hC _) (wb _) (wb _) (wb _) (wb _) (wb _) (wb _) (wb _) (wb _) (wb _) (wb _) (wb _) (wb _) r l) inb_S256x1536_S256x128_0_512 x, ?_⟩
  refine List.forall_mem_cons.mpr ⟨fun x => piece03 X0 X1 x2 x3 x4 x5 _ _ _ _ _ _ _ _ _ _ _ (sb hS _) (swb _) (tb _) (tb _) (fun r l => acc0 X0 x2 (cb hC _) (cb hC _) (cb hC _) (cb hC _) (cb hC _) (cb hC _) (cb hC _) (cb hC _) (cb hC _) (cb hC _) (cb hC _) (cb hC _) (wb _) (wb _) (wb _) (wb _) (wb _) (wb _) (wb _) (wb _) (wb _) (wb _) (wb _) (wb _) r l) inb_S256x1536_S256x128_0_384 x, ?_⟩
  refine List.forall_mem_cons.mpr ⟨fun x => piece02 X0 X1 x2 x3 x4 x5 _ _ _ _ _ _ _ _ _ _ _ (sb hS _) (swb _) (tb _) (tb _) (fun r l => acc0 X0 x2 (cb hC _) (cb hC _) (cb hC _) (cb hC _) (cb hC _) (cb hC _) (cb hC _) (cb hC _) (cb hC _) (cb hC _) (cb hC _) (cb hC _) (wb _) (wb _) (wb _) (wb _) (wb _) (wb _) (wb _) (wb _) (wb _) (wb _) (wb _) (wb _) r l) inb_S256x1536_S256x128_0_256 x, ?_⟩
  refine List.forall_mem_cons.mpr ⟨fun x => piece01 X0 X1 x2 x3 x4 x5 _ _ _ _ _ _ _ _ _ _ _ (sb hS _) (swb _) (tb _) (tb _) (fun r l => acc0 X0 x2 (cb hC _) (cb hC _) (cb hC _) (cb hC _) (cb hC _) (cb hC _) (cb hC _) (cb hC _) (cb hC _) (cb hC _) (cb hC _) (cb hC _) (wb _) (wb _) (wb _) (wb _) (wb _) (wb _) (wb _) (wb _) (wb _) (wb _) (wb _) (wb _) r l) inb_S256x1536_S256x128_0_128 x, ?_⟩
  refine List.forall_mem_cons.mpr ⟨fun x => piece00 X0 X1 x2 x3 x4 x5 _ _ _ _ _ _ _ _ _ _ _ (sb hS _) (swb _) (tb _) (tb _) (fun r l => acc0 X0 x2 (cb hC _) (cb hC _) (cb hC _) (cb hC _) (cb hC _) (cb hC _) (cb hC _) (cb hC _) (cb hC _) (cb hC _) (cb hC _) (cb hC _) (wb _) (wb _) (wb _) (wb _) (wb _) (wb _) (wb _) (wb _) (wb _) (wb _) (wb _) (wb _) r l) inb_S256x1536_S256x128_0_0 x, ?_⟩
  exact fun _ h => absurd h List.not_mem_nil

/-- So the buffer holds the queries of the block in the scratch. -/
theorem outB6 (X0 : Vec Ideal S256x12288 .i8) (X1 : Vec Ideal S256x128 .f32) (hC : SlotC X0 (slotR i) xs0) (hS : SlotS X1 (slotR i) xs1) (v : View sig .tc .vmem S256x1536 .bf16) (f : v.ty.Contents (Elt Ideal)) :
    v.read (Elt Ideal) (v.writes (Elt Ideal) f (kernelRun0_B (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1).1) = qv X0 X1 x2 x3 x4 x5 := by
  rw [View.read_writes_eq_canon _ _ _ (coverB6 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1)]
  exact funext fun y => View.canon_apply_of_pieces _ _ (piecesB6 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1 X0 X1 hC hS) y (coverB6 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1 y)

/-- The stores of the keys' codes cover the block; -/
theorem coverB7 (y : S256x128.Idx) : ∃ pc ∈ (kernelRun0_B (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1).2.1, y ∈ pc.1.set :=
  View.cover_of_tiledL (kernelRun0_B (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1).2.1 S256x128.size (by sl_kernel_rfl) y

set_option maxHeartbeats 3200000 in
/-- each stores its part of the closed form. -/
theorem piecesB7 (X0 : Vec Ideal S256x12288 .i8) (X1 : Vec Ideal S256x128 .f32) (hC : SlotC X0 (slotR i) xs0) (hS : SlotS X1 (slotR i) xs1) :
    ∀ p ∈ (kernelRun0_B (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1).2.1, ∀ x : p.1.shape.Idx, p.2 x = kcv X0 X1 x2 x3 x4 x5 (p.1.emb x) := by
  unfold kernelRun0_B
  dsimp only
  sl_unfold_words
  simp only [View.readAt_eq_ld, harg1.read_unread, harg2.read_unread, harg3.read_unread, harg4.read_unread, harg5.read_unread, harg6.read_unread, harg12.read_unread, harg13.read_unread]
  try simp only [same58, same59, same60, same61, same62, same63, same64, same65, same66, same67, same68, same69, same70, same71, same72, same73, same74, same75, same76, same77, same78, same79, same80, same81, same82, same83, same84, same85, same86, same87, same88, same89, same90, same91, same92, same93, same94, same95, same96, same97, same98, same99, same100, same101, same102, same103, same104, same3, same4, same5]
  refine List.forall_mem_cons.mpr ⟨fun x => piece_kc X0 X1 x2 x3 x4 x5 _ _ _ _ _ _ _ (sb hS _) (swb _) (tb _) (tb _) (fun r l => acc3 X0 x2 (cb hC _) (cb hC _) (cb hC _) (cb hC _) (cb hC _) (cb hC _) (cb hC _) (cb hC _) (cb hC _) (cb hC _) (cb hC _) (cb hC _) (wb' _) (wb' _) (wb' _) (wb' _) (wb' _) (wb' _) (wb' _) (wb' _) (wb' _) (wb' _) (wb' _) (wb' _) r l) inb_S256x128_S256x128_0_0 x, ?_⟩
  exact fun _ h => absurd h List.not_mem_nil

/-- So the buffer holds the keys' codes of the block in the scratch. -/
theorem outB7 (X0 : Vec Ideal S256x12288 .i8) (X1 : Vec Ideal S256x128 .f32) (hC : SlotC X0 (slotR i) xs0) (hS : SlotS X1 (slotR i) xs1) (v : View sig .tc .vmem S256x128 .i8) (f : v.ty.Contents (Elt Ideal)) :
    v.read (Elt Ideal) (v.writes (Elt Ideal) f (kernelRun0_B (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1).2.1) = kcv X0 X1 x2 x3 x4 x5 := by
  rw [View.read_writes_eq_canon _ _ _ (coverB7 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1)]
  exact funext fun y => View.canon_apply_of_pieces _ _ (piecesB7 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1 X0 X1 hC hS) y (coverB7 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1 y)

/-- The stores of the keys' scales cover the block; -/
theorem coverB8 (y : S1x2x128.Idx) : ∃ pc ∈ (kernelRun0_B (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1).2.2.1, y ∈ pc.1.set :=
  View.cover_of_tiledL (kernelRun0_B (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1).2.2.1 S1x1x128.size (by sl_kernel_rfl) y

set_option maxHeartbeats 3200000 in
/-- each stores its part of the closed form. -/
theorem piecesB8 (X0 : Vec Ideal S256x12288 .i8) (X1 : Vec Ideal S256x128 .f32) (hC : SlotC X0 (slotR i) xs0) (hS : SlotS X1 (slotR i) xs1) :
    ∀ p ∈ (kernelRun0_B (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1).2.2.1, ∀ x : p.1.shape.Idx, p.2 x = ksv X0 X1 x2 x3 x4 x5 (p.1.emb x) := by
  unfold kernelRun0_B
  dsimp only
  sl_unfold_words
  simp only [View.readAt_eq_ld, harg1.read_unread, harg2.read_unread, harg3.read_unread, harg4.read_unread, harg5.read_unread, harg6.read_unread, harg12.read_unread, harg13.read_unread]
  try simp only [same58, same59, same60, same61, same62, same63, same64, same65, same66, same67, same68, same69, same70, same71, same72, same73, same74, same75, same76, same77, same78, same79, same80, same81, same82, same83, same84, same85, same86, same87, same88, same89, same90, same91, same92, same93, same94, same95, same96, same97, same98, same99, same100, same101, same102, same103, same104, same3, same4, same5]
  refine List.forall_mem_cons.mpr ⟨fun x => ?_, ?_⟩
  · dsimp only
    have h2 : ∀ a, (![0, 1, 0] : Fin 3 → ℕ) a + (![1, 1, 128] : Fin 3 → ℕ) a ≤ S1x2x128.size a := inb_S1x2x128_S1x1x128_0_1_0
    have h := fun p a11 w11 sc sw c s hsc hsw hc hs hA => piece_ks1 X0 X1 x2 x3 x4 x5 p a11 w11 sc sw c s hsc hsw hc hs hA h2 x
    refine h _ _ _ _ _ _ _ ?_ ?_ ?_ ?_ ?_
    · exact sb hS _
    · exact swb _
    · exact tb _
    · exact tb _
    · exact fun r l => acc3 X0 x2 (cb hC _) (cb hC _) (cb hC _) (cb hC _) (cb hC _) (cb hC _) (cb hC _) (cb hC _) (cb hC _) (cb hC _) (cb hC _) (cb hC _) (wb' _) (wb' _) (wb' _) (wb' _) (wb' _) (wb' _) (wb' _) (wb' _) (wb' _) (wb' _) (wb' _) (wb' _) r l
  refine List.forall_mem_cons.mpr ⟨fun x => ?_, ?_⟩
  · dsimp only
    have h2 : ∀ a, (![0, 0, 0] : Fin 3 → ℕ) a + (![1, 1, 128] : Fin 3 → ℕ) a ≤ S1x2x128.size a := inb_S1x2x128_S1x1x128_0_0_0
    have h := fun p a11 w11 sc sw c s hsc hsw hc hs hA => piece_ks0 X0 X1 x2 x3 x4 x5 p a11 w11 sc sw c s hsc hsw hc hs hA h2 x
    refine h _ _ _ _ _ _ _ ?_ ?_ ?_ ?_ ?_
    · exact sb hS _
    · exact swb _
    · exact tb _
    · exact tb _
    · exact fun r l => acc3 X0 x2 (cb hC _) (cb hC _) (cb hC _) (cb hC _) (cb hC _) (cb hC _) (cb hC _) (cb hC _) (cb hC _) (cb hC _) (cb hC _) (cb hC _) (wb' _) (wb' _) (wb' _) (wb' _) (wb' _) (wb' _) (wb' _) (wb' _) (wb' _) (wb' _) (wb' _) (wb' _) r l
  exact fun _ h => absurd h List.not_mem_nil

/-- So the buffer holds the keys' scales of the block in the scratch. -/
theorem outB8 (X0 : Vec Ideal S256x12288 .i8) (X1 : Vec Ideal S256x128 .f32) (hC : SlotC X0 (slotR i) xs0) (hS : SlotS X1 (slotR i) xs1) (v : View sig .tc .vmem S1x2x128 .f32) (f : v.ty.Contents (Elt Ideal)) :
    v.read (Elt Ideal) (v.writes (Elt Ideal) f (kernelRun0_B (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1).2.2.1) = ksv X0 X1 x2 x3 x4 x5 := by
  rw [View.read_writes_eq_canon _ _ _ (coverB8 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1)]
  exact funext fun y => View.canon_apply_of_pieces _ _ (piecesB8 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1 X0 X1 hC hS) y (coverB8 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1 y)

/-- The stores of the values' codes cover the block; -/
theorem coverB9 (y : S256x128.Idx) : ∃ pc ∈ (kernelRun0_B (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1).2.2.2.1, y ∈ pc.1.set :=
  View.cover_of_tiledL (kernelRun0_B (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1).2.2.2.1 S256x128.size (by sl_kernel_rfl) y

set_option maxHeartbeats 3200000 in
/-- each stores its part of the closed form. -/
theorem piecesB9 (X0 : Vec Ideal S256x12288 .i8) (X1 : Vec Ideal S256x128 .f32) (hC : SlotC X0 (slotR i) xs0) (hS : SlotS X1 (slotR i) xs1) :
    ∀ p ∈ (kernelRun0_B (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1).2.2.2.1, ∀ x : p.1.shape.Idx, p.2 x = vcv X0 X1 x2 x3 (p.1.emb x) := by
  unfold kernelRun0_B
  dsimp only
  sl_unfold_words
  simp only [View.readAt_eq_ld, harg1.read_unread, harg2.read_unread, harg3.read_unread, harg4.read_unread, harg5.read_unread, harg6.read_unread, harg12.read_unread, harg13.read_unread]
  try simp only [same58, same59, same60, same61, same62, same63, same64, same65, same66, same67, same68, same69, same70, same71, same72, same73, same74, same75, same76, same77, same78, same79, same80, same81, same82, same83, same84, same85, same86, same87, same88, same89, same90, same91, same92, same93, same94, same95, same96, same97, same98, same99, same100, same101, same102, same103, same104, same3, same4, same5]
  refine List.forall_mem_cons.mpr ⟨fun x => piece_vc X0 X1 x2 x3 _ _ _ _ _ ?_ ?_ ?_ inb_S256x128_S256x128_0_0 x, ?_⟩
  · exact sb hS _
  · exact swb _
  · exact fun r l => acc3 X0 x2 (cb hC _) (cb hC _) (cb hC _) (cb hC _) (cb hC _) (cb hC _) (cb hC _) (cb hC _) (cb hC _) (cb hC _) (cb hC _) (cb hC _) (wb' _) (wb' _) (wb' _) (wb' _) (wb' _) (wb' _) (wb' _) (wb' _) (wb' _) (wb' _) (wb' _) (wb' _) r l
  exact fun _ h => absurd h List.not_mem_nil

/-- So the buffer holds the values' codes of the block in the scratch. -/
theorem outB9 (X0 : Vec Ideal S256x12288 .i8) (X1 : Vec Ideal S256x128 .f32) (hC : SlotC X0 (slotR i) xs0) (hS : SlotS X1 (slotR i) xs1) (v : View sig .tc .vmem S256x128 .i8) (f : v.ty.Contents (Elt Ideal)) :
    v.read (Elt Ideal) (v.writes (Elt Ideal) f (kernelRun0_B (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1).2.2.2.1) = vcv X0 X1 x2 x3 := by
  rw [View.read_writes_eq_canon _ _ _ (coverB9 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1)]
  exact funext fun y => View.canon_apply_of_pieces _ _ (piecesB9 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1 X0 X1 hC hS) y (coverB9 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1 y)

/-- The stores of the values' scales cover the block; -/
theorem coverB10 (y : S1x2x128.Idx) : ∃ pc ∈ (kernelRun0_B (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1).2.2.2.2.1, y ∈ pc.1.set :=
  View.cover_of_tiledL (kernelRun0_B (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1).2.2.2.2.1 S1x1x128.size (by sl_kernel_rfl) y

set_option maxHeartbeats 3200000 in
/-- each stores its part of the closed form. -/
theorem piecesB10 (X0 : Vec Ideal S256x12288 .i8) (X1 : Vec Ideal S256x128 .f32) (hC : SlotC X0 (slotR i) xs0) (hS : SlotS X1 (slotR i) xs1) :
    ∀ p ∈ (kernelRun0_B (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1).2.2.2.2.1, ∀ x : p.1.shape.Idx, p.2 x = vsv X0 X1 x2 x3 (p.1.emb x) := by
  unfold kernelRun0_B
  dsimp only
  sl_unfold_words
  simp only [View.readAt_eq_ld, harg1.read_unread, harg2.read_unread, harg3.read_unread, harg4.read_unread, harg5.read_unread, harg6.read_unread, harg12.read_unread, harg13.read_unread]
  try simp only [same58, same59, same60, same61, same62, same63, same64, same65, same66, same67, same68, same69, same70, same71, same72, same73, same74, same75, same76, same77, same78, same79, same80, same81, same82, same83, same84, same85, same86, same87, same88, same89, same90, same91, same92, same93, same94, same95, same96, same97, same98, same99, same100, same101, same102, same103, same104, same3, same4, same5]
  refine List.forall_mem_cons.mpr ⟨fun x => ?_, ?_⟩
  · dsimp only
    have h2 : ∀ a, (![0, 1, 0] : Fin 3 → ℕ) a + (![1, 1, 128] : Fin 3 → ℕ) a ≤ S1x2x128.size a := inb_S1x2x128_S1x1x128_0_1_0
    have h := fun p a11 w11 sc sw hsc hsw hA => piece_vs1 X0 X1 x2 x3 p a11 w11 sc sw hsc hsw hA h2 x
    refine h _ _ _ _ _ ?_ ?_ ?_
    · exact sb hS _
    · exact swb _
    · exact fun r l => acc3 X0 x2 (cb hC _) (cb hC _) (cb hC _) (cb hC _) (cb hC _) (cb hC _) (cb hC _) (cb hC _) (cb hC _) (cb hC _) (cb hC _) (cb hC _) (wb' _) (wb' _) (wb' _) (wb' _) (wb' _) (wb' _) (wb' _) (wb' _) (wb' _) (wb' _) (wb' _) (wb' _) r l
  refine List.forall_mem_cons.mpr ⟨fun x => ?_, ?_⟩
  · dsimp only
    have h2 : ∀ a, (![0, 0, 0] : Fin 3 → ℕ) a + (![1, 1, 128] : Fin 3 → ℕ) a ≤ S1x2x128.size a := inb_S1x2x128_S1x1x128_0_0_0
    have h := fun p a11 w11 sc sw hsc hsw hA => piece_vs0 X0 X1 x2 x3 p a11 w11 sc sw hsc hsw hA h2 x
    refine h _ _ _ _ _ ?_ ?_ ?_
    · exact sb hS _
    · exact swb _
    · exact fun r l => acc3 X0 x2 (cb hC _) (cb hC _) (cb hC _) (cb hC _) (cb hC _) (cb hC _) (cb hC _) (cb hC _) (cb hC _) (cb hC _) (cb hC _) (cb hC _) (wb' _) (wb' _) (wb' _) (wb' _) (wb' _) (wb' _) (wb' _) (wb' _) (wb' _) (wb' _) (wb' _) (wb' _) r l
  exact fun _ h => absurd h List.not_mem_nil

/-- So the buffer holds the values' scales of the block in the scratch. -/
theorem outB10 (X0 : Vec Ideal S256x12288 .i8) (X1 : Vec Ideal S256x128 .f32) (hC : SlotC X0 (slotR i) xs0) (hS : SlotS X1 (slotR i) xs1) (v : View sig .tc .vmem S1x2x128 .f32) (f : v.ty.Contents (Elt Ideal)) :
    v.read (Elt Ideal) (v.writes (Elt Ideal) f (kernelRun0_B (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1).2.2.2.2.1) = vsv X0 X1 x2 x3 := by
  rw [View.read_writes_eq_canon _ _ _ (coverB10 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1)]
  exact funext fun y => View.canon_apply_of_pieces _ _ (piecesB10 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1 X0 X1 hC hS) y (coverB10 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1 y)

/-- The fill leaves the point's block in its slot of the codes' scratch. -/
theorem slotB0 (v : View sig .tc .vmem S2x256x12288 .bf16) (f : v.ty.Contents (Elt Ideal)) :
    SlotC x0 (slotF i) (v.read (Elt Ideal) (v.writes (Elt Ideal) f (kernelRun0_B (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1).2.2.2.2.2.1)) := by
  unfold kernelRun0_B
  dsimp only
  sl_unfold_words
  simp only [View.readAt_eq_ld, harg1.read_unread, harg2.read_unread, same56, same57]
  exact fillC v f _ _

/-- The fill leaves the point's block in its slot of the scales' scratch. -/
theorem slotB1 (v : View sig .tc .vmem S2x256x128 .f32) (f : v.ty.Contents (Elt Ideal)) :
    SlotS x1 (slotF i) (v.read (Elt Ideal) (v.writes (Elt Ideal) f (kernelRun0_B (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1).2.2.2.2.2.2.1)) := by
  unfold kernelRun0_B
  dsimp only
  sl_unfold_words
  simp only [View.readAt_eq_ld, harg1.read_unread, harg2.read_unread, same56, same57]
  exact fillS v f _ _

end

end Cert.QkvIdeal.Proj

end
-- ==== Proof.Qkv.RunC.lean ====
/- The body's triple at the last point, which only projects, with the pieces it stores. -/
module

public import proofs.«01_k».proof.Proof.Qkv.Cases

@[expose] public section

-- membership in a rectangle of production extents (`View.cover_of_tiled`): the elaborator's structural look
-- recurses once per coordinate of the long axes
set_option maxRecDepth 16384

noncomputable section

namespace Cert.QkvIdeal.Proj

open Cert.QkvIdeal Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1132000 in
/-- The body's triple IN CASE C (`scf.if` 0 not taken, `scf.if` 1 not taken, `scf.if` 2 taken: points 24): on whole staging memrefs — the inputs' at their contents,
    the FORGOTTEN outputs' (6, 7, 8, 9, 10) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
def kernelRun0_C (c : Dev nD) (i : grid0.Coords) (arg1 : Memref sig .tc .vmem S256x12288 .i8) (harg1 : arg1.IsWhole) (arg2 : Memref sig .tc .vmem S256x128 .f32) (harg2 : arg2.IsWhole) (arg3 : Memref sig .tc .vmem S12288x1792 .i8) (harg3 : arg3.IsWhole) (arg4 : Memref sig .tc .vmem S1x1792 .f32) (harg4 : arg4.IsWhole) (arg5 : Memref sig .tc .vmem S256x64 .f32) (harg5 : arg5.IsWhole) (arg6 : Memref sig .tc .vmem S256x64 .f32) (harg6 : arg6.IsWhole) (arg7 : Memref sig .tc .vmem S256x1536 .bf16) (harg7 : arg7.IsWhole) (arg8 : Memref sig .tc .vmem S256x128 .i8) (harg8 : arg8.IsWhole) (arg9 : Memref sig .tc .vmem S1x2x128 .f32) (harg9 : arg9.IsWhole) (arg10 : Memref sig .tc .vmem S256x128 .i8) (harg10 : arg10.IsWhole) (arg11 : Memref sig .tc .vmem S1x2x128 .f32) (harg11 : arg11.IsWhole) (arg12 : Memref sig .tc .vmem S2x256x12288 .bf16) (harg12 : arg12.IsWhole) (arg13 : Memref sig .tc .vmem S2x256x128 .f32) (harg13 : arg13.IsWhole) (hc0 : ¬cond0_0 i) (hc1 : ¬cond0_1 i) (hc2 : cond0_2 i)
    (x0 : Vec F S256x12288 .i8) (x1 : Vec F S256x128 .f32) (x2 : Vec F S12288x1792 .i8) (x3 : Vec F S1x1792 .f32) (x4 : Vec F S256x64 .f32) (x5 : Vec F S256x64 .f32) (xs0 : Vec F S2x256x12288 .bf16) (xs1 : Vec F S2x256x128 .f32) :
    Σ' (L6 : List (View.Piece (Elt F) S256x1536 .bf16)), Σ' (L7 : List (View.Piece (Elt F) S256x128 .i8)), Σ' (L8 : List (View.Piece (Elt F) S1x2x128 .f32)), Σ' (L9 : List (View.Piece (Elt F) S256x128 .i8)), { L10 : List (View.Piece (Elt F) S1x2x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0 ∗ owns (c : Thread nD τ) arg13 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ owns (c : Thread nD τ) arg12 fullShare xs0 ∗ owns (c : Thread nD τ) arg13 fullShare xs1) -∗ K ⟨⟩))
          ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun E K => ?run⟩
  case run =>
    simp only [cc0_qkv_eq_skeleton]; unfold cc0_qkv_skel
    simp only [k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg12.eq_unread hfs0; obtain rfl := harg13.eq_unread hfs1
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [H9]; · iexists _; iexact H9
    isplitl [H10]; · iexists _; iexact H10
    isplitl [HS0]
    · iexists _; isplitr; · ipureintro; exact harg12.read_unread _
      iexact HS0
    iexists _; isplitr; · ipureintro; exact harg13.read_unread _
    iexact HS1

end Cert.QkvIdeal.Proj

end
-- ==== Proof.Qkv.OutC.lean ====
/- The projection's last point: what it leaves in the results' buffers. -/
module

public import proofs.«01_k».proof.Proof.Qkv.RunC
public import proofs.«01_k».proof.Proof.Qkv.Loads

@[expose] public section

set_option maxRecDepth 16384

noncomputable section

namespace Cert.QkvIdeal.Proj

open Cert.QkvIdeal Cert.QkvIdeal.Gen
open Idealize.ShloMosaic Idealize.ShloMosaic.TcCoe Idealize.ShloMosaic.Tactic Idealize.SL.Sem

section
variable (c : Dev nD) (i : grid0.Coords) (arg1 : Memref sig .tc .vmem S256x12288 .i8) (harg1 : arg1.IsWhole) (arg2 : Memref sig .tc .vmem S256x128 .f32) (harg2 : arg2.IsWhole) (arg3 : Memref sig .tc .vmem S12288x1792 .i8) (harg3 : arg3.IsWhole) (arg4 : Memref sig .tc .vmem S1x1792 .f32) (harg4 : arg4.IsWhole) (arg5 : Memref sig .tc .vmem S256x64 .f32) (harg5 : arg5.IsWhole) (arg6 : Memref sig .tc .vmem S256x64 .f32) (harg6 : arg6.IsWhole) (arg7 : Memref sig .tc .vmem S256x1536 .bf16) (harg7 : arg7.IsWhole) (arg8 : Memref sig .tc .vmem S256x128 .i8) (harg8 : arg8.IsWhole) (arg9 : Memref sig .tc .vmem S1x2x128 .f32) (harg9 : arg9.IsWhole) (arg10 : Memref sig .tc .vmem S256x128 .i8) (harg10 : arg10.IsWhole) (arg11 : Memref sig .tc .vmem S1x2x128 .f32) (harg11 : arg11.IsWhole) (arg12 : Memref sig .tc .vmem S2x256x12288 .bf16) (harg12 : arg12.IsWhole) (arg13 : Memref sig .tc .vmem S2x256x128 .f32) (harg13 : arg13.IsWhole) (hc0 : ¬cond0_0 i) (hc1 : ¬cond0_1 i) (hc2 : cond0_2 i)
    (x0 : Vec Ideal S256x12288 .i8) (x1 : Vec Ideal S256x128 .f32) (x2 : Vec Ideal S12288x1792 .i8) (x3 : Vec Ideal S1x1792 .f32) (x4 : Vec Ideal S256x64 .f32) (x5 : Vec Ideal S256x64 .f32) (xs0 : Vec Ideal S2x256x12288 .bf16) (xs1 : Vec Ideal S2x256x128 .f32)

/-- The stores of the queries cover the block; -/
theorem coverC6 (y : S256x1536.Idx) : ∃ pc ∈ (kernelRun0_C (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1).1, y ∈ pc.1.set :=
  View.cover_of_tiledL (kernelRun0_C (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1).1 S256x128.size (by sl_kernel_rfl) y

set_option maxHeartbeats 3200000 in
/-- each stores its part of the closed form. -/
theorem piecesC6 (X0 : Vec Ideal S256x12288 .i8) (X1 : Vec Ideal S256x128 .f32) (hC : SlotC X0 (slotR i) xs0) (hS : SlotS X1 (slotR i) xs1) :
    ∀ p ∈ (kernelRun0_C (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1).1, ∀ x : p.1.shape.Idx, p.2 x = qv X0 X1 x2 x3 x4 x5 (p.1.emb x) := by
  unfold kernelRun0_C
  dsimp only
  sl_unfold_words
  simp only [View.readAt_eq_ld, harg1.read_unread, harg2.read_unread, harg3.read_unread, harg4.read_unread, harg5.read_unread, harg6.read_unread, harg12.read_unread, harg13.read_unread]
  simp only [same58, same59, same60, same61, same62, same63, same64, same65, same66, same67, same68, same69, same70, same71, same72, same73, same74, same75, same76, same77, same78, same79, same80, same81, same82, same83, same84, same85, same86, same87, same88, same89, same90, same91, same92, same93, same94, same95, same96, same97, same98, same99, same100, same101, same102, same103, same104, same3, same4, same5]
  refine List.forall_mem_cons.mpr ⟨fun x => piece23 X0 X1 x2 x3 x4 x5 _ _ _ _ _ _ _ _ _ (sb hS _) (swb _) (tb _) (tb _) (fun r l => acc2 X0 x2 (cb hC _) (cb hC _) (cb hC _) (cb hC _) (cb hC _) (cb hC _) (cb hC _) (cb hC _) (cb hC _) (cb hC _) (cb hC _) (cb hC _) (wb _) (wb _) (wb _) (wb _) (wb _) (wb _) (wb _) (wb _) (wb _) (wb _) (wb _) (wb _) r l) inb_S256x1536_S256x128_0_1408 x, ?_⟩
  refine List.forall_mem_cons.mpr ⟨fun x => piece22 X0 X1 x2 x3 x4 x5 _ _ _ _ _ _ _ _ _ (sb hS _) (swb _) (tb _) (tb _) (fun r l => acc2 X0 x2 (cb hC _) (cb hC _) (cb hC _) (cb hC _) (cb hC _) (cb hC _) (cb hC _) (cb hC _) (cb hC _) (cb hC _) (cb hC _) (cb hC _) (wb _) (wb _) (wb _) (wb _) (wb _) (wb _) (wb _) (wb _) (wb _) (wb _) (wb _) (wb _) r l) inb_S256x1536_S256x128_0_1280 x, ?_⟩
  refine List.forall_mem_cons.mpr ⟨fun x => piece21 X0 X1 x2 x3 x4 x5 _ _ _ _ _ _ _ _ _ (sb hS _) (swb _) (tb _) (tb _) (fun r l => acc2 X0 x2 (cb hC _) (cb hC _) (cb hC _) (cb hC _) (cb hC _) (cb hC _) (cb hC _) (cb hC _) (cb hC _) (cb hC _) (cb hC _) (cb hC _) (wb _) (wb _) (wb _) (wb _) (wb _) (wb _) (wb _) (wb _) (wb _) (wb _) (wb _) (wb _) r l) inb_S256x1536_S256x128_0_1152 x, ?_⟩
  refine List.forall_mem_cons.mpr ⟨fun x => piece20 X0 X1 x2 x3 x4 x5 _ _ _ _ _ _ _ _ _ (sb hS _) (swb _) (tb _) (tb _) (fun r l => acc2 X0 x2 (cb hC _) (cb hC _) (cb hC _) (cb hC _) (cb hC _) (cb hC _) (cb hC _) (cb hC _) (cb hC _) (cb hC _) (cb hC _) (cb hC _) (wb _) (wb _) (wb _) (wb _) (wb _) (wb _) (wb _) (wb _) (wb _) (wb _) (wb _) (wb _) r l) inb_S256x1536_S256x128_0_1024 x, ?_⟩
  refine List.forall_mem_cons.mpr ⟨fun x => piece13 X0 X1 x2 x3 x4 x5 _ _ _ _ _ _ _ _ _ _ _ (sb hS _) (swb _) (tb _) (tb _) (fun r l => acc1 X0 x2 (cb hC _) (cb hC _) (cb hC _) (cb hC _) (cb hC _) (cb hC _) (cb hC _) (cb hC _) (cb hC _) (cb hC _) (cb hC _) (cb hC _) (wb _) (wb _) (wb _) (wb _) (wb _) (wb _) (wb _) (wb _) (wb _) (wb _) (wb _) (wb _) r l) inb_S256x1536_S256x128_0_896 x, ?_⟩
  refine List.forall_mem_cons.mpr ⟨fun x => piece12 X0 X1 x2 x3 x4 x5 _ _ _ _ _ _ _ _ _ _ _ (sb hS _) (swb _) (tb _) (tb _) (fun r l => acc1 X0 x2 (cb hC _) (cb hC _) (cb hC _) (cb hC _) (cb hC _) (cb hC _) (cb hC _) (cb hC _) (cb hC _) (cb hC _) (cb hC _) (cb hC _) (wb _) (wb _) (wb _) (wb _) (wb _) (wb _) (wb _) (wb _) (wb _) (wb _) (wb _) (wb _) r l) inb_S256x1536_S256x128_0_768 x, ?_⟩
  refine List.forall_mem_cons.mpr ⟨fun x => piece11 X0 X1 x2 x3 x4 x5 _ _ _ _ _ _ _ _ _ _ _ (sb hS _) (swb _) (tb _) (tb _) (fun r l => acc1 X0 x2 (cb hC _) (cb hC _) (cb hC _) (cb hC _) (cb hC _) (cb hC _) (cb hC _) (cb hC _) (cb hC _) (cb hC _) (cb hC _) (cb hC _) (wb _) (wb _) (wb _) (wb _) (wb _) (wb _) (wb _) (wb _) (wb _) (wb _) (wb _) (wb _) r l) inb_S256x1536_S256x128_0_640 x, ?_⟩
  refine List.forall_mem_cons.mpr ⟨fun x => piece10 X0 X1 x2 x3 x4 x5 _ _ _ _ _ _ _ _ _ _ _ (sb hS _) (swb _) (tb _) (tb _) (fun r l => acc1 X0 x2 (cb hC _) (cb hC _) (cb hC _) (cb hC _) (cb hC _) (cb hC _) (cb hC _) (cb hC _) (cb hC _) (cb hC _) (cb hC _) (cb hC _) (wb _) (wb _) (wb _) (wb _) (wb _) (wb _) (wb _) (wb _) (wb _) (wb _) (wb _) (wb _) r l) inb_S256x1536_S256x128_0_512 x, ?_⟩
  refine List.forall_mem_cons.mpr ⟨fun x => piece03 X0 X1 x2 x3 x4 x5 _ _ _ _ _ _ _ _ _ _ _ (sb hS _) (swb _) (tb _) (tb _) (fun r l => acc0 X0 x2 (cb hC _) (cb hC _) (cb hC _) (cb hC _) (cb hC _) (cb hC _) (cb hC _) (cb hC _) (cb hC _) (cb hC _) (cb hC _) (cb hC _) (wb _) (wb _) (wb _) (wb _) (wb _) (wb _) (wb _) (wb _) (wb _) (wb _) (wb _) (wb _) r l) inb_S256x1536_S256x128_0_384 x, ?_⟩
  refine List.forall_mem_cons.mpr ⟨fun x => piece02 X0 X1 x2 x3 x4 x5 _ _ _ _ _ _ _ _ _ _ _ (sb hS _) (swb _) (tb _) (tb _) (fun r l => acc0 X0 x2 (cb hC _) (cb hC _) (cb hC _) (cb hC _) (cb hC _) (cb hC _) (cb hC _) (cb hC _) (cb hC _) (cb hC _) (cb hC _) (cb hC _) (wb _) (wb _) (wb _) (wb _) (wb _) (wb _) (wb _) (wb _) (wb _) (wb _) (wb _) (wb _) r l) inb_S256x1536_S256x128_0_256 x, ?_⟩
  refine List.forall_mem_cons.mpr ⟨fun x => piece01 X0 X1 x2 x3 x4 x5 _ _ _ _ _ _ _ _ _ _ _ (sb hS _) (swb _) (tb _) (tb _) (fun r l => acc0 X0 x2 (cb hC _) (cb hC _) (cb hC _) (cb hC _) (cb hC _) (cb hC _) (cb hC _) (cb hC _) (cb hC _) (cb hC _) (cb hC _) (cb hC _) (wb _) (wb _) (wb _) (wb _) (wb _) (wb _) (wb _) (wb _) (wb _) (wb _) (wb _) (wb _) r l) inb_S256x1536_S256x128_0_128 x, ?_⟩
  refine List.forall_mem_cons.mpr ⟨fun x => piece00 X0 X1 x2 x3 x4 x5 _ _ _ _ _ _ _ _ _ _ _ (sb hS _) (swb _) (tb _) (tb _) (fun r l => acc0 X0 x2 (cb hC _) (cb hC _) (cb hC _) (cb hC _) (cb hC _) (cb hC _) (cb hC _) (cb hC _) (cb hC _) (cb hC _) (cb hC _) (cb hC _) (wb _) (wb _) (wb _) (wb _) (wb _) (wb _) (wb _) (wb _) (wb _) (wb _) (wb _) (wb _) r l) inb_S256x1536_S256x128_0_0 x, ?_⟩
  exact fun _ h => absurd h List.not_mem_nil

/-- So the buffer holds the queries of the block in the scratch. -/
theorem outC6 (X0 : Vec Ideal S256x12288 .i8) (X1 : Vec Ideal S256x128 .f32) (hC : SlotC X0 (slotR i) xs0) (hS : SlotS X1 (slotR i) xs1) (v : View sig .tc .vmem S256x1536 .bf16) (f : v.ty.Contents (Elt Ideal)) :
    v.read (Elt Ideal) (v.writes (Elt Ideal) f (kernelRun0_C (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1).1) = qv X0 X1 x2 x3 x4 x5 := by
  rw [View.read_writes_eq_canon _ _ _ (coverC6 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1)]
  exact funext fun y => View.canon_apply_of_pieces _ _ (piecesC6 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1 X0 X1 hC hS) y (coverC6 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1 y)

/-- The stores of the keys' codes cover the block; -/
theorem coverC7 (y : S256x128.Idx) : ∃ pc ∈ (kernelRun0_C (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1).2.1, y ∈ pc.1.set :=
  View.cover_of_tiledL (kernelRun0_C (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1).2.1 S256x128.size (by sl_kernel_rfl) y

set_option maxHeartbeats 3200000 in
/-- each stores its part of the closed form. -/
theorem piecesC7 (X0 : Vec Ideal S256x12288 .i8) (X1 : Vec Ideal S256x128 .f32) (hC : SlotC X0 (slotR i) xs0) (hS : SlotS X1 (slotR i) xs1) :
    ∀ p ∈ (kernelRun0_C (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1).2.1, ∀ x : p.1.shape.Idx, p.2 x = kcv X0 X1 x2 x3 x4 x5 (p.1.emb x) := by
  unfold kernelRun0_C
  dsimp only
  sl_unfold_words
  simp only [View.readAt_eq_ld, harg1.read_unread, harg2.read_unread, harg3.read_unread, harg4.read_unread, harg5.read_unread, harg6.read_unread, harg12.read_unread, harg13.read_unread]
  simp only [same58, same59, same60, same61, same62, same63, same64, same65, same66, same67, same68, same69, same70, same71, same72, same73, same74, same75, same76, same77, same78, same79, same80, same81, same82, same83, same84, same85, same86, same87, same88, same89, same90, same91, same92, same93, same94, same95, same96, same97, same98, same99, same100, same101, same102, same103, same104, same3, same4, same5]
  refine List.forall_mem_cons.mpr ⟨fun x => piece_kc X0 X1 x2 x3 x4 x5 _ _ _ _ _ _ _ (sb hS _) (swb _) (tb _) (tb _) (fun r l => acc3 X0 x2 (cb hC _) (cb hC _) (cb hC _) (cb hC _) (cb hC _) (cb hC _) (cb hC _) (cb hC _) (cb hC _) (cb hC _) (cb hC _) (cb hC _) (wb' _) (wb' _) (wb' _) (wb' _) (wb' _) (wb' _) (wb' _) (wb' _) (wb' _) (wb' _) (wb' _) (wb' _) r l) inb_S256x128_S256x128_0_0 x, ?_⟩
  exact fun _ h => absurd h List.not_mem_nil

/-- So the buffer holds the keys' codes of the block in the scratch. -/
theorem outC7 (X0 : Vec Ideal S256x12288 .i8) (X1 : Vec Ideal S256x128 .f32) (hC : SlotC X0 (slotR i) xs0) (hS : SlotS X1 (slotR i) xs1) (v : View sig .tc .vmem S256x128 .i8) (f : v.ty.Contents (Elt Ideal)) :
    v.read (Elt Ideal) (v.writes (Elt Ideal) f (kernelRun0_C (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1).2.1) = kcv X0 X1 x2 x3 x4 x5 := by
  rw [View.read_writes_eq_canon _ _ _ (coverC7 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1)]
  exact funext fun y => View.canon_apply_of_pieces _ _ (piecesC7 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1 X0 X1 hC hS) y (coverC7 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1 y)

/-- The stores of the keys' scales cover the block; -/
theorem coverC8 (y : S1x2x128.Idx) : ∃ pc ∈ (kernelRun0_C (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1).2.2.1, y ∈ pc.1.set :=
  View.cover_of_tiledL (kernelRun0_C (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1).2.2.1 S1x1x128.size (by sl_kernel_rfl) y

set_option maxHeartbeats 3200000 in
/-- each stores its part of the closed form. -/
theorem piecesC8 (X0 : Vec Ideal S256x12288 .i8) (X1 : Vec Ideal S256x128 .f32) (hC : SlotC X0 (slotR i) xs0) (hS : SlotS X1 (slotR i) xs1) :
    ∀ p ∈ (kernelRun0_C (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1).2.2.1, ∀ x : p.1.shape.Idx, p.2 x = ksv X0 X1 x2 x3 x4 x5 (p.1.emb x) := by
  unfold kernelRun0_C
  dsimp only
  sl_unfold_words
  simp only [View.readAt_eq_ld, harg1.read_unread, harg2.read_unread, harg3.read_unread, harg4.read_unread, harg5.read_unread, harg6.read_unread, harg12.read_unread, harg13.read_unread]
  simp only [same58, same59, same60, same61, same62, same63, same64, same65, same66, same67, same68, same69, same70, same71, same72, same73, same74, same75, same76, same77, same78, same79, same80, same81, same82, same83, same84, same85, same86, same87, same88, same89, same90, same91, same92, same93, same94, same95, same96, same97, same98, same99, same100, same101, same102, same103, same104, same3, same4, same5]
  refine List.forall_mem_cons.mpr ⟨fun x => ?_, ?_⟩
  · dsimp only
    have h2 : ∀ a, (![0, 1, 0] : Fin 3 → ℕ) a + (![1, 1, 128] : Fin 3 → ℕ) a ≤ S1x2x128.size a := inb_S1x2x128_S1x1x128_0_1_0
    have h := fun p a11 w11 sc sw c s hsc hsw hc hs hA => piece_ks1 X0 X1 x2 x3 x4 x5 p a11 w11 sc sw c s hsc hsw hc hs hA h2 x
    refine h _ _ _ _ _ _ _ ?_ ?_ ?_ ?_ ?_
    · exact sb hS _
    · exact swb _
    · exact tb _
    · exact tb _
    · exact fun r l => acc3 X0 x2 (cb hC _) (cb hC _) (cb hC _) (cb hC _) (cb hC _) (cb hC _) (cb hC _) (cb hC _) (cb hC _) (cb hC _) (cb hC _) (cb hC _) (wb' _) (wb' _) (wb' _) (wb' _) (wb' _) (wb' _) (wb' _) (wb' _) (wb' _) (wb' _) (wb' _) (wb' _) r l
  refine List.forall_mem_cons.mpr ⟨fun x => ?_, ?_⟩
  · dsimp only
    have h2 : ∀ a, (![0, 0, 0] : Fin 3 → ℕ) a + (![1, 1, 128] : Fin 3 → ℕ) a ≤ S1x2x128.size a := inb_S1x2x128_S1x1x128_0_0_0
    have h := fun p a11 w11 sc sw c s hsc hsw hc hs hA => piece_ks0 X0 X1 x2 x3 x4 x5 p a11 w11 sc sw c s hsc hsw hc hs hA h2 x
    refine h _ _ _ _ _ _ _ ?_ ?_ ?_ ?_ ?_
    · exact sb hS _
    · exact swb _
    · exact tb _
    · exact tb _
    · exact fun r l => acc3 X0 x2 (cb hC _) (cb hC _) (cb hC _) (cb hC _) (cb hC _) (cb hC _) (cb hC _) (cb hC _) (cb hC _) (cb hC _) (cb hC _) (cb hC _) (wb' _) (wb' _) (wb' _) (wb' _) (wb' _) (wb' _) (wb' _) (wb' _) (wb' _) (wb' _) (wb' _) (wb' _) r l
  exact fun _ h => absurd h List.not_mem_nil

/-- So the buffer holds the keys' scales of the block in the scratch. -/
theorem outC8 (X0 : Vec Ideal S256x12288 .i8) (X1 : Vec Ideal S256x128 .f32) (hC : SlotC X0 (slotR i) xs0) (hS : SlotS X1 (slotR i) xs1) (v : View sig .tc .vmem S1x2x128 .f32) (f : v.ty.Contents (Elt Ideal)) :
    v.read (Elt Ideal) (v.writes (Elt Ideal) f (kernelRun0_C (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1).2.2.1) = ksv X0 X1 x2 x3 x4 x5 := by
  rw [View.read_writes_eq_canon _ _ _ (coverC8 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1)]
  exact funext fun y => View.canon_apply_of_pieces _ _ (piecesC8 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1 X0 X1 hC hS) y (coverC8 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1 y)

/-- The stores of the values' codes cover the block; -/
theorem coverC9 (y : S256x128.Idx) : ∃ pc ∈ (kernelRun0_C (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1).2.2.2.1, y ∈ pc.1.set :=
  View.cover_of_tiledL (kernelRun0_C (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1).2.2.2.1 S256x128.size (by sl_kernel_rfl) y

set_option maxHeartbeats 3200000 in
/-- each stores its part of the closed form. -/
theorem piecesC9 (X0 : Vec Ideal S256x12288 .i8) (X1 : Vec Ideal S256x128 .f32) (hC : SlotC X0 (slotR i) xs0) (hS : SlotS X1 (slotR i) xs1) :
    ∀ p ∈ (kernelRun0_C (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1).2.2.2.1, ∀ x : p.1.shape.Idx, p.2 x = vcv X0 X1 x2 x3 (p.1.emb x) := by
  unfold kernelRun0_C
  dsimp only
  sl_unfold_words
  simp only [View.readAt_eq_ld, harg1.read_unread, harg2.read_unread, harg3.read_unread, harg4.read_unread, harg5.read_unread, harg6.read_unread, harg12.read_unread, harg13.read_unread]
  simp only [same58, same59, same60, same61, same62, same63, same64, same65, same66, same67, same68, same69, same70, same71, same72, same73, same74, same75, same76, same77, same78, same79, same80, same81, same82, same83, same84, same85, same86, same87, same88, same89, same90, same91, same92, same93, same94, same95, same96, same97, same98, same99, same100, same101, same102, same103, same104, same3, same4, same5]
  refine List.forall_mem_cons.mpr ⟨fun x => piece_vc X0 X1 x2 x3 _ _ _ _ _ ?_ ?_ ?_ inb_S256x128_S256x128_0_0 x, ?_⟩
  · exact sb hS _
  · exact swb _
  · exact fun r l => acc3 X0 x2 (cb hC _) (cb hC _) (cb hC _) (cb hC _) (cb hC _) (cb hC _) (cb hC _) (cb hC _) (cb hC _) (cb hC _) (cb hC _) (cb hC _) (wb' _) (wb' _) (wb' _) (wb' _) (wb' _) (wb' _) (wb' _) (wb' _) (wb' _) (wb' _) (wb' _) (wb' _) r l
  exact fun _ h => absurd h List.not_mem_nil

/-- So the buffer holds the values' codes of the block in the scratch. -/
theorem outC9 (X0 : Vec Ideal S256x12288 .i8) (X1 : Vec Ideal S256x128 .f32) (hC : SlotC X0 (slotR i) xs0) (hS : SlotS X1 (slotR i) xs1) (v : View sig .tc .vmem S256x128 .i8) (f : v.ty.Contents (Elt Ideal)) :
    v.read (Elt Ideal) (v.writes (Elt Ideal) f (kernelRun0_C (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1).2.2.2.1) = vcv X0 X1 x2 x3 := by
  rw [View.read_writes_eq_canon _ _ _ (coverC9 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1)]
  exact funext fun y => View.canon_apply_of_pieces _ _ (piecesC9 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1 X0 X1 hC hS) y (coverC9 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1 y)

/-- The stores of the values' scales cover the block; -/
theorem coverC10 (y : S1x2x128.Idx) : ∃ pc ∈ (kernelRun0_C (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1).2.2.2.2.1, y ∈ pc.1.set :=
  View.cover_of_tiledL (kernelRun0_C (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1).2.2.2.2.1 S1x1x128.size (by sl_kernel_rfl) y

set_option maxHeartbeats 3200000 in
/-- each stores its part of the closed form. -/
theorem piecesC10 (X0 : Vec Ideal S256x12288 .i8) (X1 : Vec Ideal S256x128 .f32) (hC : SlotC X0 (slotR i) xs0) (hS : SlotS X1 (slotR i) xs1) :
    ∀ p ∈ (kernelRun0_C (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1).2.2.2.2.1, ∀ x : p.1.shape.Idx, p.2 x = vsv X0 X1 x2 x3 (p.1.emb x) := by
  unfold kernelRun0_C
  dsimp only
  sl_unfold_words
  simp only [View.readAt_eq_ld, harg1.read_unread, harg2.read_unread, harg3.read_unread, harg4.read_unread, harg5.read_unread, harg6.read_unread, harg12.read_unread, harg13.read_unread]
  simp only [same58, same59, same60, same61, same62, same63, same64, same65, same66, same67, same68, same69, same70, same71, same72, same73, same74, same75, same76, same77, same78, same79, same80, same81, same82, same83, same84, same85, same86, same87, same88, same89, same90, same91, same92, same93, same94, same95, same96, same97, same98, same99, same100, same101, same102, same103, same104, same3, same4, same5]
  refine List.forall_mem_cons.mpr ⟨fun x => ?_, ?_⟩
  · dsimp only
    have h2 : ∀ a, (![0, 1, 0] : Fin 3 → ℕ) a + (![1, 1, 128] : Fin 3 → ℕ) a ≤ S1x2x128.size a := inb_S1x2x128_S1x1x128_0_1_0
    have h := fun p a11 w11 sc sw hsc hsw hA => piece_vs1 X0 X1 x2 x3 p a11 w11 sc sw hsc hsw hA h2 x
    refine h _ _ _ _ _ ?_ ?_ ?_
    · exact sb hS _
    · exact swb _
    · exact fun r l => acc3 X0 x2 (cb hC _) (cb hC _) (cb hC _) (cb hC _) (cb hC _) (cb hC _) (cb hC _) (cb hC _) (cb hC _) (cb hC _) (cb hC _) (cb hC _) (wb' _) (wb' _) (wb' _) (wb' _) (wb' _) (wb' _) (wb' _) (wb' _) (wb' _) (wb' _) (wb' _) (wb' _) r l
  refine List.forall_mem_cons.mpr ⟨fun x => ?_, ?_⟩
  · dsimp only
    have h2 : ∀ a, (![0, 0, 0] : Fin 3 → ℕ) a + (![1, 1, 128] : Fin 3 → ℕ) a ≤ S1x2x128.size a := inb_S1x2x128_S1x1x128_0_0_0
    have h := fun p a11 w11 sc sw hsc hsw hA => piece_vs0 X0 X1 x2 x3 p a11 w11 sc sw hsc hsw hA h2 x
    refine h _ _ _ _ _ ?_ ?_ ?_
    · exact sb hS _
    · exact swb _
    · exact fun r l => acc3 X0 x2 (cb hC _) (cb hC _) (cb hC _) (cb hC _) (cb hC _) (cb hC _) (cb hC _) (cb hC _) (cb hC _) (cb hC _) (cb hC _) (cb hC _) (wb' _) (wb' _) (wb' _) (wb' _) (wb' _) (wb' _) (wb' _) (wb' _) (wb' _) (wb' _) (wb' _) (wb' _) r l
  exact fun _ h => absurd h List.not_mem_nil

/-- So the buffer holds the values' scales of the block in the scratch. -/
theorem outC10 (X0 : Vec Ideal S256x12288 .i8) (X1 : Vec Ideal S256x128 .f32) (hC : SlotC X0 (slotR i) xs0) (hS : SlotS X1 (slotR i) xs1) (v : View sig .tc .vmem S1x2x128 .f32) (f : v.ty.Contents (Elt Ideal)) :
    v.read (Elt Ideal) (v.writes (Elt Ideal) f (kernelRun0_C (F := Ideal) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1).2.2.2.2.1) = vsv X0 X1 x2 x3 := by
  rw [View.read_writes_eq_canon _ _ _ (coverC10 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1)]
  exact funext fun y => View.canon_apply_of_pieces _ _ (piecesC10 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1 X0 X1 hC hS) y (coverC10 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1 y)

end

end Cert.QkvIdeal.Proj

end
-- ==== Proof.Qkv.Frame.lean ====
/- The query/key/value projection's run over its grid of 25 points: every point but the last fills a slot of the scratch with
   its block of rows, every point but the first computes the block of rows the point before filled; the results' buffers are
   untouched at the first point and hold the closed forms of the block after each other one. -/
module

public import proofs.«01_k».proof.Proof.Qkv.OutA
public import proofs.«01_k».proof.Proof.Qkv.OutB
public import proofs.«01_k».proof.Proof.Qkv.OutC
public import Idealize.ShloMosaic.Lib.Pipeline.ValueKit
public import Idealize.ShloMosaic.Lib.Claim

@[expose] public section

set_option maxRecDepth 16384

noncomputable section

namespace Cert.QkvIdeal.Proj

open Cert.QkvIdeal Cert.QkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## What the buffers hold after each point -/

/-- The last point at or before `n` that fills a slot: all but the last one do. -/
def lastPt (n : ℕ) (h : n < cfg0.N) : Fin cfg0.N := ⟨min n 23, lt_of_le_of_lt (Nat.min_le_left _ _) h⟩

theorem lastPt_eq (t : Fin cfg0.N) (h : t.val ≤ 23) : lastPt t.val t.isLt = t := Fin.ext (Nat.min_eq_left h)

/-- The point before. -/
def prevPt (t : Fin cfg0.N) : Fin cfg0.N := ⟨t.val - 1, lt_of_le_of_lt (Nat.sub_le _ _) t.isLt⟩

theorem last_prev (t : Fin cfg0.N) : lastPt (t.val - 1) (prevPt t).isLt = prevPt t :=
  lastPt_eq (prevPt t) (by have hN : t.val < 25 := lt_of_lt_of_eq t.isLt (show cfg0.N = 25 from N_0); show t.val - 1 ≤ 23; omega)

/-- A point fills the slot of its parity, -/
theorem slotF_eq : ∀ t : Fin cfg0.N, slotF (grid0.coords t) = t.val % 2 :=
  (by decide +kernel : ∀ t : Fin grid0.N, slotF (grid0.coords t) = t.val % 2)
/-- and reads the other one. -/
theorem slotR_eq : ∀ t : Fin cfg0.N, 1 ≤ t.val → slotR (grid0.coords t) = (t.val - 1) % 2 :=
  (by decide +kernel : ∀ t : Fin grid0.N, 1 ≤ t.val → slotR (grid0.coords t) = (t.val - 1) % 2)

/-- Point `t`'s block of result 1: of the rows the point before filled. -/
def res6 (c : Dev nD) (t : Fin cfg0.N) : Vec Ideal S256x1536 .bf16 :=
  qv (iblk m c 0 (prevPt t)) (iblk m c 1 (prevPt t)) (iblk m c 2 t) (iblk m c 3 t) (iblk m c 4 t) (iblk m c 5 t)

/-- Point `t`'s block of result 2: of the rows the point before filled. -/
def res7 (c : Dev nD) (t : Fin cfg0.N) : Vec Ideal S256x128 .i8 :=
  kcv (iblk m c 0 (prevPt t)) (iblk m c 1 (prevPt t)) (iblk m c 2 t) (iblk m c 3 t) (iblk m c 4 t) (iblk m c 5 t)

/-- Point `t`'s block of result 3: of the rows the point before filled. -/
def res8 (c : Dev nD) (t : Fin cfg0.N) : Vec Ideal S1x2x128 .f32 :=
  ksv (iblk m c 0 (prevPt t)) (iblk m c 1 (prevPt t)) (iblk m c 2 t) (iblk m c 3 t) (iblk m c 4 t) (iblk m c 5 t)

/-- Point `t`'s block of result 4: of the rows the point before filled. -/
def res9 (c : Dev nD) (t : Fin cfg0.N) : Vec Ideal S256x128 .i8 :=
  vcv (iblk m c 0 (prevPt t)) (iblk m c 1 (prevPt t)) (iblk m c 2 t) (iblk m c 3 t)

/-- Point `t`'s block of result 5: of the rows the point before filled. -/
def res10 (c : Dev nD) (t : Fin cfg0.N) : Vec Ideal S1x2x128 .f32 :=
  vsv (iblk m c 0 (prevPt t)) (iblk m c 1 (prevPt t)) (iblk m c 2 t) (iblk m c 3 t)

/-- The invariant before position `n`: before the first point every scratch at anything; afterwards the slot the last
    filling point filled holds its rows. -/
def PhiS (c : Dev nD) : (n : ℕ) → n ≤ cfg0.N → sProp 𝕄
  | 0, _ => Pipeline.ΦA spec0 c
  | n + 1, hn => iprop(iprop((∃ d, ⌜SlotC (iblk m c 0 (lastPt n hn)) (min n 23 % 2) d⌝ ∗ owns (c : Thread nD τ) scM0_0 fullShare d) ∗ (∃ d, ⌜SlotS (iblk m c 1 (lastPt n hn)) (min n 23 % 2) d⌝ ∗ owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

/-- After point `n`. -/
theorem PhiS_succ (c : Dev nD) (n : ℕ) (hn : n < cfg0.N) :
    PhiS m c (n + 1) hn = iprop(iprop((∃ d, ⌜SlotC (iblk m c 0 (lastPt n hn)) (min n 23 % 2) d⌝ ∗ owns (c : Thread nD τ) scM0_0 fullShare d) ∗ (∃ d, ⌜SlotS (iblk m c 1 (lastPt n hn)) (min n 23 % 2) d⌝ ∗ owns (c : Thread nD τ) scM0_1 fullShare d)) ∗ (∃ r, prngReg c r)) := rfl

/-- Before a point that is not the first. -/
theorem PhiS_pos (c : Dev nD) (n : ℕ) (h : n ≤ cfg0.N) (hz : n ≠ 0) :
    PhiS m c n h = iprop(iprop((∃ d, ⌜SlotC (iblk m c 0 (lastPt (n - 1) (by omega))) (min (n - 1) 23 % 2) d⌝ ∗ owns (c : Thread nD τ) scM0_0 fullShare d) ∗ (∃ d, ⌜SlotS (iblk m c 1 (lastPt (n - 1) (by omega))) (min (n - 1) 23 % 2) d⌝ ∗ owns (c : Thread nD τ) scM0_1 fullShare d)) ∗ (∃ r, prngReg c r)) := by
  cases n with
  | zero => exact absurd rfl hz
  | succ n => rfl

/-- The pipeline's proof data: the arrays as the region finds them; after each point an input's buffer at its block, each
    result's at its closed form. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => res6 m c t
    | ⟨7, _⟩ => res7 m c t
    | ⟨8, _⟩ => res8 m c t
    | ⟨9, _⟩ => res9 m c t
    | ⟨10, _⟩ => res10 m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-! What the body leaves, window by window, and finds. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = res6 m c t := by dsimp only [dats]
theorem after0_7 (c : Dev nD) (t : Fin cfg0.N) : (dats m 0 c).after 7 t = res7 m c t := by dsimp only [dats]
theorem after0_8 (c : Dev nD) (t : Fin cfg0.N) : (dats m 0 c).after 8 t = res8 m c t := by dsimp only [dats]
theorem after0_9 (c : Dev nD) (t : Fin cfg0.N) : (dats m 0 c).after 9 t = res9 m c t := by dsimp only [dats]
theorem after0_10 (c : Dev nD) (t : Fin cfg0.N) : (dats m 0 c).after 10 t = res10 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]
theorem leaves0_4 (c : Dev nD) (t : Fin cfg0.N) : (dats m 0 c).leavesExact 4 t = owns (c : Thread nD τ) (ms0_4 t) fullShare (iblk m c 4 t) := by
  unfold Dat.leavesExact; rw [liveAt0_4 t, after0_4]
theorem leaves0_5 (c : Dev nD) (t : Fin cfg0.N) : (dats m 0 c).leavesExact 5 t = owns (c : Thread nD τ) (ms0_5 t) fullShare (iblk m c 5 t) := by
  unfold Dat.leavesExact; rw [liveAt0_5 t, after0_5]
theorem leaves0_6 (c : Dev nD) (t : Fin cfg0.N) (h : ¬t.val % 25 = 0) : (dats m 0 c).leavesExact 6 t = owns (c : Thread nD τ) (ms0_6 t) fullShare (res6 m c t) := by
  unfold Dat.leavesExact; rw [liveAt0_6_B t (fun h' => h ((hcond0_0 t).mp h')), after0_6]
/-- The first point leaves the buffer at anything. -/
theorem leaves0_6_A (c : Dev nD) (t : Fin cfg0.N) (h : t.val % 25 = 0) (hz : t.val = 0) : (dats m 0 c).leavesExact 6 t = iprop(∃ d, owns (c : Thread nD τ) (ms0_6 t) fullShare d) := by
  rw [Dat.leavesExact_idle _ 6 t (idleAt0_6_A t ((hcond0_0 t).mpr h)) (flushAt0_6_A t ((hcond0_0 t).mpr h))]
  have hb : ∀ d, (dats m 0 c).before 6 t d = d := fun d => by
    unfold Dat.before; rw [show (cfg0.win 6).fetch t = false from rfl, if_neg Bool.false_ne_true, if_pos hz]
  simp only [hb]
  rfl
theorem leaves0_7 (c : Dev nD) (t : Fin cfg0.N) (h : ¬t.val % 25 = 0) : (dats m 0 c).leavesExact 7 t = owns (c : Thread nD τ) (ms0_7 t) fullShare (res7 m c t) := by
  unfold Dat.leavesExact; rw [liveAt0_7_B t (fun h' => h ((hcond0_0 t).mp h')), after0_7]
/-- The first point leaves the buffer at anything. -/
theorem leaves0_7_A (c : Dev nD) (t : Fin cfg0.N) (h : t.val % 25 = 0) (hz : t.val = 0) : (dats m 0 c).leavesExact 7 t = iprop(∃ d, owns (c : Thread nD τ) (ms0_7 t) fullShare d) := by
  rw [Dat.leavesExact_idle _ 7 t (idleAt0_7_A t ((hcond0_0 t).mpr h)) (flushAt0_7_A t ((hcond0_0 t).mpr h))]
  have hb : ∀ d, (dats m 0 c).before 7 t d = d := fun d => by
    unfold Dat.before; rw [show (cfg0.win 7).fetch t = false from rfl, if_neg Bool.false_ne_true, if_pos hz]
  simp only [hb]
  rfl
theorem leaves0_8 (c : Dev nD) (t : Fin cfg0.N) (h : ¬t.val % 25 = 0) : (dats m 0 c).leavesExact 8 t = owns (c : Thread nD τ) (ms0_8 t) fullShare (res8 m c t) := by
  unfold Dat.leavesExact; rw [liveAt0_8_B t (fun h' => h ((hcond0_0 t).mp h')), after0_8]
/-- The first point leaves the buffer at anything. -/
theorem leaves0_8_A (c : Dev nD) (t : Fin cfg0.N) (h : t.val % 25 = 0) (hz : t.val = 0) : (dats m 0 c).leavesExact 8 t = iprop(∃ d, owns (c : Thread nD τ) (ms0_8 t) fullShare d) := by
  rw [Dat.leavesExact_idle _ 8 t (idleAt0_8_A t ((hcond0_0 t).mpr h)) (flushAt0_8_A t ((hcond0_0 t).mpr h))]
  have hb : ∀ d, (dats m 0 c).before 8 t d = d := fun d => by
    unfold Dat.before; rw [show (cfg0.win 8).fetch t = false from rfl, if_neg Bool.false_ne_true, if_pos hz]
  simp only [hb]
  rfl
theorem leaves0_9 (c : Dev nD) (t : Fin cfg0.N) (h : ¬t.val % 25 = 0) : (dats m 0 c).leavesExact 9 t = owns (c : Thread nD τ) (ms0_9 t) fullShare (res9 m c t) := by
  unfold Dat.leavesExact; rw [liveAt0_9_B t (fun h' => h ((hcond0_0 t).mp h')), after0_9]
/-- The first point leaves the buffer at anything. -/
theorem leaves0_9_A (c : Dev nD) (t : Fin cfg0.N) (h : t.val % 25 = 0) (hz : t.val = 0) : (dats m 0 c).leavesExact 9 t = iprop(∃ d, owns (c : Thread nD τ) (ms0_9 t) fullShare d) := by
  rw [Dat.leavesExact_idle _ 9 t (idleAt0_9_A t ((hcond0_0 t).mpr h)) (flushAt0_9_A t ((hcond0_0 t).mpr h))]
  have hb : ∀ d, (dats m 0 c).before 9 t d = d := fun d => by
    unfold Dat.before; rw [show (cfg0.win 9).fetch t = false from rfl, if_neg Bool.false_ne_true, if_pos hz]
  simp only [hb]
  rfl
theorem leaves0_10 (c : Dev nD) (t : Fin cfg0.N) (h : ¬t.val % 25 = 0) : (dats m 0 c).leavesExact 10 t = owns (c : Thread nD τ) (ms0_10 t) fullShare (res10 m c t) := by
  unfold Dat.leavesExact; rw [liveAt0_10_B t (fun h' => h ((hcond0_0 t).mp h')), after0_10]
/-- The first point leaves the buffer at anything. -/
theorem leaves0_10_A (c : Dev nD) (t : Fin cfg0.N) (h : t.val % 25 = 0) (hz : t.val = 0) : (dats m 0 c).leavesExact 10 t = iprop(∃ d, owns (c : Thread nD τ) (ms0_10 t) fullShare d) := by
  rw [Dat.leavesExact_idle _ 10 t (idleAt0_10_A t ((hcond0_0 t).mpr h)) (flushAt0_10_A t ((hcond0_0 t).mpr h))]
  have hb : ∀ d, (dats m 0 c).before 10 t d = d := fun d => by
    unfold Dat.before; rw [show (cfg0.win 10).fetch t = false from rfl, if_neg Bool.false_ne_true, if_pos hz]
  simp only [hb]
  rfl

/-! ## The body obligation -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 3200000 in
/-- The body's triple at the first point. -/
theorem sound_A (c : Dev nD) (t : Fin cfg0.N) (h0 : t.val % 25 = 0) (h1 : ¬(1 ≤ t.val % 25 ∧ t.val % 25 ≤ 23)) (h2 : ¬t.val % 25 = 24) :
    bodyPre m c t ⊢ wp frame (wpE (defs₀ (F := Ideal)) Variants.none c none) Set.univ (bodyAt0 t) (fun _ => bodyPost m c t) := by
  have hN : t.val < 25 := lt_of_lt_of_eq t.isLt (show cfg0.N = 25 from N_0)
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5]
  rw [leaves0_6_A m c t h0 (by omega), leaves0_7_A m c t h0 (by omega), leaves0_8_A m c t h0 (by omega), leaves0_9_A m c t h0 (by omega), leaves0_10_A m c t h0 (by omega)]
  rw [show lastPt t.val t.isLt = t from lastPt_eq t (by omega), Nat.min_eq_left (show t.val ≤ 23 by omega)]
  rw [PhiS_castSucc m c t, PhiS_zero m c _ _ (by omega), PhiA0_eq]
  rw [← slotF_eq t]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun0_A (F := Ideal) c (grid0.coords t) _ _ _ _ _ _ _ _ _ _ _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [HS0]; · iexact HS0
  isplitl [HS1]; · iexact HS1
  iintro ⟨H0, H1, H2, H3, H4, H5, H6, H7, H8, H9, H10, ⟨%es0, HS0⟩, ⟨%es1, HS1⟩⟩
  isplitl [HS0 HS1 Hg]
  · isplitl [HS0 HS1]
    · isplitl [HS0]
      · iexists _; isplitr; swap
        · unfold owns; iexists _; isplitr; swap; · iexact HS0
          ipureintro; rfl
        ipureintro; exact slotA0 c _ _ _ _ _ _ _ _ _ _ _ _ _ _ _ _ _ _ _ _ _ _ _ _ _ _ _ _ _ _ _ _ _ _ _ _ _ _
      iexists _; isplitr; swap
      · unfold owns; iexists _; isplitr; swap; · iexact HS1
        ipureintro; rfl
      ipureintro; exact slotA1 c _ _ _ _ _ _ _ _ _ _ _ _ _ _ _ _ _ _ _ _ _ _ _ _ _ _ _ _ _ _ _ _ _ _ _ _ _ _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

set_option maxHeartbeats 3200000 in
/-- The body's triple at a point that fills a slot and computes from the other. -/
theorem sound_B (c : Dev nD) (t : Fin cfg0.N) (h0 : ¬t.val % 25 = 0) (h1 : 1 ≤ t.val % 25 ∧ t.val % 25 ≤ 23) (h2 : ¬t.val % 25 = 24) :
    bodyPre m c t ⊢ wp frame (wpE (defs₀ (F := Ideal)) Variants.none c none) Set.univ (bodyAt0 t) (fun _ => bodyPost m c t) := by
  have hN : t.val < 25 := lt_of_lt_of_eq t.isLt (show cfg0.N = 25 from N_0)
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5]
  rw [leaves0_6 m c t h0, leaves0_7 m c t h0, leaves0_8 m c t h0, leaves0_9 m c t h0, leaves0_10 m c t h0]
  rw [show lastPt t.val t.isLt = t from lastPt_eq t (by omega), Nat.min_eq_left (show t.val ≤ 23 by omega)]
  rw [PhiS_castSucc m c t, PhiS_pos m c _ _ (by omega), last_prev, Nat.min_eq_left (show t.val - 1 ≤ 23 by omega), ← slotR_eq t (by omega)]
  rw [← slotF_eq t]
  iintro ⟨⟨⟨⟨%ds0, %hC, HS0⟩, ⟨%ds1, %hS, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun0_B (F := Ideal) c (grid0.coords t) _ _ _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) ds0 ds1).2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [HS0]; · iexact HS0
  isplitl [HS1]; · iexact HS1
  iintro ⟨H0, H1, H2, H3, H4, H5, ⟨%e6, H6⟩, ⟨%e7, H7⟩, ⟨%e8, H8⟩, ⟨%e9, H9⟩, ⟨%e10, H10⟩, ⟨%es0, HS0⟩, ⟨%es1, HS1⟩⟩
  isplitl [HS0 HS1 Hg]
  · isplitl [HS0 HS1]
    · isplitl [HS0]
      · iexists _; isplitr; swap
        · unfold owns; iexists _; isplitr; swap; · iexact HS0
          ipureintro; rfl
        ipureintro; exact slotB0 c _ _ _ _ _ _ _ _ _ _ _ _ _ _ _ _ _ _ _ _ _ _ _ _ _ _ _ _ _ _ _ _ _ _ _ _ _ _ _ _
      iexists _; isplitr; swap
      · unfold owns; iexists _; isplitr; swap; · iexact HS1
        ipureintro; rfl
      ipureintro; exact slotB1 c _ _ _ _ _ _ _ _ _ _ _ _ _ _ _ _ _ _ _ _ _ _ _ _ _ _ _ _ _ _ _ _ _ _ _ _ _ _ _ _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact outB6 c _ _ _ _ _ _ _ _ _ _ _ _ _ _ _ _ _ _ _ _ _ _ _ _ _ _ _ _ _ _ _ _ _ _ _ _ _ _ _ _ hC hS _ _
  isplitl [H7]
  · unfold owns; iexists _; isplitr
    swap; · iexact H7
    ipureintro; exact outB7 c _ _ _ _ _ _ _ _ _ _ _ _ _ _ _ _ _ _ _ _ _ _ _ _ _ _ _ _ _ _ _ _ _ _ _ _ _ _ _ _ hC hS _ _
  isplitl [H8]
  · unfold owns; iexists _; isplitr
    swap; · iexact H8
    ipureintro; exact outB8 c _ _ _ _ _ _ _ _ _ _ _ _ _ _ _ _ _ _ _ _ _ _ _ _ _ _ _ _ _ _ _ _ _ _ _ _ _ _ _ _ hC hS _ _
  isplitl [H9]
  · unfold owns; iexists _; isplitr
    swap; · iexact H9
    ipureintro; exact outB9 c _ _ _ _ _ _ _ _ _ _ _ _ _ _ _ _ _ _ _ _ _ _ _ _ _ _ _ _ _ _ _ _ _ _ _ _ _ _ _ _ hC hS _ _
  unfold owns; iexists _; isplitr
  swap; · iexact H10
  ipureintro; exact outB10 c _ _ _ _ _ _ _ _ _ _ _ _ _ _ _ _ _ _ _ _ _ _ _ _ _ _ _ _ _ _ _ _ _ _ _ _ _ _ _ _ hC hS _ _

set_option maxHeartbeats 3200000 in
/-- The body's triple at the last point. -/
theorem sound_C (c : Dev nD) (t : Fin cfg0.N) (h0 : ¬t.val % 25 = 0) (h1 : ¬(1 ≤ t.val % 25 ∧ t.val % 25 ≤ 23)) (h2 : t.val % 25 = 24) :
    bodyPre m c t ⊢ wp frame (wpE (defs₀ (F := Ideal)) Variants.none c none) Set.univ (bodyAt0 t) (fun _ => bodyPost m c t) := by
  have hN : t.val < 25 := lt_of_lt_of_eq t.isLt (show cfg0.N = 25 from N_0)
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5]
  rw [leaves0_6 m c t h0, leaves0_7 m c t h0, leaves0_8 m c t h0, leaves0_9 m c t h0, leaves0_10 m c t h0]
  rw [PhiS_castSucc m c t, PhiS_pos m c _ _ (by omega), last_prev, Nat.min_eq_left (show t.val - 1 ≤ 23 by omega), ← slotR_eq t (by omega)]
  rw [show lastPt t.val t.isLt = prevPt t from Fin.ext (by show min t.val 23 = t.val - 1; omega), show min t.val 23 = t.val - 1 by omega, ← slotR_eq t (by omega)]
  iintro ⟨⟨⟨⟨%ds0, %hC, HS0⟩, ⟨%ds1, %hS, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun0_C (F := Ideal) c (grid0.coords t) _ _ _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) ds0 ds1).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [HS0]; · iexact HS0
  isplitl [HS1]; · iexact HS1
  iintro ⟨H0, H1, H2, H3, H4, H5, ⟨%e6, H6⟩, ⟨%e7, H7⟩, ⟨%e8, H8⟩, ⟨%e9, H9⟩, ⟨%e10, H10⟩, HS0, HS1⟩
  isplitl [HS0 HS1 Hg]
  · isplitl [HS0 HS1]
    · isplitl [HS0]
      · iexists ds0; isplitr
        · ipureintro; exact hC
        iexact HS0
      iexists ds1; isplitr
      · ipureintro; exact hS
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact outC6 c _ _ _ _ _ _ _ _ _ _ _ _ _ _ _ _ _ _ _ _ _ _ _ _ _ _ _ _ _ _ _ _ _ _ _ _ _ _ _ _ hC hS _ _
  isplitl [H7]
  · unfold owns; iexists _; isplitr
    swap; · iexact H7
    ipureintro; exact outC7 c _ _ _ _ _ _ _ _ _ _ _ _ _ _ _ _ _ _ _ _ _ _ _ _ _ _ _ _ _ _ _ _ _ _ _ _ _ _ _ _ hC hS _ _
  isplitl [H8]
  · unfold owns; iexists _; isplitr
    swap; · iexact H8
    ipureintro; exact outC8 c _ _ _ _ _ _ _ _ _ _ _ _ _ _ _ _ _ _ _ _ _ _ _ _ _ _ _ _ _ _ _ _ _ _ _ _ _ _ _ _ hC hS _ _
  isplitl [H9]
  · unfold owns; iexists _; isplitr
    swap; · iexact H9
    ipureintro; exact outC9 c _ _ _ _ _ _ _ _ _ _ _ _ _ _ _ _ _ _ _ _ _ _ _ _ _ _ _ _ _ _ _ _ _ _ _ _ _ _ _ _ hC hS _ _
  unfold owns; iexists _; isplitr
  swap; · iexact H10
  ipureintro; exact outC10 c _ _ _ _ _ _ _ _ _ _ _ _ _ _ _ _ _ _ _ _ _ _ _ _ _ _ _ _ _ _ _ _ _ _ _ _ _ _ _ _ hC hS _ _

/-- The body's triple at any point. -/
theorem sound_body (c : Dev nD) (t : Fin cfg0.N) :
    bodyPre m c t ⊢ wp frame (wpE (defs₀ (F := Ideal)) Variants.none c none) Set.univ (bodyAt0 t) (fun _ => bodyPost m c t) := by
  have hN : t.val < 25 := lt_of_lt_of_eq t.isLt (show cfg0.N = 25 from N_0)
  by_cases h0 : t.val % 25 = 0
  · exact sound_A m c t h0 (by omega) (by omega)
  · by_cases h2 : t.val % 25 = 24
    · exact sound_C m c t h0 (by omega) h2
    · exact sound_B m c t h0 (by omega) h2

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨⟨%ds0, %hC, HS0⟩, ⟨%ds1, %hS, HS1⟩⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 25 := N_0; omega)

/-! ## The run and the frame -/

-- `θ_run_frame_track`'s implicit arguments are found by unifying its conclusion with this one, which takes unfolding plain
-- definitions in a metavariable's type
set_option backward.isDefEq.respectTransparency.types false in
/-- The launch: `run_main`'s statement, and every semaphore counter of the machine at zero at every final state. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it. -/
theorem run_main : θ_run defs (onTc (τ := τ) (main (F := Ideal))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The program runs to its end from any memory, leaves its arguments unchanged and every semaphore counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.QkvIdeal.Proj

end
-- ==== Proof.Qkv.Closed.lean ====
/- The projection of the whole array of rows in closed form, and a block of rows' closed form as a part of it. -/
module

public import proofs.«01_k».proof.Proof.Qkv.Tiles

@[expose] public section

set_option maxRecDepth 16384

noncomputable section

namespace Cert.QkvIdeal.Proj

open Cert.QkvIdeal Cert.QkvIdeal.Gen
open Idealize.ShloMosaic Idealize.ShloMosaic.TcCoe Idealize.ShloMosaic.Tactic

section
variable (a0 : Vec Ideal S6144x12288 .i8) (a1 : Vec Ideal S6144x1 .f32) (a2 : Vec Ideal S12288x1792 .i8) (a3 : Vec Ideal S1x1792 .f32)
  (a4 a5 : Vec Ideal S6144x64 .f32)

/-- The projection of row `R` onto column `o`: the codes' product with the weights, times the row's scale, times the column's. -/
def colF (R : Fin 6144) (o : Fin 1792) : Ideal .f32 :=
  (∑ k : Fin 12288, (FloatOps.sitofp .bf16 (a0 (ix2 R k)) : Ideal .bf16) * (FloatOps.sitofp .bf16 (a2 (ix2 k o)) : Ideal .bf16))
    * a1 (ix2 R 0) * a3 (ix2 0 o)

/-- The head at column `o`. -/
def projF (o : ℕ) (ho : o + 128 ≤ 1792) (R : Fin 6144) (l : Fin 128) : Ideal .f32 := colF a0 a1 a2 a3 R ⟨o + l.val, by omega⟩

/-- A head rotated: the first half `x1 cos - x2 sin`, the second `x2 cos + x1 sin`. -/
def ropeF (o : ℕ) (ho : o + 128 ≤ 1792) (R : Fin 6144) (l : Fin 128) : Ideal .f32 :=
  if h : l.val < 64 then
    colF a0 a1 a2 a3 R ⟨o + l.val, by omega⟩ * a4 (ix2 R ⟨l.val, h⟩) - colF a0 a1 a2 a3 R ⟨o + (64 + l.val), by omega⟩ * a5 (ix2 R ⟨l.val, h⟩)
  else
    colF a0 a1 a2 a3 R ⟨o + (64 + (l.val - 64)), by omega⟩ * a4 (ix2 R ⟨l.val - 64, by omega⟩) + colF a0 a1 a2 a3 R ⟨o + (l.val - 64), by omega⟩ * a5 (ix2 R ⟨l.val - 64, by omega⟩)

/-- The queries; -/
def qF : Vec Ideal S6144x1536 .bf16 := fun y =>
  ropeF a0 a1 a2 a3 a4 a5 ((y 1).val / 128 * 128) (by have : (y 1).val < 1536 := (y 1).isLt; omega) (y 0) ⟨(y 1).val % 128, Nat.mod_lt _ (by decide)⟩

/-- the keys' codes and scales; -/
def kcF : Vec Ideal S6144x128 .i8 := fun y => codeOf (ropeF a0 a1 a2 a3 a4 a5 1536 (by decide) (y 0)) (y 1)
def ksF : Vec Ideal S24x2x128 .f32 := fun y =>
  scaleOf (ropeF a0 a1 a2 a3 a4 a5 1536 (by decide) ⟨256 * (y 0).val + 128 * (y 1).val + (y 2).val, by have h0 : (y 0).val < 24 := (y 0).isLt; have h1 : (y 1).val < 2 := (y 1).isLt; have h2 : (y 2).val < 128 := (y 2).isLt; omega⟩)

/-- the values' codes and scales. -/
def vcF : Vec Ideal S6144x128 .i8 := fun y => codeOf (projF a0 a1 a2 a3 1664 (by decide) (y 0)) (y 1)
def vsF : Vec Ideal S24x2x128 .f32 := fun y =>
  scaleOf (projF a0 a1 a2 a3 1664 (by decide) ⟨256 * (y 0).val + 128 * (y 1).val + (y 2).val, by have h0 : (y 0).val < 24 := (y 0).isLt; have h1 : (y 1).val < 2 := (y 1).isLt; have h2 : (y 2).val < 128 := (y 2).isLt; omega⟩)

variable (X0 : Vec Ideal S256x12288 .i8) (X1 : Vec Ideal S256x128 .f32) (x2 : Vec Ideal S12288x1792 .i8) (x3 : Vec Ideal S1x1792 .f32)
  (x4 x5 : Vec Ideal S256x64 .f32) (r : Fin 256) (R : Fin 6144)
  (h0 : ∀ k, X0 (ix2 r k) = a0 (ix2 R k)) (h1 : ∀ l, X1 (ix2 r l) = a1 (ix2 R 0))
  (h2 : ∀ k o, x2 (ix2 k o) = a2 (ix2 k o)) (h3 : ∀ o, x3 (ix2 0 o) = a3 (ix2 0 o))
  (h4 : ∀ l, x4 (ix2 r l) = a4 (ix2 R l)) (h5 : ∀ l, x5 (ix2 r l) = a5 (ix2 R l))

include h0 h1 h2 h3 in
/-- A block's head is the array's, at the row the block's row is. -/
theorem projh_eq (o : ℕ) (ho : o + 128 ≤ 1792) : projh X0 X1 x2 x3 o ho r = projF a0 a1 a2 a3 o ho R := by
  funext l
  unfold projh projF colF accv
  simp only [h0, h1, h2, h3]

include h0 h1 h2 h3 h4 h5 in
/-- The same of a rotated head: adding the product with the negated sine is subtracting the product. -/
theorem ropeh_eq (o : ℕ) (ho : o + 128 ≤ 1792) : ropeh X0 X1 x2 x3 x4 x5 o ho r = ropeF a0 a1 a2 a3 a4 a5 o ho R := by
  funext l
  unfold ropeh ropeF cosv sinv
  rw [projh_eq a0 a1 a2 a3 X0 X1 x2 x3 r R h0 h1 h2 h3]
  unfold projF
  by_cases h : l.val < 64
  · rw [dif_pos h, dif_pos h, dif_pos h, h4, h5]
    have e : (⟨o + (other l).val, by have := (other l).isLt; omega⟩ : Fin 1792) = ⟨o + (64 + l.val), by omega⟩ :=
      Fin.ext (by show o + (l.val + 128 - 64) % 128 = o + (64 + l.val); omega)
    rw [e]
    show _ + (_ : EReal) * ((0 : EReal) - _) = _
    rw [zero_sub, mul_neg, ← sub_eq_add_neg]
  · rw [dif_neg h, dif_neg h, dif_neg h, h4, h5]
    have e : (⟨o + (other l).val, by have := (other l).isLt; omega⟩ : Fin 1792) = ⟨o + (l.val - 64), by omega⟩ :=
      Fin.ext (by show o + (l.val + 128 - 64) % 128 = o + (l.val - 64); have := l.isLt; omega)
    have e' : (⟨o + l.val, by omega⟩ : Fin 1792) = ⟨o + (64 + (l.val - 64)), by omega⟩ := Fin.ext (by show o + l.val = o + (64 + (l.val - 64)); omega)
    rw [e, e']

end

end Cert.QkvIdeal.Proj

end
-- ==== Proof.Qkv.Value.lean ====
/- The projection's value: the five result arrays after the run, in closed form of the arrays as launched. -/
module

public import proofs.«01_k».proof.Proof.Qkv.Frame
public import proofs.«01_k».proof.Proof.Qkv.Closed
public import Idealize.ShloMosaic.Lib.Claim
public import Idealize.ShloMosaic.Lib.Pointwise
public import Idealize.ShloMosaic.Lib.Pipeline.ValueKit

@[expose] public section

set_option maxRecDepth 16384

noncomputable section

namespace Cert.QkvIdeal.Proj

open Cert.QkvIdeal Cert.QkvIdeal.Gen
open Idealize.ShloMosaic Idealize.ShloMosaic.TcCoe Idealize.ShloMosaic.Tactic Idealize.SL.Sem

variable (m : (ℓ : Loc nD τ sig) → Buf (Elt Ideal) ℓ) (ρ : Dev nD → PrngReg)

/-- Where the windows' blocks lie: point `t` fills from block `t` and computes block `t - 1`. -/
theorem idx_fill : ∀ t : Fin cfg0.N, t.val ≤ 23 → win0_0.index t = ![t.val, 0] ∧ win0_1.index t = ![t.val, 0] :=
  (by decide +kernel : ∀ t : Fin grid0.N, t.val ≤ 23 → win0_0.index t = ![t.val, 0] ∧ win0_1.index t = ![t.val, 0])
theorem idx_in : ∀ t : Fin cfg0.N, 1 ≤ t.val → win0_2.index t = ![0, 0] ∧ win0_3.index t = ![0, 0]
    ∧ win0_4.index t = ![t.val - 1, 0] ∧ win0_5.index t = ![t.val - 1, 0] :=
  (by decide +kernel : ∀ t : Fin grid0.N, 1 ≤ t.val → win0_2.index t = ![0, 0] ∧ win0_3.index t = ![0, 0]
    ∧ win0_4.index t = ![t.val - 1, 0] ∧ win0_5.index t = ![t.val - 1, 0])
theorem idx_out : ∀ t : Fin cfg0.N, 1 ≤ t.val → win0_6.index t = ![t.val - 1, 0] ∧ win0_7.index t = ![t.val - 1, 0]
    ∧ win0_8.index t = ![t.val - 1, 0, 0] ∧ win0_9.index t = ![t.val - 1, 0] ∧ win0_10.index t = ![t.val - 1, 0, 0] :=
  (by decide +kernel : ∀ t : Fin grid0.N, 1 ≤ t.val → win0_6.index t = ![t.val - 1, 0] ∧ win0_7.index t = ![t.val - 1, 0]
    ∧ win0_8.index t = ![t.val - 1, 0, 0] ∧ win0_9.index t = ![t.val - 1, 0] ∧ win0_10.index t = ![t.val - 1, 0, 0])

/-- The row scales as the region finds them: the argument's one column, repeated. -/
theorem V_rep (c : Dev nD) (y : S6144x128.Idx) : V m c main_v0 y = m ((c : Thread nD τ).loc main_arg1) (ix2 (y 0) 0) := by
  obtain ⟨r, l, rfl⟩ : ∃ (r : Fin 6144) (l : Fin 128), y = ix2 r l := ⟨y 0, y 1, eq_ix2 y⟩
  entry_read
  pointwise

section
variable (c : Dev nD) (t : Fin cfg0.N) (ht : 1 ≤ t.val) (r : Fin 256) (R : Fin 6144) (hR : R.val = (t.val - 1) * 256 + r.val)

theorem prev_le : (prevPt t).val ≤ 23 := by
  have hN : t.val < 25 := lt_of_lt_of_eq t.isLt (show cfg0.N = 25 from N_0)
  show t.val - 1 ≤ 23; omega

include ht hR

/-- A computing point's heads are the array's. -/
theorem proj_blk (o : ℕ) (ho : o + 128 ≤ 1792) :
    projh (iblk m c 0 (prevPt t)) (iblk m c 1 (prevPt t)) (iblk m c 2 t) (iblk m c 3 t) o ho r = projF (m ((c : Thread nD τ).loc main_arg0)) (m ((c : Thread nD τ).loc main_arg1)) (m ((c : Thread nD τ).loc main_arg2)) (m ((c : Thread nD τ).loc main_arg3)) o ho R := by
  obtain ⟨e0, e1⟩ := idx_fill (prevPt t) (prev_le t)
  obtain ⟨e2, e3, e4, e5⟩ := idx_in t ht
  have ep : (prevPt t).val = t.val - 1 := rfl
  rw [ep] at e0 e1
  refine projh_eq _ _ _ _ _ _ _ _ r R (fun k => ?_) (fun l => ?_) (fun k o => ?_) (fun o => ?_) o ho
  · rw [← V_main_arg0 m c]; blk_ext [iblk, e0]
  · have e : iblk m c 1 (prevPt t) (ix2 r l) = V m c main_v0 (ix2 R l) := by blk_ext [iblk, e1]
    rw [e, V_rep]; rfl
  · rw [← V_main_arg2 m c]; blk_ext [iblk, e2]
  · rw [← V_main_arg3 m c]; blk_ext [iblk, e3]

theorem rope_blk (o : ℕ) (ho : o + 128 ≤ 1792) :
    ropeh (iblk m c 0 (prevPt t)) (iblk m c 1 (prevPt t)) (iblk m c 2 t) (iblk m c 3 t) (iblk m c 4 t) (iblk m c 5 t) o ho r = ropeF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) o ho R := by
  obtain ⟨e0, e1⟩ := idx_fill (prevPt t) (prev_le t)
  obtain ⟨e2, e3, e4, e5⟩ := idx_in t ht
  have ep : (prevPt t).val = t.val - 1 := rfl
  rw [ep] at e0 e1
  refine ropeh_eq _ _ _ _ _ _ _ _ _ _ _ _ r R (fun k => ?_) (fun l => ?_) (fun k o => ?_) (fun o => ?_) (fun l => ?_) (fun l => ?_) o ho
  · rw [← V_main_arg0 m c]; blk_ext [iblk, e0]
  · have e : iblk m c 1 (prevPt t) (ix2 r l) = V m c main_v0 (ix2 R l) := by blk_ext [iblk, e1]
    rw [e, V_rep]; rfl
  · rw [← V_main_arg2 m c]; blk_ext [iblk, e2]
  · rw [← V_main_arg3 m c]; blk_ext [iblk, e3]
  · rw [← V_main_arg4 m c]; blk_ext [iblk, e4]
  · rw [← V_main_arg5 m c]; blk_ext [iblk, e5]

end

/-- A computing point's block of result 1 is that block of `qF`. -/
theorem res6_eq (c : Dev nD) (t : Fin cfg0.N) (ht : 1 ≤ t.val) (r : Fin 256) (l : Fin 1536) (i : S6144x1536.Idx)
    (h0 : (i 0).val = (t.val - 1) * 256 + r.val) (h1 : (i 1).val = l.val) : res6 m c t (ix2 r l) = qF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i := by
  obtain ⟨R, C, rfl⟩ : ∃ (R : Fin 6144) (C : Fin 1536), i = ix2 R C := ⟨i 0, i 1, eq_ix2 i⟩
  obtain rfl : C = l := Fin.ext h1
  unfold res6 qv qF
  exact congrFun (rope_blk m c t ht r R h0 _ _) _

/-- A computing point's block of result 2 is that block of `kcF`. -/
theorem res7_eq (c : Dev nD) (t : Fin cfg0.N) (ht : 1 ≤ t.val) (r : Fin 256) (l : Fin 128) (i : S6144x128.Idx)
    (h0 : (i 0).val = (t.val - 1) * 256 + r.val) (h1 : (i 1).val = l.val) : res7 m c t (ix2 r l) = kcF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i := by
  obtain ⟨R, C, rfl⟩ : ∃ (R : Fin 6144) (C : Fin 128), i = ix2 R C := ⟨i 0, i 1, eq_ix2 i⟩
  obtain rfl : C = l := Fin.ext h1
  unfold res7 kcv kcF
  exact congrArg (fun v => codeOf v C) (rope_blk m c t ht r R h0 _ _)

/-- A computing point's block of result 3 is that block of `ksF`. -/
theorem res8_eq (c : Dev nD) (t : Fin cfg0.N) (ht : 1 ≤ t.val) (b : Fin 2) (l : Fin 128) (i : S24x2x128.Idx)
    (h0 : (i 0).val = t.val - 1) (h1 : (i 1).val = b.val) (h2 : (i 2).val = l.val) : res8 m c t (ix3 0 b l) = ksF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i := by
  unfold res8 ksv ksF
  refine congrArg scaleOf (rope_blk m c t ht _ _ ?_ _ _)
  show 256 * (i 0).val + 128 * (i 1).val + (i 2).val = (t.val - 1) * 256 + (128 * b.val + l.val)
  rw [h0, h1, h2]; omega

/-- A computing point's block of result 4 is that block of `vcF`. -/
theorem res9_eq (c : Dev nD) (t : Fin cfg0.N) (ht : 1 ≤ t.val) (r : Fin 256) (l : Fin 128) (i : S6144x128.Idx)
    (h0 : (i 0).val = (t.val - 1) * 256 + r.val) (h1 : (i 1).val = l.val) : res9 m c t (ix2 r l) = vcF (m ((c : Thread nD τ).loc main_arg0)) (m ((c : Thread nD τ).loc main_arg1)) (m ((c : Thread nD τ).loc main_arg2)) (m ((c : Thread nD τ).loc main_arg3)) i := by
  obtain ⟨R, C, rfl⟩ : ∃ (R : Fin 6144) (C : Fin 128), i = ix2 R C := ⟨i 0, i 1, eq_ix2 i⟩
  obtain rfl : C = l := Fin.ext h1
  unfold res9 vcv vcF
  exact congrArg (fun v => codeOf v C) (proj_blk m c t ht r R h0 _ _)

/-- A computing point's block of result 5 is that block of `vsF`. -/
theorem res10_eq (c : Dev nD) (t : Fin cfg0.N) (ht : 1 ≤ t.val) (b : Fin 2) (l : Fin 128) (i : S24x2x128.Idx)
    (h0 : (i 0).val = t.val - 1) (h1 : (i 1).val = b.val) (h2 : (i 2).val = l.val) : res10 m c t (ix3 0 b l) = vsF (m ((c : Thread nD τ).loc main_arg0)) (m ((c : Thread nD τ).loc main_arg1)) (m ((c : Thread nD τ).loc main_arg2)) (m ((c : Thread nD τ).loc main_arg3)) i := by
  unfold res10 vsv vsF
  refine congrArg scaleOf (proj_blk m c t ht _ _ ?_ _ _)
  show 256 * (i 0).val + 128 * (i 1).val + (i 2).val = (t.val - 1) * 256 + (128 * b.val + l.val)
  rw [h0, h1, h2]; omega

/-- Only points after the first write back. -/
theorem pos_of_flush (t : Fin cfg0.N) (w : Fin cfg0.W) (hw : ∀ t : Fin cfg0.N, cond0_0 (grid0.coords t) → (cfg0.win w).flush t = false)
    (hf : (cfg0.win w).flush t = true) : 1 ≤ t.val := by
  have hN : t.val < 25 := lt_of_lt_of_eq t.isLt (show cfg0.N = 25 from N_0)
  by_contra h
  rw [hw t ((hcond0_0 t).mpr (by omega))] at hf
  exact Bool.false_ne_true hf

/-- Result 1 after the run. -/
theorem final6 (c : Dev nD) : (dats m 0 c).arrAt 6 cfg0.N
    = qF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  have ht := pos_of_flush t 6 flushAt0_6_A hf
  blk_simp
  rw [after0_6]
  have e := (idx_out t ht).1
  revert y
  show ∀ y : S256x1536.Idx, _
  intro y
  obtain ⟨r, l, rfl⟩ : ∃ (r : Fin 256) (l : Fin 1536), y = ix2 r l := ⟨y 0, y 1, eq_ix2 y⟩
  refine res6_eq m c t ht r l _ ?_ ?_
  · blk_simp [e]
  · blk_simp [e]

/-- Result 2 after the run. -/
theorem final7 (c : Dev nD) : (dats m 0 c).arrAt 7 cfg0.N
    = kcF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  have ht := pos_of_flush t 7 flushAt0_7_A hf
  blk_simp
  rw [after0_7]
  have e := (idx_out t ht).2.1
  revert y
  show ∀ y : S256x128.Idx, _
  intro y
  obtain ⟨r, l, rfl⟩ : ∃ (r : Fin 256) (l : Fin 128), y = ix2 r l := ⟨y 0, y 1, eq_ix2 y⟩
  refine res7_eq m c t ht r l _ ?_ ?_
  · blk_simp [e]
  · blk_simp [e]

/-- Result 3 after the run. -/
theorem final8 (c : Dev nD) : (dats m 0 c).arrAt 8 cfg0.N
    = ksF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t hf y => ?_
  have ht := pos_of_flush t 8 flushAt0_8_A hf
  blk_simp
  rw [after0_8]
  have e := (idx_out t ht).2.2.1
  revert y
  show ∀ y : S1x2x128.Idx, _
  intro y
  obtain ⟨b, l, rfl⟩ : ∃ (b : Fin 2) (l : Fin 128), y = ix3 0 b l := ⟨y 1, y 2, (eq_ix3 y).trans (congrArg (fun z => ix3 z (y 1) (y 2)) (Subsingleton.elim (α := Fin 1) _ _))⟩
  refine res8_eq m c t ht b l _ ?_ ?_ ?_
  · blk_simp [e]; simp
  · blk_simp [e]
  · blk_simp [e]

/-- Result 4 after the run. -/
theorem final9 (c : Dev nD) : (dats m 0 c).arrAt 9 cfg0.N
    = vcF (m ((c : Thread nD τ).loc main_arg0)) (m ((c : Thread nD τ).loc main_arg1)) (m ((c : Thread nD τ).loc main_arg2)) (m ((c : Thread nD τ).loc main_arg3)) := by
  refine (dats m 0 c).arrAt_eq_of_covers 9 _ (by decide +kernel) fun t hf y => ?_
  have ht := pos_of_flush t 9 flushAt0_9_A hf
  blk_simp
  rw [after0_9]
  have e := (idx_out t ht).2.2.2.1
  revert y
  show ∀ y : S256x128.Idx, _
  intro y
  obtain ⟨r, l, rfl⟩ : ∃ (r : Fin 256) (l : Fin 128), y = ix2 r l := ⟨y 0, y 1, eq_ix2 y⟩
  refine res9_eq m c t ht r l _ ?_ ?_
  · blk_simp [e]
  · blk_simp [e]

/-- Result 5 after the run. -/
theorem final10 (c : Dev nD) : (dats m 0 c).arrAt 10 cfg0.N
    = vsF (m ((c : Thread nD τ).loc main_arg0)) (m ((c : Thread nD τ).loc main_arg1)) (m ((c : Thread nD τ).loc main_arg2)) (m ((c : Thread nD τ).loc main_arg3)) := by
  refine (dats m 0 c).arrAt_eq_of_covers 10 _ (by decide +kernel) fun t hf y => ?_
  have ht := pos_of_flush t 10 flushAt0_10_A hf
  blk_simp
  rw [after0_10]
  have e := (idx_out t ht).2.2.2.2
  revert y
  show ∀ y : S1x2x128.Idx, _
  intro y
  obtain ⟨b, l, rfl⟩ : ∃ (b : Fin 2) (l : Fin 128), y = ix3 0 b l := ⟨y 1, y 2, (eq_ix3 y).trans (congrArg (fun z => ix3 z (y 1) (y 2)) (Subsingleton.elim (α := Fin 1) _ _))⟩
  refine res10_eq m c t ht b l _ ?_ ?_ ?_
  · blk_simp [e]; simp
  · blk_simp [e]
  · blk_simp [e]

/-- The program ends with its results at the closed forms of its arguments, and its arguments unchanged. -/
theorem run : θ_run defs (onTc (τ := τ) (main (F := Ideal))) ⟨m, fun _ => 0, ρ⟩ (fun r => ∀ c : Dev nD,
      r.2.mem ((c.tc : Thread nD τ).loc main_v1_0) = qF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_v1_1) = kcF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_v1_2) = ksF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_v1_3) = vcF (m ((c : Thread nD τ).loc main_arg0)) (m ((c : Thread nD τ).loc main_arg1)) (m ((c : Thread nD τ).loc main_arg2)) (m ((c : Thread nD τ).loc main_arg3))
      ∧ r.2.mem ((c.tc : Thread nD τ).loc main_v1_4) = vsF (m ((c : Thread nD τ).loc main_arg0)) (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h.1 c).1 6).trans (final6 m c), ((h.1 c).1 7).trans (final7 m c), ((h.1 c).1 8).trans (final8 m c),
      ((h.1 c).1 9).trans (final9 m c), ((h.1 c).1 10).trans (final10 m c), h.2 c⟩)
    (θ_run_and (run_main m ρ) (unchanged m ρ))

end Cert.QkvIdeal.Proj

end
-- ==== Proof.Qkv.Ref.lean ====
/- What the plain program computes, in the same closed forms. -/
module

public import proofs.«01_k».proof.Proof.Qkv.Closed
public import proofs.«01_k».proof.Proof.Gen.QkvReferenceIdeal.Value
public import Idealize.ShloMosaic.Lib.Pointwise
public import Idealize.ShloMosaic.Lib.Pipeline.ValueKit

@[expose] public section

set_option maxRecDepth 16384

noncomputable section

namespace Cert.QkvReferenceIdeal.Proj

open Cert.QkvReferenceIdeal Cert.QkvReferenceIdeal.Gen
open Cert.QkvIdeal.Proj (colF projF ropeF qF kcF ksF vcF vsF scaleOf codeOf)
open Idealize.ShloMosaic Idealize.ShloMosaic.TcCoe Idealize.ShloMosaic.Tactic

/-- Whole numbers' words. -/
theorem ofBits_127 : Ideal.ofBits .f32 0x42FE0000#32 = ((127 : ℝ) : EReal) := by
  simp [Ideal.ofBits, Ideal.ieee, -EReal.coe_mul]; norm_num
theorem ofBits_m127 : Ideal.ofBits .f32 0xC2FE0000#32 = ((-127 : ℝ) : EReal) := by
  simp [Ideal.ofBits, Ideal.ieee, -EReal.coe_mul]; norm_num
theorem sitofp_127 : (Scalar.sitofp .f32 127#32 : Ideal .f32) = Ideal.ofBits .f32 0x42FE0000#32 := by
  rw [ofBits_127]; show (((127#32 : BitVec 32).toInt : ℝ) : EReal) = _; rw [show (127#32 : BitVec 32).toInt = 127 from by decide]; norm_num
theorem sitofp_m127 : (Scalar.sitofp .f32 4294967169#32 : Ideal .f32) = Ideal.ofBits .f32 0xC2FE0000#32 := by
  rw [ofBits_m127]; show (((4294967169#32 : BitVec 32).toInt : ℝ) : EReal) = _; rw [show (4294967169#32 : BitVec 32).toInt = -127 from by decide]; norm_num

/-- A scale is never 0. -/
theorem scaleOf_ne (v : Fin 128 → Ideal .f32) : scaleOf v ≠ 0 := by
  unfold scaleOf
  split
  · exact one_ne_zero
  · rename_i h
    rw [ofBits_127, Ideal.div, if_neg (by exact_mod_cast (by norm_num : (127 : ℝ) ≠ 0)), ← EReal.coe_inv]
    exact mul_ne_zero h (by exact_mod_cast (by norm_num : (127 : ℝ)⁻¹ ≠ 0))

/-- Dividing by what is not 0 is multiplying by its inverse. -/
theorem div_scale (x y : EReal) (h : y ≠ 0) : Ideal.div x y = x * Ideal.div 1 y := by
  rw [Ideal.div, Ideal.div, if_neg h, if_neg h, one_mul]

section
variable (a0 : Vec Ideal S6144x12288 .i8) (a1 : Vec Ideal S6144x1 .f32) (a2 : Vec Ideal S12288x1792 .i8) (a3 : Vec Ideal S1x1792 .f32)
  (a4 a5 : Vec Ideal S6144x64 .f32)

/-- The projection. -/
theorem proj_eq (R : Fin 6144) (o : Fin 1792) : k0_pay1 a0 a2 a1 a3 (ix2 R o) = colF a0 a1 a2 a3 R o := by
  unfold colF
  pointwise [k0_pay1]

theorem pay36_eq : k0_pay36 a0 a1 a2 a3 a4 a5 = k0_pay1 a0 a2 a1 a3 := by
  unfold k0_pay36
  rw [View.ld_unit_zero (S := S6144x12288) Value.hz0 _ a0, View.ld_unit_zero (S := S6144x1) Value.hz1 _ a1, View.ld_unit_zero (S := S12288x1792) Value.hz2 _ a2, View.ld_unit_zero (S := S1x1792) Value.hz3 _ a3]

/-- The head of the queries at column 256. -/
theorem tile2 (p : FVec Ideal S6144x1792 .f32) (hp : ∀ R o, p (ix2 R o) = colF a0 a1 a2 a3 R o) (c s : Vec Ideal S6144x64 .f32) (R : Fin 6144) (l : Fin 128) :
    k0_pay4 p c s (ix2 R l) = ropeF a0 a1 a2 a3 c s 256 (by decide) R l := by
  unfold ropeF
  pointwise [k0_pay4]
  simp only [hp, ← Nat.add_assoc, Nat.reduceAdd, Nat.zero_add]

/-- The head of the queries at column 384. -/
theorem tile3 (p : FVec Ideal S6144x1792 .f32) (hp : ∀ R o, p (ix2 R o) = colF a0 a1 a2 a3 R o) (c s : Vec Ideal S6144x64 .f32) (R : Fin 6144) (l : Fin 128) :
    k0_pay5 p c s (ix2 R l) = ropeF a0 a1 a2 a3 c s 384 (by decide) R l := by
  unfold ropeF
  pointwise [k0_pay5]
  simp only [hp, ← Nat.add_assoc, Nat.reduceAdd, Nat.zero_add]

/-- The head of the queries at column 512. -/
theorem tile4 (p : FVec Ideal S6144x1792 .f32) (hp : ∀ R o, p (ix2 R o) = colF a0 a1 a2 a3 R o) (c s : Vec Ideal S6144x64 .f32) (R : Fin 6144) (l : Fin 128) :
    k0_pay7 (k0_pay6 p c s) (ix2 R l) = ropeF a0 a1 a2 a3 c s 512 (by decide) R l := by
  unfold ropeF
  pointwise [k0_pay7, k0_pay6]
  simp only [hp, ← Nat.add_assoc, Nat.reduceAdd, Nat.zero_add]

/-- The head of the queries at column 640. -/
theorem tile5 (p : FVec Ideal S6144x1792 .f32) (hp : ∀ R o, p (ix2 R o) = colF a0 a1 a2 a3 R o) (c s : Vec Ideal S6144x64 .f32) (R : Fin 6144) (l : Fin 128) :
    k0_pay8 p c s (ix2 R l) = ropeF a0 a1 a2 a3 c s 640 (by decide) R l := by
  unfold ropeF
  pointwise [k0_pay8]
  simp only [hp, ← Nat.add_assoc, Nat.reduceAdd, Nat.zero_add]

/-- The head of the queries at column 768. -/
theorem tile6 (p : FVec Ideal S6144x1792 .f32) (hp : ∀ R o, p (ix2 R o) = colF a0 a1 a2 a3 R o) (c s : Vec Ideal S6144x64 .f32) (R : Fin 6144) (l : Fin 128) :
    k0_pay9 p c s (ix2 R l) = ropeF a0 a1 a2 a3 c s 768 (by decide) R l := by
  unfold ropeF
  pointwise [k0_pay9]
  simp only [hp, ← Nat.add_assoc, Nat.reduceAdd, Nat.zero_add]

/-- The head of the queries at column 896. -/
theorem tile7 (p : FVec Ideal S6144x1792 .f32) (hp : ∀ R o, p (ix2 R o) = colF a0 a1 a2 a3 R o) (c s : Vec Ideal S6144x64 .f32) (R : Fin 6144) (l : Fin 128) :
    k0_pay15 s (k0_pay11 p) (k0_pay13 p c s) (k0_pay14 p c) (ix2 R l) = ropeF a0 a1 a2 a3 c s 896 (by decide) R l := by
  unfold ropeF
  pointwise [k0_pay15, k0_pay14, k0_pay13, k0_pay12, k0_pay11, k0_pay10]
  simp only [hp, ← Nat.add_assoc, Nat.reduceAdd, Nat.zero_add]

/-- The head of the queries at column 1024. -/
theorem tile8 (p : FVec Ideal S6144x1792 .f32) (hp : ∀ R o, p (ix2 R o) = colF a0 a1 a2 a3 R o) (c s : Vec Ideal S6144x64 .f32) (R : Fin 6144) (l : Fin 128) :
    k0_pay16 p c s (ix2 R l) = ropeF a0 a1 a2 a3 c s 1024 (by decide) R l := by
  unfold ropeF
  pointwise [k0_pay16]
  simp only [hp, ← Nat.add_assoc, Nat.reduceAdd, Nat.zero_add]

/-- The head of the queries at column 1152. -/
theorem tile9 (p : FVec Ideal S6144x1792 .f32) (hp : ∀ R o, p (ix2 R o) = colF a0 a1 a2 a3 R o) (c s : Vec Ideal S6144x64 .f32) (R : Fin 6144) (l : Fin 128) :
    k0_pay17 p c s (ix2 R l) = ropeF a0 a1 a2 a3 c s 1152 (by decide) R l := by
  unfold ropeF
  pointwise [k0_pay17]
  simp only [hp, ← Nat.add_assoc, Nat.reduceAdd, Nat.zero_add]

/-- The head of the queries at column 1280. -/
theorem tile10 (p : FVec Ideal S6144x1792 .f32) (hp : ∀ R o, p (ix2 R o) = colF a0 a1 a2 a3 R o) (c s : Vec Ideal S6144x64 .f32) (R : Fin 6144) (l : Fin 128) :
    k0_pay22 c s (k0_pay19 p) (k0_pay20 p) (k0_pay21 p c) (ix2 R l) = ropeF a0 a1 a2 a3 c s 1280 (by decide) R l := by
  unfold ropeF
  pointwise [k0_pay22, k0_pay21, k0_pay20, k0_pay19, k0_pay18]
  simp only [hp, ← Nat.add_assoc, Nat.reduceAdd, Nat.zero_add]

/-- The head of the queries at column 1408. -/
theorem tile11 (p : FVec Ideal S6144x1792 .f32) (hp : ∀ R o, p (ix2 R o) = colF a0 a1 a2 a3 R o) (c s : Vec Ideal S6144x64 .f32) (R : Fin 6144) (l : Fin 128) :
    k0_pay23 p c s (ix2 R l) = ropeF a0 a1 a2 a3 c s 1408 (by decide) R l := by
  unfold ropeF
  pointwise [k0_pay23]
  simp only [hp, ← Nat.add_assoc, Nat.reduceAdd, Nat.zero_add]

/-- The head of the keys. -/
theorem head_k (p : FVec Ideal S6144x1792 .f32) (hp : ∀ R o, p (ix2 R o) = colF a0 a1 a2 a3 R o) (c s : Vec Ideal S6144x64 .f32) (R : Fin 6144) (l : Fin 128) :
    k0_pay24 p c s (ix2 R l) = ropeF a0 a1 a2 a3 c s 1536 (by decide) R l := by
  unfold ropeF
  pointwise [k0_pay24]
  simp only [hp, ← Nat.add_assoc, Nat.reduceAdd, Nat.zero_add]

/-- The head of the queries at column 0. -/
theorem tile0 (c s : Vec Ideal S6144x64 .f32) (R : Fin 6144) (l : Fin 128) :
    k0_pay2 a0 a2 a1 a3 c s (ix2 R l) = ropeF a0 a1 a2 a3 c s 0 (by decide) R l := by
  have hp := proj_eq a0 a1 a2 a3
  unfold ropeF
  pointwise [k0_pay2]
  simp only [hp, ← Nat.add_assoc, Nat.reduceAdd, Nat.zero_add]

/-- The head of the queries at column 128. -/
theorem tile1 (c s : Vec Ideal S6144x64 .f32) (R : Fin 6144) (l : Fin 128) :
    k0_pay3 a0 a2 a1 a3 c s (ix2 R l) = ropeF a0 a1 a2 a3 c s 128 (by decide) R l := by
  have hp := proj_eq a0 a1 a2 a3
  unfold ropeF
  pointwise [k0_pay3]
  simp only [hp, ← Nat.add_assoc, Nat.reduceAdd, Nat.zero_add]

/-- The index a head of the queries at column `o` names, -/
theorem emb_head (o : ℕ) (h : ∀ a, (![0, o] : Fin 2 → ℕ) a + (![6144, 128] : Fin 2 → ℕ) a ≤ S6144x1536.size a) (R : Fin 6144) (l : Fin 128) :
    (Rect.unit (s := S6144x1536) ![0, o] ![6144, 128] h).emb (ix2 R l) = ix2 R ⟨o + l.val, by have := h 1; simp at this; omega⟩ := by
  funext a; fin_cases a
  · apply Fin.ext; simp [Rect.emb, Rect.unit]
  · apply Fin.ext; simp [Rect.emb, Rect.unit]

/-- and what the queries are there. -/
theorem q_head (o : ℕ) (ho : o + 128 ≤ 1536) (hd : o % 128 = 0) (R : Fin 6144) (l : Fin 128) :
    qF a0 a1 a2 a3 a4 a5 (ix2 R ⟨o + l.val, by omega⟩) = ropeF a0 a1 a2 a3 a4 a5 o (by omega) R l := by
  have e1 : (o + l.val) / 128 * 128 = o := by have := l.isLt; omega
  have e2 : (⟨(o + l.val) % 128, Nat.mod_lt _ (by decide)⟩ : Fin 128) = l := Fin.ext (by have := l.isLt; simp only; omega)
  show ropeF a0 a1 a2 a3 a4 a5 ((o + l.val) / 128 * 128) _ R ⟨(o + l.val) % 128, _⟩ = _
  rw [e2]
  congr 1

theorem piece (o : ℕ) (ho : o + 128 ≤ 1536) (hd : o % 128 = 0) (h : ∀ a, (![0, o] : Fin 2 → ℕ) a + (![6144, 128] : Fin 2 → ℕ) a ≤ S6144x1536.size a)
    (v : FVec Ideal S6144x128 .bf16) (hv : ∀ (R : Fin 6144) (l : Fin 128), v (ix2 R l) = ropeF a0 a1 a2 a3 a4 a5 o (by omega) R l)
    (x : (Rect.unit (s := S6144x1536) ![0, o] ![6144, 128] h).shape.Idx) :
    v x = qF a0 a1 a2 a3 a4 a5 ((Rect.unit (s := S6144x1536) ![0, o] ![6144, 128] h).emb x) := by
  obtain ⟨R, l, rfl⟩ : ∃ (R : Fin 6144) (l : Fin 128), x = ix2 R l := ⟨x 0, x 1, eq_ix2 x⟩
  rw [emb_head, q_head a0 a1 a2 a3 a4 a5 o ho hd, hv]

/-- The queries. -/
theorem q_eq : Value.G6 a0 a1 a2 a3 a4 a5 = qF a0 a1 a2 a3 a4 a5 := by
  have hp := proj_eq a0 a1 a2 a3
  rw [← pay36_eq a0 a1 a2 a3 a4 a5] at hp
  refine funext fun y => View.canon_apply_of_pieces _ _ ?_ y (cover0_6 _ _ _ _ _ _ _ _ _ _ _ _ y)
  refine List.forall_mem_cons.mpr ⟨fun x => piece a0 a1 a2 a3 a4 a5 1408 (by decide) (by decide) inb_S6144x1536_S6144x128_0_1408 _ (tile11 a0 a1 a2 a3 _ hp a4 a5) x, ?_⟩
  refine List.forall_mem_cons.mpr ⟨fun x => piece a0 a1 a2 a3 a4 a5 1280 (by decide) (by decide) inb_S6144x1536_S6144x128_0_1280 _ (tile10 a0 a1 a2 a3 _ hp a4 a5) x, ?_⟩
  refine List.forall_mem_cons.mpr ⟨fun x => piece a0 a1 a2 a3 a4 a5 1152 (by decide) (by decide) inb_S6144x1536_S6144x128_0_1152 _ (tile9 a0 a1 a2 a3 _ hp a4 a5) x, ?_⟩
  refine List.forall_mem_cons.mpr ⟨fun x => piece a0 a1 a2 a3 a4 a5 1024 (by decide) (by decide) inb_S6144x1536_S6144x128_0_1024 _ (tile8 a0 a1 a2 a3 _ hp a4 a5) x, ?_⟩
  refine List.forall_mem_cons.mpr ⟨fun x => piece a0 a1 a2 a3 a4 a5 896 (by decide) (by decide) inb_S6144x1536_S6144x128_0_896 _ (tile7 a0 a1 a2 a3 _ hp a4 a5) x, ?_⟩
  refine List.forall_mem_cons.mpr ⟨fun x => piece a0 a1 a2 a3 a4 a5 768 (by decide) (by decide) inb_S6144x1536_S6144x128_0_768 _ (tile6 a0 a1 a2 a3 _ hp a4 a5) x, ?_⟩
  refine List.forall_mem_cons.mpr ⟨fun x => piece a0 a1 a2 a3 a4 a5 640 (by decide) (by decide) inb_S6144x1536_S6144x128_0_640 _ (tile5 a0 a1 a2 a3 _ hp a4 a5) x, ?_⟩
  refine List.forall_mem_cons.mpr ⟨fun x => piece a0 a1 a2 a3 a4 a5 512 (by decide) (by decide) inb_S6144x1536_S6144x128_0_512 _ (tile4 a0 a1 a2 a3 _ hp a4 a5) x, ?_⟩
  refine List.forall_mem_cons.mpr ⟨fun x => piece a0 a1 a2 a3 a4 a5 384 (by decide) (by decide) inb_S6144x1536_S6144x128_0_384 _ (tile3 a0 a1 a2 a3 _ hp a4 a5) x, ?_⟩
  refine List.forall_mem_cons.mpr ⟨fun x => piece a0 a1 a2 a3 a4 a5 256 (by decide) (by decide) inb_S6144x1536_S6144x128_0_256 _ (tile2 a0 a1 a2 a3 _ hp a4 a5) x, ?_⟩
  refine List.forall_mem_cons.mpr ⟨fun x => piece a0 a1 a2 a3 a4 a5 128 (by decide) (by decide) inb_S6144x1536_S6144x128_0_128 _ (tile1 a0 a1 a2 a3 a4 a5) x, ?_⟩
  refine List.forall_mem_cons.mpr ⟨fun x => piece a0 a1 a2 a3 a4 a5 0 (by decide) (by decide) inb_S6144x1536_S6144x128_0_0 _ (tile0 a0 a1 a2 a3 a4 a5) x, ?_⟩
  exact fun _ h => absurd h List.not_mem_nil

/-! The quantisation of a head's rows, step by step. -/

theorem red_row (v : FVec Ideal S6144x128 .f32) (R : Fin 6144) :
    multiReduction .maximumf [1] S6144 v 0xFF800000#32 reduces_S6144x128_S6144 (.inl rfl) rfl (ix1 R) = Finset.fold max (Ideal.ofBits .f32 0xFF800000#32) (fun x => v (ix2 R x)) Finset.univ := by
  pointwise

theorem cast_col (w : FVec Ideal S6144 .f32) (R : Fin 6144) :
    shapeCast S6144x1 w shapeCasts_S6144_S6144x1 (ix2 R 0) = w (ix1 R) := by
  pointwise

theorem cast_row (v : FVec Ideal S6144x1 .f32) (b : Fin 24) (h : Fin 2) (l : Fin 128) :
    shapeCast S24x2x128 v shapeCasts_S6144x1_S24x2x128 (ix3 b h l) = v (ix2 ⟨b.val * 256 + h.val * 128 + l.val, by omega⟩ 0) := by
  pointwise

theorem scale_row (w : FVec Ideal S6144x1 .f32) (R : Fin 6144) (a : Ideal .f32) (ha : w (ix2 R 0) = a) :
    select (cmpf .oeq w (broadcast S6144x1 (Scalar.ofBits .f32 0x00000000#32 : Ideal .f32))) (broadcast S6144x1 (Scalar.ofBits .f32 0x3F800000#32 : Ideal .f32)) (divf w (broadcast S6144x1 (Scalar.ofBits .f32 0x42FE0000#32 : Ideal .f32))) (ix2 R 0)
      = if a = 0 then 1 else Ideal.div a (Ideal.ofBits .f32 0x42FE0000#32) := by
  subst ha
  pointwise

theorem code_row (v : FVec Ideal S6144x128 .f32) (q : FVec Ideal S6144x1 .f32) (R : Fin 6144) (l : Fin 128) :
    fptosi 8 (minimumf (broadcast S6144x128 (Scalar.ofBits .f32 0x42FE0000#32 : Ideal .f32)) (maximumf (broadcast S6144x128 (Scalar.ofBits .f32 0xC2FE0000#32 : Ideal .f32)) (roundeven (divf v (broadcastTo S6144x128 q broadcasts_S6144x1_S6144x128))))) (ix2 R l)
      = FloatOps.fptosi (F := Ideal) (φ := .f32) 8 (min (Ideal.ofBits .f32 0x42FE0000#32) (max (Ideal.ofBits .f32 0xC2FE0000#32)
    (Ideal.liftRound Ideal.roundHalfEven (Ideal.div (v (ix2 R l)) (q (ix2 R 0)))))) := by
  pointwise

/-- The scales of rows, as the program spells them, -/
def scales (v : FVec Ideal S6144x128 .f32) : FVec Ideal S6144x1 .f32 :=
  select (cmpf .oeq (shapeCast S6144x1 (multiReduction .maximumf [1] S6144 (absf v) 0xFF800000#32 reduces_S6144x128_S6144 (.inl rfl) rfl) shapeCasts_S6144_S6144x1) (broadcast S6144x1 (Scalar.ofBits .f32 0x00000000#32 : Ideal .f32)))
    (broadcast S6144x1 (Scalar.ofBits .f32 0x3F800000#32 : Ideal .f32))
    (divf (shapeCast S6144x1 (multiReduction .maximumf [1] S6144 (absf v) 0xFF800000#32 reduces_S6144x128_S6144 (.inl rfl) rfl) shapeCasts_S6144_S6144x1) (broadcast S6144x1 (Scalar.ofBits .f32 0x42FE0000#32 : Ideal .f32)))

theorem scales_eq (v : FVec Ideal S6144x128 .f32) (R : Fin 6144) (f : Fin 128 → Ideal .f32) (hv : ∀ l, v (ix2 R l) = f l) :
    scales v (ix2 R 0) = scaleOf f := by
  unfold scales scaleOf
  refine scale_row _ R _ ?_
  rw [cast_col, red_row]
  have e : (fun x => absf v (ix2 R x)) = fun x => (FloatOps.absf (f x) : Ideal .f32) := funext fun x => congrArg (fun z => (FloatOps.absf z : Ideal .f32)) (hv x)
  rw [e]

/-- and the codes. -/
def codes (v : FVec Ideal S6144x128 .f32) : IVec S6144x128 8 :=
  fptosi 8 (minimumf (broadcast S6144x128 (Scalar.sitofp .f32 127#32 : Ideal .f32)) (maximumf (broadcast S6144x128 (Scalar.sitofp .f32 4294967169#32 : Ideal .f32)) (roundeven (divf v (broadcastTo S6144x128 (scales v) broadcasts_S6144x1_S6144x128)))))

theorem codes_eq (v : FVec Ideal S6144x128 .f32) (R : Fin 6144) (l : Fin 128) (f : Fin 128 → Ideal .f32) (hv : ∀ l, v (ix2 R l) = f l) :
    codes v (ix2 R l) = codeOf f l := by
  unfold codes
  rw [sitofp_127, sitofp_m127]
  refine (code_row v (scales v) R l).trans ?_
  rw [scales_eq v R f hv, hv, div_scale _ _ (scaleOf_ne f)]
  rfl

theorem k_head (p : FVec Ideal S6144x1792 .f32) (hp : ∀ R o, p (ix2 R o) = colF a0 a1 a2 a3 R o) (R : Fin 6144) (l : Fin 128) : k0_pay24 p a4 a5 (ix2 R l) = ropeF a0 a1 a2 a3 a4 a5 1536 (by decide) R l :=
  head_k a0 a1 a2 a3 p hp a4 a5 R l

theorem v_head (p : FVec Ideal S6144x1792 .f32) (hp : ∀ R o, p (ix2 R o) = colF a0 a1 a2 a3 R o) (R : Fin 6144) (l : Fin 128) : k0_pay31 p (ix2 R l) = projF a0 a1 a2 a3 1664 (by decide) R l := by
  unfold projF
  pointwise [k0_pay31]
  exact hp _ _

theorem hp36 (R : Fin 6144) (o : Fin 1792) : k0_pay36 a0 a1 a2 a3 a4 a5 (ix2 R o) = colF a0 a1 a2 a3 R o := by
  rw [pay36_eq]; exact proj_eq a0 a1 a2 a3 R o

/-! The program's spellings are these. -/
theorem kscales_eq (p : FVec Ideal S6144x1792 .f32) (c s : Vec Ideal S6144x64 .f32) :
    k0_pay29 (k0_pay26 p c s) (k0_pay27 p c s) (k0_pay28 (F := Ideal)) = scales (k0_pay24 p c s) := by
  unfold k0_pay29 k0_pay26 k0_pay27 k0_pay28 k0_pay25 scales
  rfl

theorem kcodes_eq (p : FVec Ideal S6144x1792 .f32) (c s : Vec Ideal S6144x64 .f32) :
    k0_pay30 (k0_pay24 p c s) (k0_pay26 p c s) (k0_pay27 p c s) (k0_pay28 (F := Ideal)) = codes (k0_pay24 p c s) := by
  unfold k0_pay30 codes
  rw [kscales_eq]

theorem vscales_eq (p : FVec Ideal S6144x1792 .f32) : k0_pay32 p = scales (k0_pay31 p) := by
  unfold k0_pay32 scales
  rfl

theorem vcodes_eq (p : FVec Ideal S6144x1792 .f32) : k0_pay33 p = codes (k0_pay31 p) := by
  unfold k0_pay33 codes
  rw [vscales_eq]

theorem pay37_eq : k0_pay37 a0 a1 a2 a3 a4 a5 = k0_pay26 (k0_pay36 a0 a1 a2 a3 a4 a5) a4 a5 := by
  unfold k0_pay37
  rw [View.ld_unit_zero (S := S6144x64) Value.hz4 _ a4, View.ld_unit_zero (S := S6144x64) Value.hz5 _ a5]
theorem pay38_eq : k0_pay38 a0 a1 a2 a3 a4 a5 = k0_pay27 (k0_pay36 a0 a1 a2 a3 a4 a5) a4 a5 := by
  unfold k0_pay38
  rw [View.ld_unit_zero (S := S6144x64) Value.hz4 _ a4, View.ld_unit_zero (S := S6144x64) Value.hz5 _ a5]
theorem pay39_eq : k0_pay39 a0 a1 a2 a3 a4 a5 = k0_pay28 (F := Ideal) := by
  unfold k0_pay39
  rfl

/-- The row a scale of a block of rows belongs to. -/
theorem row_eq (b : Fin 24) (h : Fin 2) (l : Fin 128) :
    (⟨b.val * 256 + h.val * 128 + l.val, by omega⟩ : Fin 6144) = ⟨256 * b.val + 128 * h.val + l.val, by omega⟩ := Fin.ext (by simp only; omega)

/-- The keys' codes, -/
theorem kc_eq : Value.G7 a0 a1 a2 a3 a4 a5 = kcF a0 a1 a2 a3 a4 a5 := by
  funext y
  obtain ⟨R, l, rfl⟩ : ∃ (R : Fin 6144) (l : Fin 128), y = ix2 R l := ⟨y 0, y 1, eq_ix2 y⟩
  unfold Value.G7
  rw [pay37_eq, pay38_eq, pay39_eq, kcodes_eq]
  exact codes_eq _ R l _ (k_head a0 a1 a2 a3 a4 a5 _ (hp36 a0 a1 a2 a3 a4 a5) R)

/-- and scales; -/
theorem ks_eq : Value.G8 a0 a1 a2 a3 a4 a5 = ksF a0 a1 a2 a3 a4 a5 := by
  funext y
  obtain ⟨b, h, l, rfl⟩ : ∃ (b : Fin 24) (h : Fin 2) (l : Fin 128), y = ix3 b h l := ⟨y 0, y 1, y 2, eq_ix3 y⟩
  unfold Value.G8 k0_pay34
  rw [pay37_eq, pay38_eq, pay39_eq, kscales_eq]
  refine (cast_row _ b h l).trans ?_
  rw [row_eq]
  exact scales_eq _ _ _ (k_head a0 a1 a2 a3 a4 a5 _ (hp36 a0 a1 a2 a3 a4 a5) _)

/-- the values' codes, -/
theorem vc_eq : Value.G9 a0 a1 a2 a3 a4 a5 = vcF a0 a1 a2 a3 := by
  funext y
  obtain ⟨R, l, rfl⟩ : ∃ (R : Fin 6144) (l : Fin 128), y = ix2 R l := ⟨y 0, y 1, eq_ix2 y⟩
  unfold Value.G9
  rw [vcodes_eq]
  exact codes_eq _ R l _ (v_head a0 a1 a2 a3 _ (hp36 a0 a1 a2 a3 a4 a5) R)

/-- and scales. -/
theorem vs_eq : Value.G10 a0 a1 a2 a3 a4 a5 = vsF a0 a1 a2 a3 := by
  funext y
  obtain ⟨b, h, l, rfl⟩ : ∃ (b : Fin 24) (h : Fin 2) (l : Fin 128), y = ix3 b h l := ⟨y 0, y 1, y 2, eq_ix3 y⟩
  unfold Value.G10 k0_pay35
  rw [vscales_eq]
  refine (cast_row _ b h l).trans ?_
  rw [row_eq]
  exact scales_eq _ _ _ (v_head a0 a1 a2 a3 _ (hp36 a0 a1 a2 a3 a4 a5) _)

end

end Cert.QkvReferenceIdeal.Proj

end
-- ==== Proof.lean ====
/- The two projections, over the reals: kernel and plain program end with their results at the same closed forms of the
   arguments (`Cert.KernelIdeal.Send.sendF`; `Cert.QkvIdeal.Proj.qF`, `kcF`, `ksF`, `vcF`, `vsF`), their arguments
   unchanged and every counter at zero. -/
module

public import proofs.«01_k».proof.Defs
public import proofs.«01_k».proof.Proof.Words.Frame
public import proofs.«01_k».proof.Proof.Gen.ReferenceIdeal.Frame
public import proofs.«01_k».proof.Proof.Gen.ReferenceIdeal.Value
public import proofs.«01_k».proof.Proof.Send.Frame
public import proofs.«01_k».proof.Proof.Send.Value
public import proofs.«01_k».proof.Proof.QkvWords.Frame
public import proofs.«01_k».proof.Proof.Qkv.Frame
public import proofs.«01_k».proof.Proof.Qkv.Value
public import proofs.«01_k».proof.Proof.Qkv.Ref
public import proofs.«01_k».proof.Proof.Gen.QkvReferenceIdeal.Frame
public import proofs.«01_k».proof.Proof.Gen.QkvReferenceIdeal.Value
public import Idealize.ShloMosaic.Adequacy
public import Idealize.ShloMosaic.Init

@[expose] public section

noncomputable section

namespace Cert.Proof

open Idealize.ShloMosaic Idealize.SL.Sem

/-- The kernel and the plain program end with the same result over the reals. -/
theorem algebraic : Cert.algebraic_KernelIdeal_ReferenceIdeal := by
  intro m g m' g' _ hagree
  refine ⟨fun c => Cert.KernelIdeal.Send.sendF _ _ _ _ _, Cert.KernelIdeal.Send.run m g, ?_⟩
  refine (θ_run Cert.ReferenceIdeal.defs _ _).mono (fun r h c => ?_) (Cert.ReferenceIdeal.Value.run m' g')
  obtain ⟨hv, hu⟩ := h c
  obtain ⟨e0, e1, e2, e3, e4⟩ := hagree c
  refine ⟨hv.trans ?_, hu⟩
  rw [e0, e1, e2, e3, e4]
  exact Cert.ReferenceIdeal.Send.pay_eq _ _ _ _ _

/-- And of the query/key/value projection. -/
theorem algebraic_qkv : Cert.algebraic_QkvIdeal_QkvReferenceIdeal := by
  intro m g m' g' _ hagree
  refine ⟨fun c => Cert.QkvIdeal.Proj.qF _ _ _ _ _ _, fun c => Cert.QkvIdeal.Proj.kcF _ _ _ _ _ _,
    fun c => Cert.QkvIdeal.Proj.ksF _ _ _ _ _ _, fun c => Cert.QkvIdeal.Proj.vcF _ _ _ _,
    fun c => Cert.QkvIdeal.Proj.vsF _ _ _ _, Cert.QkvIdeal.Proj.run m g, ?_⟩
  refine (θ_run Cert.QkvReferenceIdeal.defs _ _).mono (fun r h c => ?_) (Cert.QkvReferenceIdeal.Value.run m' g')
  obtain ⟨h6, h7, h8, h9, h10, hu⟩ := h c
  obtain ⟨e0, e1, e2, e3, e4, e5⟩ := hagree c
  refine ⟨h6.trans ?_, h7.trans ?_, h8.trans ?_, h9.trans ?_, h10.trans ?_, hu⟩
  · rw [e0, e1, e2, e3, e4, e5]; exact Cert.QkvReferenceIdeal.Proj.q_eq _ _ _ _ _ _
  · rw [e0, e1, e2, e3, e4, e5]; exact Cert.QkvReferenceIdeal.Proj.kc_eq _ _ _ _ _ _
  · rw [e0, e1, e2, e3, e4, e5]; exact Cert.QkvReferenceIdeal.Proj.ks_eq _ _ _ _ _ _
  · rw [e0, e1, e2, e3, e4, e5]; exact Cert.QkvReferenceIdeal.Proj.vc_eq _ _ _ _ _ _
  · rw [e0, e1, e2, e3, e4, e5]; exact Cert.QkvReferenceIdeal.Proj.vs_eq _ _ _ _ _ _

theorem claim : Cert.Claim :=
  ⟨Cert.Kernel.Gen.facts, Cert.KernelIdeal.Gen.facts, Cert.ReferenceIdeal.Gen.facts,
    Cert.Qkv.Gen.facts, Cert.QkvIdeal.Gen.facts, Cert.QkvReferenceIdeal.Gen.facts,
    fun m ρ _ => Cert.Kernel.Words.frame m ρ, fun m ρ _ => Cert.KernelIdeal.Send.frame m ρ,
    fun m ρ _ => Cert.ReferenceIdeal.Gen.frame m ρ,
    fun m ρ _ => Cert.Qkv.Words.frame m ρ, fun m ρ _ => Cert.QkvIdeal.Proj.frame m ρ,
    fun m ρ _ => Cert.QkvReferenceIdeal.Gen.frame m ρ, trivial, algebraic, trivial, algebraic_qkv⟩

end Cert.Proof

end
